-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S10x10 : Shape := ⟨2, ![10, 10]⟩
abbrev S10 : Shape := ⟨1, ![10]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S4x4096x3 .f32) (main_arg1 : FVec F S10x10 .f32) (main_arg2 : FVec F S10 .f32) (main_arg3 : FVec F S10 .f32) (main_arg4 : FVec F S10x10 .f32) (main_arg5 : FVec F S10 .f32) (main_arg6 : FVec F S10 .f32) (main_arg7 : FVec F S10 .f32) (main_arg8 : FVec F S10x10 .f32) (main_arg9 : FVec F S10 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S10 .f32 := Host.absf main_arg2
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S10 .f32 := Host.absf main_arg6
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S4x4096x3 : Shape := ⟨3, ![4, 4096, 3]⟩
abbrev S10x10 : Shape := ⟨2, ![10, 10]⟩
abbrev S10 : Shape := ⟨1, ![10]⟩
abbrev S4x3x4096 : Shape := ⟨3, ![4, 3, 4096]⟩
abbrev S4x10x8x4096 : Shape := ⟨4, ![4, 10, 8, 4096]⟩
abbrev S16x128 : Shape := ⟨2, ![16, 128]⟩
abbrev S1x4096x3 : Shape := ⟨3, ![1, 4096, 3]⟩
abbrev S1x3x4096 : Shape := ⟨3, ![1, 3, 4096]⟩
abbrev S1x3x256 : Shape := ⟨3, ![1, 3, 256]⟩
abbrev S1x10x8x256 : Shape := ⟨4, ![1, 10, 8, 256]⟩
abbrev S1x4096x1 : Shape := ⟨3, ![1, 4096, 1]⟩
abbrev S4096x1 : Shape := ⟨2, ![4096, 1]⟩
abbrev S1x1x256 : Shape := ⟨3, ![1, 1, 256]⟩
abbrev S1x256 : Shape := ⟨2, ![1, 256]⟩
abbrev S4096x3 : Shape := ⟨2, ![4096, 3]⟩
abbrev S3x256 : Shape := ⟨2, ![3, 256]⟩
abbrev S4096x256 : Shape := ⟨2, ![4096, 256]⟩
abbrev S1x1x4096 : Shape := ⟨3, ![1, 1, 4096]⟩
abbrev S1x4096 : Shape := ⟨2, ![1, 4096]⟩
abbrev S12x4096 : Shape := ⟨2, ![12, 4096]⟩
abbrev S256 : Shape := ⟨1, ![256]⟩
abbrev S12x256 : Shape := ⟨2, ![12, 256]⟩
abbrev S1 : Shape := ⟨1, ![1]⟩
abbrev S1x1x1 : Shape := ⟨3, ![1, 1, 1]⟩
abbrev S8x256 : Shape := ⟨2, ![8, 256]⟩
abbrev S1x1x8x256 : Shape := ⟨4, ![1, 1, 8, 256]⟩
abbrev S1x1 : Shape := ⟨2, ![1, 1]⟩
abbrev S1x8x256 : Shape := ⟨3, ![1, 8, 256]⟩
abbrev S10x1 : Shape := ⟨2, ![10, 1]⟩
abbrev S_ : Shape := ⟨0, ![]⟩
abbrev S1x10 : Shape := ⟨2, ![1, 10]⟩
abbrev S2x10 : Shape := ⟨2, ![2, 10]⟩
abbrev S4x10x4096 : Shape := ⟨3, ![4, 10, 4096]⟩
abbrev S1x10x256 : Shape := ⟨3, ![1, 10, 256]⟩

abbrev nBuf : Space → Nat
  | .hbm => 62
  | .vmem => 28
  | .smem => 0
  | _ => 0

abbrev bufTy : (tb : Table) → Fin (tcTables nBuf tb) → BufTy
  | .hbm, ⟨0, _⟩ => ⟨S4x4096x3, .f32⟩
  | .hbm, ⟨1, _⟩ => ⟨S10x10, .f32⟩
  | .hbm, ⟨2, _⟩ => ⟨S10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S4x3x4096, .f32⟩
  | .hbm, ⟨11, _⟩ => ⟨S4x10x8x4096, .f32⟩
  | .hbm, ⟨12, _⟩ => ⟨S16x128, .f32⟩
  | .hbm, ⟨13, _⟩ => ⟨S10x1, .f32⟩
  | .hbm, ⟨14, _⟩ => ⟨S10, .f32⟩
  | .hbm, ⟨15, _⟩ => ⟨S10x1, .f32⟩
  | .hbm, ⟨16, _⟩ => ⟨S10, .f32⟩
  | .hbm, ⟨17, _⟩ => ⟨S_, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S10, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S1x10, .f32⟩
  | .hbm, ⟨33, _⟩ => ⟨S1x10, .f32⟩
  | .hbm, ⟨34, _⟩ => ⟨S2x10, .f32⟩
  | .hbm, ⟨35, _⟩ => ⟨S1x10, .f32⟩
  | .hbm, ⟨36, _⟩ => ⟨S16x128, .f32⟩
  | .hbm, ⟨37, _⟩ => ⟨S10x1, .f32⟩
  | .hbm, ⟨38, _⟩ => ⟨S10, .f32⟩
  | .hbm, ⟨39, _⟩ => ⟨S10x1, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S10, .f32⟩
  | .hbm, ⟨54, _⟩ => ⟨S10, .f32⟩
  | .hbm, ⟨55, _⟩ => ⟨S10, .f32⟩
  | .hbm, ⟨56, _⟩ => ⟨S1x10, .f32⟩
  | .hbm, ⟨57, _⟩ => ⟨S1x10, .f32⟩
  | .hbm, ⟨58, _⟩ => ⟨S2x10, .f32⟩
  | .hbm, ⟨59, _⟩ => ⟨S1x10, .f32⟩
  | .hbm, ⟨60, _⟩ => ⟨S1x10, .f32⟩
  | .hbm, ⟨61, _⟩ => ⟨S4x10x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x3x256, .f32⟩
  | .local _ .vmem, ⟨5, _⟩ => ⟨S1x3x256, .f32⟩
  | .local _ .vmem, ⟨6, _⟩ => ⟨S10x10, .f32⟩
  | .local _ .vmem, ⟨7, _⟩ => ⟨S1x10x8x256, .f32⟩
  | .local _ .vmem, ⟨8, _⟩ => ⟨S1x10x8x256, .f32⟩
  | .local _ .vmem, ⟨9, _⟩ => ⟨S16x128, .f32⟩
  | .local _ .vmem, ⟨10, _⟩ => ⟨S1x10x8x256, .f32⟩
  | .local _ .vmem, ⟨11, _⟩ => ⟨S1x10x8x256, .f32⟩
  | .local _ .vmem, ⟨12, _⟩ => ⟨S10x10, .f32⟩
  | .local _ .vmem, ⟨13, _⟩ => ⟨S2x10, .f32⟩
  | .local _ .vmem, ⟨14, _⟩ => ⟨S10x10, .f32⟩
  | .local _ .vmem, ⟨15, _⟩ => ⟨S1x10, .f32⟩
  | .local _ .vmem, ⟨16, _⟩ => ⟨S16x128, .f32⟩
  | .local _ .vmem, ⟨17, _⟩ => ⟨S1x10x8x256, .f32⟩
  | .local _ .vmem, ⟨18, _⟩ => ⟨S1x10x8x256, .f32⟩
  | .local _ .vmem, ⟨19, _⟩ => ⟨S10x10, .f32⟩
  | .local _ .vmem, ⟨20, _⟩ => ⟨S2x10, .f32⟩
  | .local _ .vmem, ⟨21, _⟩ => ⟨S10x10, .f32⟩
  | .local _ .vmem, ⟨22, _⟩ => ⟨S1x10, .f32⟩
  | .local _ .vmem, ⟨23, _⟩ => ⟨S2x10, .f32⟩
  | .local _ .vmem, ⟨24, _⟩ => ⟨S10x10, .f32⟩
  | .local _ .vmem, ⟨25, _⟩ => ⟨S1x10, .f32⟩
  | .local _ .vmem, ⟨26, _⟩ => ⟨S1x10x256, .f32⟩
  | .local _ .vmem, ⟨27, _⟩ => ⟨S1x10x256, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S10x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x10x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x10x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S10x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![4, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x10x8x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S10x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S10x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x10x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]
-- ==== ReferenceIdeal.lean ====
abbrev S4x4096x3 : Shape := ⟨3, ![4, 4096, 3]⟩
abbrev S10x10 : Shape := ⟨2, ![10, 10]⟩
abbrev S10 : Shape := ⟨1, ![10]⟩
abbrev S3 : Shape := ⟨1, ![3]⟩
abbrev S4x3x4096 : Shape := ⟨3, ![4, 3, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x9 : Shape := ⟨3, ![4, 4096, 9]⟩
abbrev S4x4096x9x1 : Shape := ⟨4, ![4, 4096, 9, 1]⟩
abbrev S4x4096x9x3 : Shape := ⟨4, ![4, 4096, 9, 3]⟩
abbrev S4x4096x8x3 : Shape := ⟨4, ![4, 4096, 8, 3]⟩
abbrev S4x4096x1x3 : Shape := ⟨4, ![4, 4096, 1, 3]⟩
abbrev S4x4096x8 : Shape := ⟨3, ![4, 4096, 8]⟩
abbrev S4x4096x8x1 : Shape := ⟨4, ![4, 4096, 8, 1]⟩
abbrev S1 : Shape := ⟨1, ![1]⟩
abbrev S1x1x1x1 : Shape := ⟨4, ![1, 1, 1, 1]⟩
abbrev S4x4096x8x1x3 : Shape := ⟨5, ![4, 4096, 8, 1, 3]⟩
abbrev S4x4096x7x1x3 : Shape := ⟨5, ![4, 4096, 7, 1, 3]⟩
abbrev S4x4096x1x1x3 : Shape := ⟨5, ![4, 4096, 1, 1, 3]⟩
abbrev S4x4096x8x3x3 : Shape := ⟨5, ![4, 4096, 8, 3, 3]⟩
abbrev S4x4096x1x1 : Shape := ⟨4, ![4, 4096, 1, 1]⟩
abbrev S8 : Shape := ⟨1, ![8]⟩
abbrev S1x1x8 : Shape := ⟨3, ![1, 1, 8]⟩
abbrev S4x4096x1x3x1 : Shape := ⟨5, ![4, 4096, 1, 3, 1]⟩
abbrev S1x1x1x1x1 : Shape := ⟨5, ![1, 1, 1, 1, 1]⟩
abbrev S4x4096x8x10 : Shape := ⟨4, ![4, 4096, 8, 10]⟩
abbrev S4x10x8x4096 : Shape := ⟨4, ![4, 10, 8, 4096]⟩
abbrev S10x4x8x4096 : Shape := ⟨4, ![10, 4, 8, 4096]⟩
abbrev S1x10x1x1 : Shape := ⟨4, ![1, 10, 1, 1]⟩
abbrev S4x10x4096 : Shape := ⟨3, ![4, 10, 4096]⟩

abbrev nBuf : Space → Nat
  | .hbm => 467
  | .vmem => 0
  | .smem => 0
  | _ => 0

abbrev hbmTy0_0 (i : Nat) : BufTy := match i % 128 with
  | 0 => ⟨S4x4096x3, .f32⟩
  | 1 => ⟨S10x10, .f32⟩
  | 2 => ⟨S10, .f32⟩
  | 3 => ⟨S10, .f32⟩
  | 4 => ⟨S10x10, .f32⟩
  | 5 => ⟨S10, .f32⟩
  | 6 => ⟨S10, .f32⟩
  | 7 => ⟨S10, .f32⟩
  | 8 => ⟨S10x10, .f32⟩
  | 9 => ⟨S10, .f32⟩
  | 10 => ⟨S3, .f32⟩
  | 11 => ⟨S4x3x4096, .f32⟩
  | 12 => ⟨S4x4096x4096, .f32⟩
  | 13 => ⟨S_, .f32⟩
  | 14 => ⟨S4x4096x4096, .f32⟩
  | 15 => ⟨S4x4096x4096, .f32⟩
  | 16 => ⟨S4x4096x3, .f32⟩
  | 17 => ⟨S_, .f32⟩
  | 18 => ⟨S4x4096, .f32⟩
  | 19 => ⟨S4x4096x1, .f32⟩
  | 20 => ⟨S4x4096x4096, .f32⟩
  | 21 => ⟨S4x4096x4096, .f32⟩
  | 22 => ⟨S4x4096x3, .f32⟩
  | 23 => ⟨S_, .f32⟩
  | 24 => ⟨S4x4096, .f32⟩
  | 25 => ⟨S4x1x4096, .f32⟩
  | 26 => ⟨S4x4096x4096, .f32⟩
  | 27 => ⟨S4x4096x4096, .f32⟩
  | 28 => ⟨S4x4096x4096, .i32⟩
  | 29 => ⟨S4x4096x4096, .f32⟩
  | 30 => ⟨S4x4096x4096, .i32⟩
  | 31 => ⟨S4x4096x9, .i32⟩
  | 32 => ⟨S_, .i32⟩
  | 33 => ⟨S4x4096x9, .i32⟩
  | 34 => ⟨S4x4096x9, .i1⟩
  | 35 => ⟨S_, .i32⟩
  | 36 => ⟨S4x4096x9, .i32⟩
  | 37 => ⟨S4x4096x9, .i32⟩
  | 38 => ⟨S4x4096x9, .i32⟩
  | 39 => ⟨S4x4096x9x1, .i32⟩
  | 40 => ⟨S4x4096x9x3, .f32⟩
  | 41 => ⟨S4x4096x8x3, .f32⟩
  | 42 => ⟨S4x4096x1x3, .f32⟩
  | 43 => ⟨S4x4096x8x3, .f32⟩
  | 44 => ⟨S4x4096x8x3, .f32⟩
  | 45 => ⟨S4x4096x8x3, .f32⟩
  | 46 => ⟨S_, .f32⟩
  | 47 => ⟨S4x4096x8, .f32⟩
  | 48 => ⟨S4x4096x8x1, .f32⟩
  | 49 => ⟨S_, .f32⟩
  | 50 => ⟨S4x4096x8x1, .f32⟩
  | 51 => ⟨S4x4096x8x1, .f32⟩
  | 52 => ⟨S4x4096x8x1, .f32⟩
  | 53 => ⟨S4x4096x8x1, .f32⟩
  | 54 => ⟨S_, .f32⟩
  | 55 => ⟨S4x4096x8x1, .f32⟩
  | 56 => ⟨S4x4096x8x1, .f32⟩
  | 57 => ⟨S4x4096x8x1, .f32⟩
  | 58 => ⟨S_, .f32⟩
  | 59 => ⟨S_, .f32⟩
  | 60 => ⟨S_, .f32⟩
  | 61 => ⟨S4x4096x8x1, .f32⟩
  | 62 => ⟨S4x4096x8x1, .f32⟩
  | 63 => ⟨S_, .f32⟩
  | 64 => ⟨S4x4096x8x1, .f32⟩
  | 65 => ⟨S4x4096x8x1, .f32⟩
  | 66 => ⟨S4x4096x8x1, .f32⟩
  | 67 => ⟨S4x4096x8x1, .f32⟩
  | 68 => ⟨S4x4096x8x1, .f32⟩
  | 69 => ⟨S4x4096x8x1, .f32⟩
  | 70 => ⟨S_, .f32⟩
  | 71 => ⟨S4x4096x8x1, .f32⟩
  | 72 => ⟨S4x4096x8x1, .i1⟩
  | 73 => ⟨S4x4096x8x1, .f32⟩
  | 74 => ⟨S_, .f32⟩
  | 75 => ⟨S4x4096x8x1, .f32⟩
  | 76 => ⟨S4x4096x8x1, .f32⟩
  | 77 => ⟨S4x4096x8x1, .f32⟩
  | 78 => ⟨S4x4096x8x1, .f32⟩
  | 79 => ⟨S4x4096x8x1, .f32⟩
  | 80 => ⟨S4x4096x8x1, .f32⟩
  | 81 => ⟨S4x4096x8x1, .f32⟩
  | 82 => ⟨S_, .f32⟩
  | 83 => ⟨S4x4096x8x1, .f32⟩
  | 84 => ⟨S4x4096x8x1, .i1⟩
  | 85 => ⟨S4x4096x8x1, .f32⟩
  | 86 => ⟨S_, .f32⟩
  | 87 => ⟨S4x4096x8x1, .f32⟩
  | 88 => ⟨S4x4096x8x1, .f32⟩
  | 89 => ⟨S4x4096x8x1, .f32⟩
  | 90 => ⟨S4x4096x8x1, .f32⟩
  | 91 => ⟨S4x4096x8x1, .f32⟩
  | 92 => ⟨S_, .f32⟩
  | 93 => ⟨S4x4096x8x1, .f32⟩
  | 94 => ⟨S4x4096x8x1, .f32⟩
  | 95 => ⟨S_, .f32⟩
  | 96 => ⟨S4x4096x8x1, .f32⟩
  | 97 => ⟨S4x4096x8x1, .f32⟩
  | 98 => ⟨S_, .f32⟩
  | 99 => ⟨S4x4096x8x1, .f32⟩
  | 100 => ⟨S4x4096x8x1, .f32⟩
  | 101 => ⟨S4x4096x8x3, .f32⟩
  | 102 => ⟨S4x4096x8x1, .f32⟩
  | 103 => ⟨S4x4096x8, .f32⟩
  | 104 => ⟨S4x4096x8, .i32⟩
  | 105 => ⟨S4x4096x8, .f32⟩
  | 106 => ⟨S4x4096x8, .i32⟩
  | 107 => ⟨S4x4096x8x1, .i32⟩
  | 108 => ⟨S_, .i32⟩
  | 109 => ⟨S4x4096x8x1, .i32⟩
  | 110 => ⟨S4x4096x8x1, .i1⟩
  | 111 => ⟨S_, .i32⟩
  | 112 => ⟨S4x4096x8x1, .i32⟩
  | 113 => ⟨S4x4096x8x1, .i32⟩
  | 114 => ⟨S4x4096x8x1, .i32⟩
  | 115 => ⟨S1, .i32⟩
  | 116 => ⟨S_, .i32⟩
  | 117 => ⟨S4x4096x8x1, .i32⟩
  | 118 => ⟨S4x4096x8x1, .i1⟩
  | 119 => ⟨S1x1x1x1, .i32⟩
  | 120 => ⟨S4x4096x8x1, .i32⟩
  | 121 => ⟨S4x4096x8x1, .i1⟩
  | 122 => ⟨S4x4096x8x1, .i1⟩
  | 123 => ⟨S_, .i1⟩
  | 124 => ⟨S4x4096x8, .i1⟩
  | 125 => ⟨S4x4096x8x3, .f32⟩
  | 126 => ⟨S4x4096x8x3, .i1⟩
  | 127 => ⟨S_, .f32⟩
  | _ => ⟨S4x4096x3, .f32⟩

abbrev hbmTy0_1 (i : Nat) : BufTy := match i % 128 with
  | 0 => ⟨S4x4096x8x3, .f32⟩
  | 1 => ⟨S4x4096x8x3, .f32⟩
  | 2 => ⟨S4x4096x8x1x3, .f32⟩
  | 3 => ⟨S4x4096x7x1x3, .f32⟩
  | 4 => ⟨S4x4096x1x1x3, .f32⟩
  | 5 => ⟨S4x4096x8x1x3, .f32⟩
  | 6 => ⟨S_, .f32⟩
  | 7 => ⟨S4x4096x8x1x3, .f32⟩
  | 8 => ⟨S4x4096x8x3x3, .f32⟩
  | 9 => ⟨S4x4096x8x1x3, .f32⟩
  | 10 => ⟨S4x4096x8x3, .f32⟩
  | 11 => ⟨S4x4096x8x1x3, .f32⟩
  | 12 => ⟨S4x4096x8x3, .f32⟩
  | 13 => ⟨S4x4096x8x3, .f32⟩
  | 14 => ⟨S4x4096x8x1x3, .f32⟩
  | 15 => ⟨S4x4096x8x3, .f32⟩
  | 16 => ⟨S4x4096x8x1x3, .f32⟩
  | 17 => ⟨S4x4096x8x3, .f32⟩
  | 18 => ⟨S4x4096x8x3, .f32⟩
  | 19 => ⟨S4x4096x8x1, .f32⟩
  | 20 => ⟨S4x4096x8x1, .f32⟩
  | 21 => ⟨S4x4096x8x1, .f32⟩
  | 22 => ⟨S4x4096x8x1, .f32⟩
  | 23 => ⟨S4x4096x8x1, .f32⟩
  | 24 => ⟨S4x4096x8x1, .f32⟩
  | 25 => ⟨S4x4096x8x1, .f32⟩
  | 26 => ⟨S4x4096x8x1, .f32⟩
  | 27 => ⟨S4x4096x8x1, .f32⟩
  | 28 => ⟨S4x4096x8x1, .f32⟩
  | 29 => ⟨S4x4096x8x1, .f32⟩
  | 30 => ⟨S4x4096x8x1, .f32⟩
  | 31 => ⟨S4x4096x8x1, .f32⟩
  | 32 => ⟨S4x4096x8x1, .f32⟩
  | 33 => ⟨S4x4096x8x1, .f32⟩
  | 34 => ⟨S4x4096x8x3, .f32⟩
  | 35 => ⟨S4x4096x8x3, .f32⟩
  | 36 => ⟨S_, .f32⟩
  | 37 => ⟨S4x4096x8, .f32⟩
  | 38 => ⟨S4x4096x8x1, .f32⟩
  | 39 => ⟨S4x4096x8x1, .f32⟩
  | 40 => ⟨S_, .f32⟩
  | 41 => ⟨S4x4096x8x1, .f32⟩
  | 42 => ⟨S4x4096x8x1, .i1⟩
  | 43 => ⟨S_, .f32⟩
  | 44 => ⟨S4x4096x8x1, .f32⟩
  | 45 => ⟨S4x4096x8x1, .f32⟩
  | 46 => ⟨S4x4096x8x3, .f32⟩
  | 47 => ⟨S4x4096x8x3, .f32⟩
  | 48 => ⟨S4x4096x1x1, .f32⟩
  | 49 => ⟨S4x4096x1, .f32⟩
  | 50 => ⟨S_, .f32⟩
  | 51 => ⟨S4x4096x1, .f32⟩
  | 52 => ⟨S4x4096x1, .i1⟩
  | 53 => ⟨S4x4096x1, .f32⟩
  | 54 => ⟨S_, .f32⟩
  | 55 => ⟨S4x4096x1, .f32⟩
  | 56 => ⟨S4x4096x1, .f32⟩
  | 57 => ⟨S_, .f32⟩
  | 58 => ⟨S4x4096x1, .f32⟩
  | 59 => ⟨S4x4096x1, .f32⟩
  | 60 => ⟨S4x4096x1x1, .f32⟩
  | 61 => ⟨S4x4096x8x3, .f32⟩
  | 62 => ⟨S4x4096x8x3, .f32⟩
  | 63 => ⟨S_, .f32⟩
  | 64 => ⟨S4x4096x8x3, .f32⟩
  | 65 => ⟨S_, .f32⟩
  | 66 => ⟨S4x4096x8x3, .f32⟩
  | 67 => ⟨S4x4096x8x3, .f32⟩
  | 68 => ⟨S4x4096x8x3, .f32⟩
  | 69 => ⟨S_, .f32⟩
  | 70 => ⟨S4x4096x8, .f32⟩
  | 71 => ⟨S4x4096x8x1, .f32⟩
  | 72 => ⟨S_, .f32⟩
  | 73 => ⟨S4x4096x8x1, .f32⟩
  | 74 => ⟨S4x4096x8x1, .f32⟩
  | 75 => ⟨S4x4096x8x1, .f32⟩
  | 76 => ⟨S4x4096x8x1, .f32⟩
  | 77 => ⟨S_, .f32⟩
  | 78 => ⟨S4x4096x8x1, .f32⟩
  | 79 => ⟨S4x4096x8x1, .f32⟩
  | 80 => ⟨S4x4096x8x1, .f32⟩
  | 81 => ⟨S_, .f32⟩
  | 82 => ⟨S_, .f32⟩
  | 83 => ⟨S_, .f32⟩
  | 84 => ⟨S4x4096x8x1, .f32⟩
  | 85 => ⟨S4x4096x8x1, .f32⟩
  | 86 => ⟨S_, .f32⟩
  | 87 => ⟨S4x4096x8x1, .f32⟩
  | 88 => ⟨S4x4096x8x1, .f32⟩
  | 89 => ⟨S4x4096x8x1, .f32⟩
  | 90 => ⟨S4x4096x8x1, .f32⟩
  | 91 => ⟨S4x4096x8x1, .f32⟩
  | 92 => ⟨S4x4096x8x1, .f32⟩
  | 93 => ⟨S_, .f32⟩
  | 94 => ⟨S4x4096x8x1, .f32⟩
  | 95 => ⟨S4x4096x8x1, .i1⟩
  | 96 => ⟨S4x4096x8x1, .f32⟩
  | 97 => ⟨S_, .f32⟩
  | 98 => ⟨S4x4096x8x1, .f32⟩
  | 99 => ⟨S4x4096x8x1, .f32⟩
  | 100 => ⟨S4x4096x8x1, .f32⟩
  | 101 => ⟨S4x4096x8x1, .f32⟩
  | 102 => ⟨S4x4096x8x1, .f32⟩
  | 103 => ⟨S4x4096x8x1, .f32⟩
  | 104 => ⟨S4x4096x8x1, .f32⟩
  | 105 => ⟨S_, .f32⟩
  | 106 => ⟨S4x4096x8x1, .f32⟩
  | 107 => ⟨S4x4096x8x1, .i1⟩
  | 108 => ⟨S4x4096x8x1, .f32⟩
  | 109 => ⟨S_, .f32⟩
  | 110 => ⟨S4x4096x8x1, .f32⟩
  | 111 => ⟨S4x4096x8x1, .f32⟩
  | 112 => ⟨S4x4096x8x1, .f32⟩
  | 113 => ⟨S4x4096x8x1, .f32⟩
  | 114 => ⟨S4x4096x8x1, .f32⟩
  | 115 => ⟨S_, .f32⟩
  | 116 => ⟨S4x4096x8x1, .f32⟩
  | 117 => ⟨S4x4096x8x1, .f32⟩
  | 118 => ⟨S_, .f32⟩
  | 119 => ⟨S4x4096x8x1, .f32⟩
  | 120 => ⟨S4x4096x8x1, .f32⟩
  | 121 => ⟨S_, .f32⟩
  | 122 => ⟨S4x4096x8x1, .f32⟩
  | 123 => ⟨S4x4096x8x1, .f32⟩
  | 124 => ⟨S4x4096x8x3, .f32⟩
  | 125 => ⟨S4x4096x8x3, .f32⟩
  | 126 => ⟨S_, .f32⟩
  | 127 => ⟨S4x4096x8, .f32⟩
  | _ => ⟨S4x4096x3, .f32⟩

abbrev hbmTy0_2 (i : Nat) : BufTy := match i % 128 with
  | 0 => ⟨S4x4096x8x1, .f32⟩
  | 1 => ⟨S4x4096x8x1, .f32⟩
  | 2 => ⟨S_, .f32⟩
  | 3 => ⟨S4x4096x8x1, .f32⟩
  | 4 => ⟨S4x4096x8x1, .i1⟩
  | 5 => ⟨S_, .f32⟩
  | 6 => ⟨S4x4096x8x1, .f32⟩
  | 7 => ⟨S4x4096x8x1, .f32⟩
  | 8 => ⟨S4x4096x8x3, .f32⟩
  | 9 => ⟨S4x4096x8x3, .f32⟩
  | 10 => ⟨S4x4096x8x3, .i1⟩
  | 11 => ⟨S4x4096x8x3, .f32⟩
  | 12 => ⟨S4x4096x8x3, .f32⟩
  | 13 => ⟨S_, .f32⟩
  | 14 => ⟨S_, .f32⟩
  | 15 => ⟨S_, .f32⟩
  | 16 => ⟨S4x4096x8x3, .f32⟩
  | 17 => ⟨S4x4096x8x3, .f32⟩
  | 18 => ⟨S_, .f32⟩
  | 19 => ⟨S4x4096x8x3, .f32⟩
  | 20 => ⟨S4x4096x8x3, .f32⟩
  | 21 => ⟨S4x4096x8x3, .f32⟩
  | 22 => ⟨S_, .f32⟩
  | 23 => ⟨S4x4096x8, .f32⟩
  | 24 => ⟨S4x4096x8x1, .f32⟩
  | 25 => ⟨S_, .f32⟩
  | 26 => ⟨S4x4096x8x1, .f32⟩
  | 27 => ⟨S4x4096x8x1, .f32⟩
  | 28 => ⟨S4x4096x8x3, .i1⟩
  | 29 => ⟨S4x4096x8x3, .i32⟩
  | 30 => ⟨S_, .i32⟩
  | 31 => ⟨S4x4096x8, .i32⟩
  | 32 => ⟨S_, .i32⟩
  | 33 => ⟨S4x4096x8, .i32⟩
  | 34 => ⟨S4x4096x8, .i1⟩
  | 35 => ⟨S8, .i32⟩
  | 36 => ⟨S1x1x8, .i32⟩
  | 37 => ⟨S_, .i32⟩
  | 38 => ⟨S_, .i32⟩
  | 39 => ⟨S4x4096x8, .i32⟩
  | 40 => ⟨S4x4096x8, .i32⟩
  | 41 => ⟨S4x4096x8, .i32⟩
  | 42 => ⟨S_, .i32⟩
  | 43 => ⟨S4x4096, .i32⟩
  | 44 => ⟨S_, .i32⟩
  | 45 => ⟨S4x4096, .i32⟩
  | 46 => ⟨S4x4096, .i1⟩
  | 47 => ⟨S_, .i32⟩
  | 48 => ⟨S_, .i32⟩
  | 49 => ⟨S4x4096, .i32⟩
  | 50 => ⟨S4x4096, .i32⟩
  | 51 => ⟨S4x4096x1x1, .i32⟩
  | 52 => ⟨S4x4096x1x3, .i32⟩
  | 53 => ⟨S_, .i32⟩
  | 54 => ⟨S4x4096x1x3, .i32⟩
  | 55 => ⟨S4x4096x1x3, .i1⟩
  | 56 => ⟨S_, .i32⟩
  | 57 => ⟨S4x4096x1x3, .i32⟩
  | 58 => ⟨S4x4096x1x3, .i32⟩
  | 59 => ⟨S4x4096x1x3, .i32⟩
  | 60 => ⟨S4x4096x1x3x1, .i32⟩
  | 61 => ⟨S1, .i32⟩
  | 62 => ⟨S_, .i32⟩
  | 63 => ⟨S4x4096x1x3x1, .i32⟩
  | 64 => ⟨S4x4096x1x3x1, .i1⟩
  | 65 => ⟨S1x1x1x1x1, .i32⟩
  | 66 => ⟨S4x4096x1x3x1, .i32⟩
  | 67 => ⟨S4x4096x1x3x1, .i1⟩
  | 68 => ⟨S4x4096x1x3x1, .i1⟩
  | 69 => ⟨S_, .i1⟩
  | 70 => ⟨S4x4096x1x3, .i1⟩
  | 71 => ⟨S4x4096x1x3, .f32⟩
  | 72 => ⟨S_, .f32⟩
  | 73 => ⟨S4x4096x1x3, .f32⟩
  | 74 => ⟨S4x4096x1x3, .f32⟩
  | 75 => ⟨S4x4096x8x1, .i1⟩
  | 76 => ⟨S4x4096x8x3, .f32⟩
  | 77 => ⟨S4x4096x8x3, .i1⟩
  | 78 => ⟨S4x4096x8x3, .f32⟩
  | 79 => ⟨S4x4096x1x3, .i32⟩
  | 80 => ⟨S_, .i32⟩
  | 81 => ⟨S4x4096x1x3, .i32⟩
  | 82 => ⟨S4x4096x1x3, .i1⟩
  | 83 => ⟨S_, .i32⟩
  | 84 => ⟨S4x4096x1x3, .i32⟩
  | 85 => ⟨S4x4096x1x3, .i32⟩
  | 86 => ⟨S4x4096x1x3, .i32⟩
  | 87 => ⟨S4x4096x1x3x1, .i32⟩
  | 88 => ⟨S1, .i32⟩
  | 89 => ⟨S_, .i32⟩
  | 90 => ⟨S4x4096x1x3x1, .i32⟩
  | 91 => ⟨S4x4096x1x3x1, .i1⟩
  | 92 => ⟨S1x1x1x1x1, .i32⟩
  | 93 => ⟨S4x4096x1x3x1, .i32⟩
  | 94 => ⟨S4x4096x1x3x1, .i1⟩
  | 95 => ⟨S4x4096x1x3x1, .i1⟩
  | 96 => ⟨S_, .i1⟩
  | 97 => ⟨S4x4096x1x3, .i1⟩
  | 98 => ⟨S4x4096x1x3, .f32⟩
  | 99 => ⟨S_, .f32⟩
  | 100 => ⟨S4x4096x1x3, .f32⟩
  | 101 => ⟨S4x4096x1x3, .f32⟩
  | 102 => ⟨S4x4096x8x1, .i1⟩
  | 103 => ⟨S4x4096x8x3, .f32⟩
  | 104 => ⟨S4x4096x8x3, .i1⟩
  | 105 => ⟨S4x4096x8x3, .f32⟩
  | 106 => ⟨S_, .i32⟩
  | 107 => ⟨S4x4096x1x1, .i32⟩
  | 108 => ⟨S4x4096x1x1, .i1⟩
  | 109 => ⟨S_, .i32⟩
  | 110 => ⟨S4x4096x1x1, .i32⟩
  | 111 => ⟨S4x4096x1x1, .i32⟩
  | 112 => ⟨S4x4096x1x1, .i32⟩
  | 113 => ⟨S1, .i32⟩
  | 114 => ⟨S_, .i32⟩
  | 115 => ⟨S4x4096x1x1, .i32⟩
  | 116 => ⟨S4x4096x1x1, .i1⟩
  | 117 => ⟨S1x1x1x1, .i32⟩
  | 118 => ⟨S4x4096x1x1, .i32⟩
  | 119 => ⟨S4x4096x1x1, .i1⟩
  | 120 => ⟨S4x4096x1x1, .i1⟩
  | 121 => ⟨S_, .i1⟩
  | 122 => ⟨S4x4096x1, .i1⟩
  | 123 => ⟨S4x4096x1x1, .f32⟩
  | 124 => ⟨S4x4096x1x1, .i1⟩
  | 125 => ⟨S_, .f32⟩
  | 126 => ⟨S4x4096x1x1, .f32⟩
  | 127 => ⟨S4x4096x1x1, .f32⟩
  | _ => ⟨S4x4096x3, .f32⟩

abbrev hbmTy0_3 (i : Nat) : BufTy := match i % 128 with
  | 0 => ⟨S4x4096x8x1, .i1⟩
  | 1 => ⟨S4x4096x8x1, .f32⟩
  | 2 => ⟨S4x4096x8x1, .f32⟩
  | 3 => ⟨S4x4096x8x10, .f32⟩
  | 4 => ⟨S4x10x8x4096, .f32⟩
  | 5 => ⟨S10x4x8x4096, .f32⟩
  | 6 => ⟨S4x10x8x4096, .f32⟩
  | 7 => ⟨S_, .f32⟩
  | 8 => ⟨S10, .f32⟩
  | 9 => ⟨S1x10x1x1, .f32⟩
  | 10 => ⟨S_, .f32⟩
  | 11 => ⟨S1x10x1x1, .f32⟩
  | 12 => ⟨S1x10x1x1, .f32⟩
  | 13 => ⟨S4x10x8x4096, .f32⟩
  | 14 => ⟨S4x10x8x4096, .f32⟩
  | 15 => ⟨S4x10x8x4096, .f32⟩
  | 16 => ⟨S_, .f32⟩
  | 17 => ⟨S10, .f32⟩
  | 18 => ⟨S1x10x1x1, .f32⟩
  | 19 => ⟨S_, .f32⟩
  | 20 => ⟨S1x10x1x1, .f32⟩
  | 21 => ⟨S1x10x1x1, .f32⟩
  | 22 => ⟨S4x10x8x4096, .f32⟩
  | 23 => ⟨S4x10x8x4096, .f32⟩
  | 24 => ⟨S_, .f32⟩
  | 25 => ⟨S1x10x1x1, .f32⟩
  | 26 => ⟨S1x10x1x1, .f32⟩
  | 27 => ⟨S1x10x1x1, .f32⟩
  | 28 => ⟨S4x10x8x4096, .f32⟩
  | 29 => ⟨S4x10x8x4096, .f32⟩
  | 30 => ⟨S1x10x1x1, .f32⟩
  | 31 => ⟨S4x10x8x4096, .f32⟩
  | 32 => ⟨S4x10x8x4096, .f32⟩
  | 33 => ⟨S1x10x1x1, .f32⟩
  | 34 => ⟨S4x10x8x4096, .f32⟩
  | 35 => ⟨S4x10x8x4096, .f32⟩
  | 36 => ⟨S_, .f32⟩
  | 37 => ⟨S4x10x8x4096, .f32⟩
  | 38 => ⟨S4x10x8x4096, .f32⟩
  | 39 => ⟨S10x4x8x4096, .f32⟩
  | 40 => ⟨S4x10x8x4096, .f32⟩
  | 41 => ⟨S1x10x1x1, .f32⟩
  | 42 => ⟨S4x10x8x4096, .f32⟩
  | 43 => ⟨S4x10x8x4096, .f32⟩
  | 44 => ⟨S_, .f32⟩
  | 45 => ⟨S10, .f32⟩
  | 46 => ⟨S1x10x1x1, .f32⟩
  | 47 => ⟨S_, .f32⟩
  | 48 => ⟨S1x10x1x1, .f32⟩
  | 49 => ⟨S1x10x1x1, .f32⟩
  | 50 => ⟨S4x10x8x4096, .f32⟩
  | 51 => ⟨S4x10x8x4096, .f32⟩
  | 52 => ⟨S4x10x8x4096, .f32⟩
  | 53 => ⟨S_, .f32⟩
  | 54 => ⟨S10, .f32⟩
  | 55 => ⟨S1x10x1x1, .f32⟩
  | 56 => ⟨S_, .f32⟩
  | 57 => ⟨S1x10x1x1, .f32⟩
  | 58 => ⟨S1x10x1x1, .f32⟩
  | 59 => ⟨S4x10x8x4096, .f32⟩
  | 60 => ⟨S4x10x8x4096, .f32⟩
  | 61 => ⟨S_, .f32⟩
  | 62 => ⟨S1x10x1x1, .f32⟩
  | 63 => ⟨S1x10x1x1, .f32⟩
  | 64 => ⟨S1x10x1x1, .f32⟩
  | 65 => ⟨S4x10x8x4096, .f32⟩
  | 66 => ⟨S4x10x8x4096, .f32⟩
  | 67 => ⟨S1x10x1x1, .f32⟩
  | 68 => ⟨S4x10x8x4096, .f32⟩
  | 69 => ⟨S4x10x8x4096, .f32⟩
  | 70 => ⟨S1x10x1x1, .f32⟩
  | 71 => ⟨S4x10x8x4096, .f32⟩
  | 72 => ⟨S4x10x8x4096, .f32⟩
  | 73 => ⟨S_, .f32⟩
  | 74 => ⟨S4x10x8x4096, .f32⟩
  | 75 => ⟨S4x10x8x4096, .f32⟩
  | 76 => ⟨S10x4x8x4096, .f32⟩
  | 77 => ⟨S4x10x8x4096, .f32⟩
  | 78 => ⟨S1x10x1x1, .f32⟩
  | 79 => ⟨S4x10x8x4096, .f32⟩
  | 80 => ⟨S4x10x8x4096, .f32⟩
  | 81 => ⟨S_, .f32⟩
  | 82 => ⟨S4x10x4096, .f32⟩
  | _ => ⟨S4x4096x3, .f32⟩

abbrev hbmTy (i : Nat) : BufTy := match i / 128 with
  | 0 => hbmTy0_0 i
  | 1 => hbmTy0_1 i
  | 2 => hbmTy0_2 i
  | 3 => hbmTy0_3 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_v0 : Ref sig .tc := ⟨.hbm, 28, rfl⟩
abbrev main_call0_v1_0 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call2_v0 : Ref sig .tc := ⟨.hbm, 104, rfl⟩
abbrev main_call2_v1_0 : Ref sig .tc := ⟨.hbm, 105, rfl⟩
abbrev main_v69 : Ref sig .tc := ⟨.hbm, 106, rfl⟩
abbrev main_v70 : Ref sig .tc := ⟨.hbm, 107, rfl⟩
abbrev main_call3_c : Ref sig .tc := ⟨.hbm, 108, rfl⟩
abbrev main_call3_v0 : Ref sig .tc := ⟨.hbm, 109, rfl⟩
abbrev main_call3_v1 : Ref sig .tc := ⟨.hbm, 110, rfl⟩
abbrev main_call3_c_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_c_1 : Ref sig .tc := ⟨.hbm, 115, rfl⟩
abbrev main_call3_c_2 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_v8 : Ref sig .tc := ⟨.hbm, 120, rfl⟩
abbrev main_call3_v9 : Ref sig .tc := ⟨.hbm, 121, rfl⟩
abbrev main_call3_v10 : Ref sig .tc := ⟨.hbm, 122, rfl⟩
abbrev main_call3_c_3 : Ref sig .tc := ⟨.hbm, 123, rfl⟩
abbrev main_call3_v11 : Ref sig .tc := ⟨.hbm, 124, rfl⟩
abbrev main_call3_v12 : Ref sig .tc := ⟨.hbm, 125, rfl⟩
abbrev main_call3_v13 : Ref sig .tc := ⟨.hbm, 126, rfl⟩
abbrev main_call3_cst : Ref sig .tc := ⟨.hbm, 127, rfl⟩
abbrev main_call3_v14 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_16 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_call4_v0 : Ref sig .tc := ⟨.hbm, 163, rfl⟩
abbrev main_call4_cst : Ref sig .tc := ⟨.hbm, 164, rfl⟩
abbrev main_call4_v1 : Ref sig .tc := ⟨.hbm, 165, rfl⟩
abbrev main_call4_v2 : Ref sig .tc := ⟨.hbm, 166, rfl⟩
abbrev main_v104 : Ref sig .tc := ⟨.hbm, 167, rfl⟩
abbrev main_cst_17 : Ref sig .tc := ⟨.hbm, 168, rfl⟩
abbrev main_v105 : Ref sig .tc := ⟨.hbm, 169, rfl⟩
abbrev main_v106 : Ref sig .tc := ⟨.hbm, 170, rfl⟩
abbrev main_cst_18 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_19 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_20 : Ref sig .tc := ⟨.hbm, 182, rfl⟩
abbrev main_v116 : Ref sig .tc := ⟨.hbm, 183, rfl⟩
abbrev main_v117 : Ref sig .tc := ⟨.hbm, 184, rfl⟩
abbrev main_cst_21 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_22 : Ref sig .tc := ⟨.hbm, 191, rfl⟩
abbrev main_v123 : Ref sig .tc := ⟨.hbm, 192, rfl⟩
abbrev main_cst_23 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_cst_24 : Ref sig .tc := ⟨.hbm, 197, rfl⟩
abbrev main_v127 : Ref sig .tc := ⟨.hbm, 198, rfl⟩
abbrev main_v128 : Ref sig .tc := ⟨.hbm, 199, rfl⟩
abbrev main_cst_25 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_26 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_27 : Ref sig .tc := ⟨.hbm, 209, rfl⟩
abbrev main_cst_28 : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_29 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_30 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_31 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_cst_32 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_cst_33 : Ref sig .tc := ⟨.hbm, 243, rfl⟩
abbrev main_v159 : Ref sig .tc := ⟨.hbm, 244, rfl⟩
abbrev main_v160 : Ref sig .tc := ⟨.hbm, 245, rfl⟩
abbrev main_cst_34 : Ref sig .tc := ⟨.hbm, 246, rfl⟩
abbrev main_v161 : Ref sig .tc := ⟨.hbm, 247, rfl⟩
abbrev main_v162 : Ref sig .tc := ⟨.hbm, 248, rfl⟩
abbrev main_cst_35 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_call7_v0 : Ref sig .tc := ⟨.hbm, 253, rfl⟩
abbrev main_call7_cst : Ref sig .tc := ⟨.hbm, 254, rfl⟩
abbrev main_call7_v1 : Ref sig .tc := ⟨.hbm, 255, rfl⟩
abbrev main_call7_v2 : Ref sig .tc := ⟨.hbm, 256, rfl⟩
abbrev main_v166 : Ref sig .tc := ⟨.hbm, 257, rfl⟩
abbrev main_cst_36 : Ref sig .tc := ⟨.hbm, 258, rfl⟩
abbrev main_v167 : Ref sig .tc := ⟨.hbm, 259, rfl⟩
abbrev main_v168 : Ref sig .tc := ⟨.hbm, 260, rfl⟩
abbrev main_cst_37 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_call8_v0 : Ref sig .tc := ⟨.hbm, 266, rfl⟩
abbrev main_call8_v1 : Ref sig .tc := ⟨.hbm, 267, rfl⟩
abbrev main_v173 : Ref sig .tc := ⟨.hbm, 268, rfl⟩
abbrev main_cst_38 : Ref sig .tc := ⟨.hbm, 269, rfl⟩
abbrev main_cst_39 : Ref sig .tc := ⟨.hbm, 270, rfl⟩
abbrev main_call9_v0 : Ref sig .tc := ⟨.hbm, 271, rfl⟩
abbrev main_call9_v1 : Ref sig .tc := ⟨.hbm, 272, rfl⟩
abbrev main_call9_v2 : Ref sig .tc := ⟨.hbm, 273, rfl⟩
abbrev main_call9_v3 : Ref sig .tc := ⟨.hbm, 274, rfl⟩
abbrev main_call9_v4 : Ref sig .tc := ⟨.hbm, 275, rfl⟩
abbrev main_v174 : Ref sig .tc := ⟨.hbm, 276, rfl⟩
abbrev main_v175 : Ref sig .tc := ⟨.hbm, 277, rfl⟩
abbrev main_cst_40 : Ref sig .tc := ⟨.hbm, 278, rfl⟩
abbrev main_v176 : Ref sig .tc := ⟨.hbm, 279, rfl⟩
abbrev main_v177 : Ref sig .tc := ⟨.hbm, 280, rfl⟩
abbrev main_cst_41 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_c_42 : Ref sig .tc := ⟨.hbm, 286, rfl⟩
abbrev main_v182 : Ref sig .tc := ⟨.hbm, 287, rfl⟩
abbrev main_c_43 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_c_44 : Ref sig .tc := ⟨.hbm, 293, rfl⟩
abbrev main_call10_v0 : Ref sig .tc := ⟨.hbm, 294, rfl⟩
abbrev main_call10_v1 : Ref sig .tc := ⟨.hbm, 295, rfl⟩
abbrev main_call10_v2 : Ref sig .tc := ⟨.hbm, 296, rfl⟩
abbrev main_v187 : Ref sig .tc := ⟨.hbm, 297, rfl⟩
abbrev main_c_45 : Ref sig .tc := ⟨.hbm, 298, rfl⟩
abbrev main_v188 : Ref sig .tc := ⟨.hbm, 299, rfl⟩
abbrev main_c_46 : Ref sig .tc := ⟨.hbm, 300, rfl⟩
abbrev main_v189 : Ref sig .tc := ⟨.hbm, 301, rfl⟩
abbrev main_v190 : Ref sig .tc := ⟨.hbm, 302, rfl⟩
abbrev main_c_47 : Ref sig .tc := ⟨.hbm, 303, rfl⟩
abbrev main_call11_v0 : Ref sig .tc := ⟨.hbm, 304, rfl⟩
abbrev main_call11_v1 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_call12_c : Ref sig .tc := ⟨.hbm, 309, rfl⟩
abbrev main_call12_v0 : Ref sig .tc := ⟨.hbm, 310, rfl⟩
abbrev main_call12_v1 : Ref sig .tc := ⟨.hbm, 311, rfl⟩
abbrev main_call12_c_0 : Ref sig .tc := ⟨.hbm, 312, rfl⟩
abbrev main_call12_v2 : Ref sig .tc := ⟨.hbm, 313, rfl⟩
abbrev main_call12_v3 : Ref sig .tc := ⟨.hbm, 314, rfl⟩
abbrev main_call12_v4 : Ref sig .tc := ⟨.hbm, 315, rfl⟩
abbrev main_call12_v5 : Ref sig .tc := ⟨.hbm, 316, rfl⟩
abbrev main_call12_c_1 : Ref sig .tc := ⟨.hbm, 317, rfl⟩
abbrev main_call12_c_2 : Ref sig .tc := ⟨.hbm, 318, rfl⟩
abbrev main_call12_v6 : Ref sig .tc := ⟨.hbm, 319, rfl⟩
abbrev main_call12_v7 : Ref sig .tc := ⟨.hbm, 320, rfl⟩
abbrev main_call12_v8 : Ref sig .tc := ⟨.hbm, 321, rfl⟩
abbrev main_call12_v9 : Ref sig .tc := ⟨.hbm, 322, rfl⟩
abbrev main_call12_v10 : Ref sig .tc := ⟨.hbm, 323, rfl⟩
abbrev main_call12_v11 : Ref sig .tc := ⟨.hbm, 324, rfl⟩
abbrev main_call12_c_3 : Ref sig .tc := ⟨.hbm, 325, rfl⟩
abbrev main_call12_v12 : Ref sig .tc := ⟨.hbm, 326, rfl⟩
abbrev main_call12_v13 : Ref sig .tc := ⟨.hbm, 327, rfl⟩
abbrev main_call12_cst : Ref sig .tc := ⟨.hbm, 328, rfl⟩
abbrev main_call12_v14 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_call13_v0 : Ref sig .tc := ⟨.hbm, 333, rfl⟩
abbrev main_v197 : Ref sig .tc := ⟨.hbm, 334, rfl⟩
abbrev main_v198 : Ref sig .tc := ⟨.hbm, 335, rfl⟩
abbrev main_call14_c : Ref sig .tc := ⟨.hbm, 336, rfl⟩
abbrev main_call14_v0 : Ref sig .tc := ⟨.hbm, 337, rfl⟩
abbrev main_call14_v1 : Ref sig .tc := ⟨.hbm, 338, rfl⟩
abbrev main_call14_c_0 : Ref sig .tc := ⟨.hbm, 339, rfl⟩
abbrev main_call14_v2 : Ref sig .tc := ⟨.hbm, 340, rfl⟩
abbrev main_call14_v3 : Ref sig .tc := ⟨.hbm, 341, rfl⟩
abbrev main_call14_v4 : Ref sig .tc := ⟨.hbm, 342, rfl⟩
abbrev main_call14_v5 : Ref sig .tc := ⟨.hbm, 343, rfl⟩
abbrev main_call14_c_1 : Ref sig .tc := ⟨.hbm, 344, rfl⟩
abbrev main_call14_c_2 : Ref sig .tc := ⟨.hbm, 345, rfl⟩
abbrev main_call14_v6 : Ref sig .tc := ⟨.hbm, 346, rfl⟩
abbrev main_call14_v7 : Ref sig .tc := ⟨.hbm, 347, rfl⟩
abbrev main_call14_v8 : Ref sig .tc := ⟨.hbm, 348, rfl⟩
abbrev main_call14_v9 : Ref sig .tc := ⟨.hbm, 349, rfl⟩
abbrev main_call14_v10 : Ref sig .tc := ⟨.hbm, 350, rfl⟩
abbrev main_call14_v11 : Ref sig .tc := ⟨.hbm, 351, rfl⟩
abbrev main_call14_c_3 : Ref sig .tc := ⟨.hbm, 352, rfl⟩
abbrev main_call14_v12 : Ref sig .tc := ⟨.hbm, 353, rfl⟩
abbrev main_call14_v13 : Ref sig .tc := ⟨.hbm, 354, rfl⟩
abbrev main_call14_cst : Ref sig .tc := ⟨.hbm, 355, rfl⟩
abbrev main_call14_v14 : Ref sig .tc := ⟨.hbm, 356, rfl⟩
abbrev main_v199 : Ref sig .tc := ⟨.hbm, 357, rfl⟩
abbrev main_v200 : Ref sig .tc := ⟨.hbm, 358, rfl⟩
abbrev main_v201 : Ref sig .tc := ⟨.hbm, 359, rfl⟩
abbrev main_call15_v0 : Ref sig .tc := ⟨.hbm, 360, rfl⟩
abbrev main_v202 : Ref sig .tc := ⟨.hbm, 361, rfl⟩
abbrev main_call16_c : Ref sig .tc := ⟨.hbm, 362, rfl⟩
abbrev main_call16_v0 : Ref sig .tc := ⟨.hbm, 363, rfl⟩
abbrev main_call16_v1 : Ref sig .tc := ⟨.hbm, 364, rfl⟩
abbrev main_call16_c_0 : Ref sig .tc := ⟨.hbm, 365, rfl⟩
abbrev main_call16_v2 : Ref sig .tc := ⟨.hbm, 366, rfl⟩
abbrev main_call16_v3 : Ref sig .tc := ⟨.hbm, 367, rfl⟩
abbrev main_call16_v4 : Ref sig .tc := ⟨.hbm, 368, rfl⟩
abbrev main_call16_c_1 : Ref sig .tc := ⟨.hbm, 369, rfl⟩
abbrev main_call16_c_2 : Ref sig .tc := ⟨.hbm, 370, rfl⟩
abbrev main_call16_v5 : Ref sig .tc := ⟨.hbm, 371, rfl⟩
abbrev main_call16_v6 : Ref sig .tc := ⟨.hbm, 372, rfl⟩
abbrev main_call16_v7 : Ref sig .tc := ⟨.hbm, 373, rfl⟩
abbrev main_call16_v8 : Ref sig .tc := ⟨.hbm, 374, rfl⟩
abbrev main_call16_v9 : Ref sig .tc := ⟨.hbm, 375, rfl⟩
abbrev main_call16_v10 : Ref sig .tc := ⟨.hbm, 376, rfl⟩
abbrev main_call16_c_3 : Ref sig .tc := ⟨.hbm, 377, rfl⟩
abbrev main_call16_v11 : Ref sig .tc := ⟨.hbm, 378, rfl⟩
abbrev main_call16_v12 : Ref sig .tc := ⟨.hbm, 379, rfl⟩
abbrev main_call16_v13 : Ref sig .tc := ⟨.hbm, 380, rfl⟩
abbrev main_call16_cst : Ref sig .tc := ⟨.hbm, 381, rfl⟩
abbrev main_call16_v14 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_v206 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_cst_48 : Ref sig .tc := ⟨.hbm, 391, rfl⟩
abbrev main_v211 : Ref sig .tc := ⟨.hbm, 392, rfl⟩
abbrev main_v212 : Ref sig .tc := ⟨.hbm, 393, rfl⟩
abbrev main_cst_49 : Ref sig .tc := ⟨.hbm, 394, rfl⟩
abbrev main_v213 : Ref sig .tc := ⟨.hbm, 395, rfl⟩
abbrev main_v214 : Ref sig .tc := ⟨.hbm, 396, rfl⟩
abbrev main_v215 : Ref sig .tc := ⟨.hbm, 397, rfl⟩
abbrev main_v216 : Ref sig .tc := ⟨.hbm, 398, rfl⟩
abbrev main_v217 : Ref sig .tc := ⟨.hbm, 399, rfl⟩
abbrev main_cst_50 : Ref sig .tc := ⟨.hbm, 400, rfl⟩
abbrev main_v218 : Ref sig .tc := ⟨.hbm, 401, rfl⟩
abbrev main_v219 : Ref sig .tc := ⟨.hbm, 402, rfl⟩
abbrev main_cst_51 : Ref sig .tc := ⟨.hbm, 403, rfl⟩
abbrev main_v220 : Ref sig .tc := ⟨.hbm, 404, rfl⟩
abbrev main_v221 : Ref sig .tc := ⟨.hbm, 405, rfl⟩
abbrev main_v222 : Ref sig .tc := ⟨.hbm, 406, rfl⟩
abbrev main_v223 : Ref sig .tc := ⟨.hbm, 407, rfl⟩
abbrev main_cst_52 : Ref sig .tc := ⟨.hbm, 408, rfl⟩
abbrev main_v224 : Ref sig .tc := ⟨.hbm, 409, rfl⟩
abbrev main_v225 : Ref sig .tc := ⟨.hbm, 410, rfl⟩
abbrev main_v226 : Ref sig .tc := ⟨.hbm, 411, rfl⟩
abbrev main_v227 : Ref sig .tc := ⟨.hbm, 412, rfl⟩
abbrev main_v228 : Ref sig .tc := ⟨.hbm, 413, rfl⟩
abbrev main_v229 : Ref sig .tc := ⟨.hbm, 414, rfl⟩
abbrev main_v230 : Ref sig .tc := ⟨.hbm, 415, rfl⟩
abbrev main_v231 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_call18_cst : Ref sig .tc := ⟨.hbm, 420, rfl⟩
abbrev main_call18_v0 : Ref sig .tc := ⟨.hbm, 421, rfl⟩
abbrev main_v235 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_cst_53 : Ref sig .tc := ⟨.hbm, 428, rfl⟩
abbrev main_v241 : Ref sig .tc := ⟨.hbm, 429, rfl⟩
abbrev main_v242 : Ref sig .tc := ⟨.hbm, 430, rfl⟩
abbrev main_cst_54 : Ref sig .tc := ⟨.hbm, 431, rfl⟩
abbrev main_v243 : Ref sig .tc := ⟨.hbm, 432, rfl⟩
abbrev main_v244 : Ref sig .tc := ⟨.hbm, 433, rfl⟩
abbrev main_v245 : Ref sig .tc := ⟨.hbm, 434, rfl⟩
abbrev main_v246 : Ref sig .tc := ⟨.hbm, 435, rfl⟩
abbrev main_v247 : Ref sig .tc := ⟨.hbm, 436, rfl⟩
abbrev main_cst_55 : Ref sig .tc := ⟨.hbm, 437, rfl⟩
abbrev main_v248 : Ref sig .tc := ⟨.hbm, 438, rfl⟩
abbrev main_v249 : Ref sig .tc := ⟨.hbm, 439, rfl⟩
abbrev main_cst_56 : Ref sig .tc := ⟨.hbm, 440, rfl⟩
abbrev main_v250 : Ref sig .tc := ⟨.hbm, 441, rfl⟩
abbrev main_v251 : Ref sig .tc := ⟨.hbm, 442, rfl⟩
abbrev main_v252 : Ref sig .tc := ⟨.hbm, 443, rfl⟩
abbrev main_v253 : Ref sig .tc := ⟨.hbm, 444, rfl⟩
abbrev main_cst_57 : Ref sig .tc := ⟨.hbm, 445, rfl⟩
abbrev main_v254 : Ref sig .tc := ⟨.hbm, 446, rfl⟩
abbrev main_v255 : Ref sig .tc := ⟨.hbm, 447, rfl⟩
abbrev main_v256 : Ref sig .tc := ⟨.hbm, 448, rfl⟩
abbrev main_v257 : Ref sig .tc := ⟨.hbm, 449, rfl⟩
abbrev main_v258 : Ref sig .tc := ⟨.hbm, 450, rfl⟩
abbrev main_v259 : Ref sig .tc := ⟨.hbm, 451, rfl⟩
abbrev main_v260 : Ref sig .tc := ⟨.hbm, 452, rfl⟩
abbrev main_v261 : Ref sig .tc := ⟨.hbm, 453, rfl⟩
abbrev main_v262 : Ref sig .tc := ⟨.hbm, 454, rfl⟩
abbrev main_v263 : Ref sig .tc := ⟨.hbm, 455, rfl⟩
abbrev main_v264 : Ref sig .tc := ⟨.hbm, 456, rfl⟩
abbrev main_call19_cst : Ref sig .tc := ⟨.hbm, 457, rfl⟩
abbrev main_call19_v0 : Ref sig .tc := ⟨.hbm, 458, rfl⟩
abbrev main_v265 : Ref sig .tc := ⟨.hbm, 459, rfl⟩
abbrev main_v266 : Ref sig .tc := ⟨.hbm, 460, rfl⟩
abbrev main_v267 : Ref sig .tc := ⟨.hbm, 461, rfl⟩
abbrev main_v268 : Ref sig .tc := ⟨.hbm, 462, rfl⟩
abbrev main_v269 : Ref sig .tc := ⟨.hbm, 463, rfl⟩
abbrev main_v270 : Ref sig .tc := ⟨.hbm, 464, rfl⟩
abbrev main_cst_58 : Ref sig .tc := ⟨.hbm, 465, rfl⟩
abbrev main_v271 : Ref sig .tc := ⟨.hbm, 466, rfl⟩

abbrev nD : Nat := 1
abbrev τ : Topo := Topo.v7x

variable {F : FTy → Type} [FloatOps F]
-- ==== Proof.Regs.lean ====
/- A kernel call as a segment of the whole program: its arrays come out of the buffers held by the core, and go back. -/
module

public import proofs.«01_k».proof.Proof.Gen.KernelIdeal.Regions
public import Idealize.ShloMosaic.Lib.Pipeline.RegionArrays

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)
open Cert.KernelIdeal.Gen

variable {F : FTy → Type} [FloatOps F]

local notation "𝕄" => MT nD τ sig Unit (Elt F) ℕ (UR sig nD τ) ℕ

/-- No cell carries a level: nothing waits for the body. -/
abbrev levels : GSem nD τ sig → Finset Unit := fun _ => ∅
/-- The levels themselves, all zero. -/
abbrev levelOf : GSem nD τ sig → Unit → ℕ := fun _ _ => 0

/-- What a core holds besides its buffers: the generator register and nothing owed. -/
def side (ρ : Dev nD → PrngReg) (c : Dev nD) : sProp 𝕄 :=
  iprop(prngReg c (ρ c) ∗ ∃ W, owes (c : Thread nD τ) (0 : CellTallies nD τ sig Unit) W)

/-- The buffers held at the arrays of a call are its windows' arrays, each at its window's share. -/
theorem held_arrays (p : Fin 3) (c : Dev nD) (dat : Dat τ (Elt F) Unit ℕ (UR sig nD τ) ℕ (cfgs p) c)
    (hs : Pipeline.SharedIn (cfgs p).spec) (hw : ∀ w, ((cfgs p).spec w).arr.IsWhole)
    (hq : ∀ w, ((cfgs p).spec w).isOut = false → dat.q w = Pipeline.shareOf (cfgs p).spec w) (W : Valuation τ sig (Elt F))
    (G : (w : Fin (cfgs p).W) → Buf (Elt F) (((cfgs p).spec w).arr.view.loc (c.tc : Thread nD τ)))
    (hG : ∀ w, G w = W (Pipeline.arrRef (cfgs p).spec w)) :
    (StableHlo.held (c : Thread nD τ) (Pipeline.arrRefs (cfgs p).spec) W : sProp 𝕄) = dat.arrays G := by
  rw [← dat.arrBufs_eq_arrays hs hw hq (fun b => W b) G hG]
  unfold StableHlo.held Pipeline.arrRefs Pipeline.arrBufs
  rw [bigSep_map]
  rfl

/-- A kernel call entered from a valuation of the core's buffers and left at the valuation its arrays end at. -/
def callSeg (ρ : Dev nD → PrngReg) (p : Fin 3) (pdats : (p : Fin 3) → (c : Dev nD) → Dat τ (Elt F) Unit ℕ (UR sig nD τ) ℕ (cfgs p) c)
    (kit : Pipeline.LaunchFacts₀ (nD := nD) (τ := τ) cfgs p) (W W' : Dev nD → Valuation τ sig (Elt F))
    (hbody : ∀ c, BodyObligationLoose (pdats p c) (defs₀ (F := F)) Variants.none () Set.univ)
    (howed : ∀ c t, (pdats p c).owed t = 0) (hrec : ∀ c t, (pdats p c).recorded t = Set.univ) (hΦ : ∀ c t, (pdats p c).Φ t = Pipeline.scopedRest (cfgs p).spec c)
    (hq : ∀ c w, ((cfgs p).spec w).isOut = false → (pdats p c).q w = Pipeline.shareOf (cfgs p).spec w)
    (hA : ∀ c w, (pdats p c).A w = W c (Pipeline.arrRef (cfgs p).spec w))
    (hend : ∀ c w, (pdats p c).arrAt w (cfgs p).N = W' c (Pipeline.arrRef (cfgs p).spec w))
    (hrest : ∀ c, ∀ b ∉ Pipeline.arrRefs (τ := τ) (cfgs p).spec, W c b = W' c b) :
    Pipeline.RegionSeg (pcfgs (F := F)) adm pdats () defs₀ Variants.none levels levelOf p where
  win := kit.win
  block_pos := kit.block_pos
  stage_whole := kit.stage_whole
  K := PEmpty
  osem := fun k => k.elim
  ho := Pipeline.OwnSemFacts.none _
  hbody := hbody
  hwaits := Pipeline.hwaits_of_owed_zero _ _ _ _ levels levelOf p howed
  pre c := iprop(StableHlo.held (c : Thread nD τ) (Pipeline.ucRefs τ sig) (W c) ∗ side ρ c)
  post c := iprop(StableHlo.held (c : Thread nD τ) (Pipeline.ucRefs τ sig) (W' c) ∗ side ρ c)
  X _ := BI.emp
  Y _ := BI.emp
  Z c := iprop(StableHlo.held (c : Thread nD τ) (Pipeline.ucRefs τ sig \ Pipeline.arrRefs (cfgs p).spec) (W c) ∗ prngReg c (ρ c))
  hentry c := by
    rw [Pipeline.ownSems0_none, Pipeline.prefHeld_of_none _ rfl,
      StableHlo.held_sub_split (c : Thread nD τ) (Pipeline.arrRefs_sub_ucRefs (cfgs p).spec kit.win.arr_unscoped) (W c),
      held_arrays p c (pdats p c) kit.sharedIn kit.arr_whole (hq c) (W c) ((pdats p c).arrAt · 0) (hA c)]
    unfold side Pipeline.Dat.owesAt Pipeline.owesWithin
    rw [howed c 0]
    iintro ⟨⟨⟨Ha, Hr⟩, ⟨Hp, ⟨%Wd, HO⟩⟩⟩, -, -⟩
    imodintro
    isplitl [Ha]; · iexact Ha
    isplitr; · iempintro
    isplitl [HO]
    · iexists Wd; isplitr; · ipureintro; exact fun _ _ => Or.inl (by rw [hrec]; exact trivial)
      iexact HO
    isplitr; · iempintro
    isplitl [Hr]; · iexact Hr
    iexact Hp
  hin c := by
    rw [hΦ c 0]
    iintro ⟨-, -, H⟩
    iexact H
  hout c := by
    rw [hΦ c _, Pipeline.ownSems0_none]
    iintro H
    isplitr; · iempintro
    isplitr; · iempintro
    iexact H
  hexit c := by
    rw [StableHlo.held_sub_split (c : Thread nD τ) (Pipeline.arrRefs_sub_ucRefs (cfgs p).spec kit.win.arr_unscoped) (W' c),
      held_arrays p c (pdats p c) kit.sharedIn kit.arr_whole (hq c) (W' c) ((pdats p c).arrAt · (cfgs p).N) (hend c),
      StableHlo.held_congr (c : Thread nD τ) (S := Pipeline.ucRefs τ sig \ Pipeline.arrRefs (cfgs p).spec) (V := W c) (V' := W' c)
        (fun b hb => hrest c b (Finset.mem_sdiff.mp hb).2)]
    unfold side Pipeline.Dat.owesAt Pipeline.owesWithin
    rw [howed c _]
    iintro ⟨Ha, ⟨%Wd, -, HO⟩, -, ⟨Hr, Hp⟩⟩
    imodintro
    isplitl [Ha Hr]
    · isplitl [Ha]; · iexact Ha
      iexact Hr
    isplitl [Hp]; · iexact Hp
    iexists Wd; iexact HO

end Cert.KernelIdeal.Knn

end
-- ==== Proof.Knn.lean ====
/- The rounds of the nearest-neighbour search of the first kernel body, as plain functions of the
   distance matrix, and the four printed stretches that hold the data-dependent branches as those
   functions: each branch only chooses between two vectors, so the stretch is a pure value. -/
module

public import proofs.«01_k».proof.Proof.Gen.KernelIdeal.Skeleton
public import Idealize.ShloMosaic.Lib.Tactic

@[expose] public section

noncomputable section

namespace Cert.KernelIdeal.Knn

open Idealize.ShloMosaic Idealize.SL.Sem
open Cert.KernelIdeal.Gen

variable {F : FTy → Type} [FloatOps F]

/-- The least distance of each query column. -/
def colMin (d : FVec F S4096x256 .f32) : FVec F S1x256 .f32 :=
  shapeCast S1x256 (multiReduction .minimumf [0] S256 d 0x7F800000#32 reduces_S4096x256_S256 (.inl rfl) rfl) shapeCasts_S256_S1x256

/-- Where a column of `d` meets its entry of `m`. -/
def hit (d : FVec F S4096x256 .f32) (m : FVec F S1x256 .f32) : IVec S4096x256 1 :=
  cmpf .oeq d (broadcastTo S4096x256 m broadcasts_S1x256_S4096x256)

/-- The mask as a matrix of zeros and ones. -/
def mask (h : IVec S4096x256 1) : FVec F S4096x256 .bf16 :=
  truncf .bf16 (sitofp .f32 (extui 32 h natLt_1_32)) bitsLt_bf16_f32

/-- The table of keys times a mask: for each column the table's columns the mask picks, added up. -/
def gat (km : FVec F S12x4096 .bf16) (b : FVec F S4096x256 .bf16) (z : FVec F S12x256 .f32) : FVec F S12x256 .f32 :=
  matmul dot_S12x4096_S4096x256_S12x256_1_0_0_1_n_n none km b z

/-- The largest count of picked keys over the columns, as a one-element vector. -/
def most (g : FVec F S12x256 .f32) : FVec F S1x1x1 .f32 :=
  shapeCast S1x1x1 (multiReduction .maximumf [1, 2] S1 (shapeCast S1x1x256 (extractStridedSlice S1x256 ![9, 0] g slices_S12x256_o9_0_S1x256)
    shapeCasts_S1x256_S1x1x256) 0xFF800000#32 reduces_S1x1x256_S1 (.inl rfl) rfl) shapeCasts_S1_S1x1x1

/-- Whether some column picks more than one key. -/
def tie (n : FVec F S1x1x1 .f32) : BitVec 1 :=
  Scalar.cmpi .ne (Scalar.extui (Scalar.cmpf .ogt (extractAt ![0, 0, 0] n inpos_S1x1x1_p0_0_0) (Scalar.ofBits .f32 0x3FC00000#32)) : BitVec 32) 0#32

/-- The first picked key of each column. -/
def slowIdx (io : IVec S4096x256 32) (h : IVec S4096x256 1) : IVec S1x256 32 :=
  shapeCast S1x256 (multiReductionI .minsi [0] S256 (select h io (broadcast S4096x256 4096#32)) 2147483647#32 reduces_S4096x256_S256 rfl)
    shapeCasts_S256_S1x256

/-- The coordinate `v` of the first picked key of each column. -/
def slowVal (io : IVec S4096x256 32) (v : FVec F S4096x1 .f32) (h : IVec S4096x256 1) : FVec F S1x256 .f32 :=
  shapeCast S1x256 (multiReduction .add [0] S256
    (select (cmpi .eq io (broadcastTo S4096x256 (slowIdx io h) broadcasts_S1x256_S4096x256))
      (broadcastTo S4096x256 (shapeCast S4096x1 v shapeCasts_S4096x1_S4096x1) broadcasts_S4096x1_S4096x256)
      (broadcast S4096x256 (Scalar.ofBits .f32 0x00000000#32)))
    0x00000000#32 reduces_S4096x256_S256 (.inl rfl) rfl) shapeCasts_S256_S1x256

/-- The picked key's index, read off the product with the table. -/
def fastIdx (g : FVec F S12x256 .f32) : IVec S1x256 32 :=
  fptosi 32 (addf (extractStridedSlice S1x256 ![10, 0] g slices_S12x256_o10_0_S1x256) (extractStridedSlice S1x256 ![11, 0] g slices_S12x256_o11_0_S1x256))
/-- The picked key's first coordinate, read off the product. -/
def fastX (g : FVec F S12x256 .f32) : FVec F S1x256 .f32 :=
  addf (addf (extractStridedSlice S1x256 ![0, 0] g slices_S12x256_o0_0_S1x256) (extractStridedSlice S1x256 ![1, 0] g slices_S12x256_o1_0_S1x256))
    (extractStridedSlice S1x256 ![2, 0] g slices_S12x256_o2_0_S1x256)
/-- Its second coordinate. -/
def fastY (g : FVec F S12x256 .f32) : FVec F S1x256 .f32 :=
  addf (addf (extractStridedSlice S1x256 ![3, 0] g slices_S12x256_o3_0_S1x256) (extractStridedSlice S1x256 ![4, 0] g slices_S12x256_o4_0_S1x256))
    (extractStridedSlice S1x256 ![5, 0] g slices_S12x256_o5_0_S1x256)
/-- Its third coordinate. -/
def fastZ (g : FVec F S12x256 .f32) : FVec F S1x256 .f32 :=
  addf (addf (extractStridedSlice S1x256 ![6, 0] g slices_S12x256_o6_0_S1x256) (extractStridedSlice S1x256 ![7, 0] g slices_S12x256_o7_0_S1x256))
    (extractStridedSlice S1x256 ![8, 0] g slices_S12x256_o8_0_S1x256)

/-- A coordinate of the round's pick: summed under the mask of the first picked key if some column ties, else `f`. -/
def selV (c : BitVec 1) (io : IVec S4096x256 32) (v : FVec F S4096x1 .f32) (h : IVec S4096x256 1) (f : FVec F S1x256 .f32) : FVec F S1x256 .f32 :=
  if c = 1#1 then slowVal io v h else f
/-- The index of the round's pick. -/
def selI (c : BitVec 1) (io : IVec S4096x256 32) (h : IVec S4096x256 1) (g : FVec F S12x256 .f32) : IVec S1x256 32 :=
  if c = 1#1 then slowIdx io h else fastIdx g

/-- The distances with each column's pick taken out. -/
def next (io : IVec S4096x256 32) (d : FVec F S4096x256 .f32) (i : IVec S1x256 32) : FVec F S4096x256 .f32 :=
  select (cmpi .eq io (broadcastTo S4096x256 i broadcasts_S1x256_S4096x256)) (broadcast S4096x256 (Scalar.ofBits .f32 0x7F800000#32)) d

/-- The zero the products start from. -/
def zacc : FVec F S12x256 .f32 := constant S12x256 .f32 0x00000000#32
/-- A round's mask, from its distances. -/
def hitD (d : FVec F S4096x256 .f32) : IVec S4096x256 1 := hit d (colMin d)
/-- A round's product with the table, from its distances. -/
def gatD (km : FVec F S12x4096 .bf16) (d : FVec F S4096x256 .f32) : FVec F S12x256 .f32 := gat km (mask (hitD d)) zacc
/-- Whether a round ties, from its distances. -/
def tieD (km : FVec F S12x4096 .bf16) (d : FVec F S4096x256 .f32) : BitVec 1 := tie (most (gatD km d))
/-- A round's pick, from its distances. -/
def idxD (io : IVec S4096x256 32) (km : FVec F S12x4096 .bf16) (d : FVec F S4096x256 .f32) : IVec S1x256 32 :=
  selI (tieD km d) io (hitD d) (gatD km d)
/-- The next round's distances. -/
def nextD (io : IVec S4096x256 32) (km : FVec F S12x4096 .bf16) (d : FVec F S4096x256 .f32) : FVec F S4096x256 .f32 :=
  next io d (idxD io km d)

/-- A branch that ends in one of two values and goes on with it goes on with the value chosen. -/
theorem branch_one {E : Type → Type} {A B : Type} (c : BitVec 1) (a a' : A) (f : A → Prog E B) :
    (if c = 1#1 then ((pure a : Prog E A) >>= f) else ((pure a' : Prog E A) >>= f)) = f (if c = 1#1 then a else a') := by
  split <;> rfl
/-- The same with three values. -/
theorem branch_three {E : Type → Type} {A B C R : Type} (c : BitVec 1) (a a' : A) (b b' : B) (x x' : C) (f : A × B × C → Prog E R) :
    (if c = 1#1 then ((pure (a, b, x) : Prog E (A × B × C)) >>= f) else ((pure (a', b', x') : Prog E (A × B × C)) >>= f))
      = f (if c = 1#1 then a else a', if c = 1#1 then b else b', if c = 1#1 then x else x') := by
  split <;> rfl
/-- The same with four values. -/
theorem branch_four {E : Type → Type} {A B C D R : Type} (c : BitVec 1) (a a' : A) (b b' : B) (x x' : C) (y y' : D) (f : A × B × C × D → Prog E R) :
    (if c = 1#1 then ((pure (a, b, x, y) : Prog E (A × B × C × D)) >>= f) else ((pure (a', b', x', y') : Prog E (A × B × C × D)) >>= f))
      = f (if c = 1#1 then a else a', if c = 1#1 then b else b', if c = 1#1 then x else x', if c = 1#1 then y else y') := by
  split <;> rfl

set_option maxRecDepth 65536

/-- The end of the first round, the whole second one and the third one's mask. -/
theorem part3_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (v34 : FVec F S4096x256 .f32) (v74 : FVec F S12x4096 .bf16) (v75 : IVec S4096x256 32) (v77 : FVec F S1x256 .f32) :
    k0_part3 i arg2 harg2 arg3 harg3 arg4 harg4 arg5 harg5 arg6 harg6 arg7 harg7 v1 v3 v5 v34 v74 v75 v77
      = pure (let h0 := hit v34 v77
              let g0 := gat v74 (mask h0) zacc
              let d1 := next v75 v34 (selI (tie (most g0)) v75 h0 g0)
              let d2 := nextD v75 v74 d1
              ⟨selV (tieD v74 d1) v75 v1 (hitD d1) (fastX (gatD v74 d1)), selV (tieD v74 d1) v75 v3 (hitD d1) (fastY (gatD v74 d1)), selV (tieD v74 d1) v75 v5 (hitD d1) (fastZ (gatD v74 d1)),
               d2, hitD d2, mask (hitD d2), zacc⟩) := by
  rw [k0_part3_eq_skeleton]; unfold k0_part3_skel
  simp only [branch_four]
  try simp only [branch_three]
  try simp only [branch_one]
  rfl

/-- The end of the third round, the whole fourth one and the fifth one's product. -/
theorem part4_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (v74 : FVec F S12x4096 .bf16) (v75 : IVec S4096x256 32) (v117 : FVec F S4096x256 .f32) (v121 : IVec S4096x256 1) (v124 : FVec F S4096x256 .bf16) (z : FVec F S12x256 .f32) :
    k0_part4 i arg2 harg2 arg3 harg3 arg4 harg4 arg5 harg5 arg6 harg6 arg7 harg7 v1 v3 v5 v74 v75 v117 v121 v124 z
      = pure (let g2 := gat v74 v124 z
              let d3 := next v75 v117 (selI (tie (most g2)) v75 v121 g2)
              let d4 := nextD v75 v74 d3
              ⟨selV (tie (most g2)) v75 v1 v121 (fastX g2), selV (tie (most g2)) v75 v3 v121 (fastY g2), selV (tie (most g2)) v75 v5 v121 (fastZ g2), selV (tieD v74 d3) v75 v1 (hitD d3) (fastX (gatD v74 d3)), selV (tieD v74 d3) v75 v3 (hitD d3) (fastY (gatD v74 d3)), selV (tieD v74 d3) v75 v5 (hitD d3) (fastZ (gatD v74 d3)),
               d4, hitD d4, gatD v74 d4, most (gatD v74 d4)⟩) := by
  rw [k0_part4_eq_skeleton]; unfold k0_part4_skel
  simp only [branch_four]
  try simp only [branch_three]
  try simp only [branch_one]
  rfl

/-- The end of the fifth round, the whole sixth one and the seventh one's decision. -/
theorem part5_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (v74 : FVec F S12x4096 .bf16) (v75 : IVec S4096x256 32) (v159 : FVec F S4096x256 .f32) (v163 : IVec S4096x256 1) (v167 : FVec F S12x256 .f32) (v171 : FVec F S1x1x1 .f32) :
    k0_part5 i arg2 harg2 arg3 harg3 arg4 harg4 arg5 harg5 arg6 harg6 arg7 harg7 v1 v3 v5 v74 v75 v159 v163 v167 v171
      = pure (let d5 := next v75 v159 (selI (tie v171) v75 v163 v167)
              let d6 := nextD v75 v74 d5
              ⟨selV (tie v171) v75 v1 v163 (fastX v167), selV (tie v171) v75 v3 v163 (fastY v167), selV (tie v171) v75 v5 v163 (fastZ v167), selV (tieD v74 d5) v75 v1 (hitD d5) (fastX (gatD v74 d5)), selV (tieD v74 d5) v75 v3 (hitD d5) (fastY (gatD v74 d5)), selV (tieD v74 d5) v75 v5 (hitD d5) (fastZ (gatD v74 d5)),
               d6, hitD d6, gatD v74 d6, tieD v74 d6⟩) := by
  rw [k0_part5_eq_skeleton]; unfold k0_part5_skel
  simp only [branch_four]
  try simp only [branch_three]
  try simp only [branch_one]
  rfl

/-- The end of the seventh round, the last two, and the offsets of five of the picks from the query. -/
theorem part6_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (v7 : FVec F S1x256 .f32) (v74 : FVec F S12x4096 .bf16) (v75 : IVec S4096x256 32) (a b c d e : FVec F S1x256 .f32) (v201 : FVec F S4096x256 .f32) (v205 : IVec S4096x256 1) (v209 : FVec F S12x256 .f32) (v217 : BitVec 1) :
    k0_part6 i arg2 harg2 arg3 harg3 arg4 harg4 arg5 harg5 arg6 harg6 arg7 harg7 v1 v3 v5 v7 v74 v75 a b c d e v201 v205 v209 v217
      = pure (let d7 := next v75 v201 (selI v217 v75 v205 v209)
              let d8 := nextD v75 v74 d7
              ⟨selV v217 v75 v1 v205 (fastX v209), selV v217 v75 v3 v205 (fastY v209), selV v217 v75 v5 v205 (fastZ v209), selV (tieD v74 d7) v75 v1 (hitD d7) (fastX (gatD v74 d7)), selV (tieD v74 d7) v75 v3 (hitD d7) (fastY (gatD v74 d7)), selV (tieD v74 d7) v75 v5 (hitD d7) (fastZ (gatD v74 d7)), selV (tieD v74 d8) v75 v1 (hitD d8) (fastX (gatD v74 d8)), selV (tieD v74 d8) v75 v3 (hitD d8) (fastY (gatD v74 d8)), selV (tieD v74 d8) v75 v5 (hitD d8) (fastZ (gatD v74 d8)),
               subf a v7, subf b v7, subf c v7, subf d v7, subf e v7⟩) := by
  rw [k0_part6_eq_skeleton]; unfold k0_part6_skel
  simp only [branch_four]
  try simp only [branch_three]
  try simp only [branch_one]
  rfl

end Cert.KernelIdeal.Knn

end
-- ==== Proof.KnnFeat.lean ====
/- The first kernel body as plain functions of its blocks: the distances of the keys from the queries, the rounds of
   the search, the ordering of the eight neighbours about the query, the ten features, and the first layer's sums. -/
module

public import proofs.«01_k».proof.Proof.Knn
public import Idealize.ShloMosaic.Lib.Pipeline.FrameBody
public import Idealize.ShloMosaic.Lib.Pointwise.Index

@[expose] public section

noncomputable section

namespace Cert.KernelIdeal.Knn

open Idealize.ShloMosaic Idealize.SL.Sem
open Cert.KernelIdeal.Gen

variable {F : FTy → Type} [FloatOps F]

/-! ## The blocks' rows and columns -/

/-- The keys' coordinate `l`, as a column. -/
def kcol (x0 : Vec F S1x4096x3 .f32) : Fin 3 → FVec F S4096x1 .f32 :=
  ![shapeCast S4096x1 (View.ld x0 (Rect.unit (s := S1x4096x3) ![0, 0, 0] S1x4096x1.size inb_S1x4096x3_S1x4096x1_0_0_0)) shapeCasts_S1x4096x1_S4096x1,
    shapeCast S4096x1 (View.ld x0 (Rect.unit (s := S1x4096x3) ![0, 0, 1] S1x4096x1.size inb_S1x4096x3_S1x4096x1_0_0_1)) shapeCasts_S1x4096x1_S4096x1,
    shapeCast S4096x1 (View.ld x0 (Rect.unit (s := S1x4096x3) ![0, 0, 2] S1x4096x1.size inb_S1x4096x3_S1x4096x1_0_0_2)) shapeCasts_S1x4096x1_S4096x1]

/-- The keys' coordinate `l`, as a row. -/
def krow (x1 : Vec F S1x3x4096 .f32) : Fin 3 → FVec F S1x4096 .f32 :=
  ![shapeCast S1x4096 (View.ld x1 (Rect.unit (s := S1x3x4096) ![0, 0, 0] S1x1x4096.size inb_S1x3x4096_S1x1x4096_0_0_0)) shapeCasts_S1x1x4096_S1x4096,
    shapeCast S1x4096 (View.ld x1 (Rect.unit (s := S1x3x4096) ![0, 1, 0] S1x1x4096.size inb_S1x3x4096_S1x1x4096_0_1_0)) shapeCasts_S1x1x4096_S1x4096,
    shapeCast S1x4096 (View.ld x1 (Rect.unit (s := S1x3x4096) ![0, 2, 0] S1x1x4096.size inb_S1x3x4096_S1x1x4096_0_2_0)) shapeCasts_S1x1x4096_S1x4096]

/-- The queries' coordinate `l`. -/
def qrow (x2 : Vec F S1x3x256 .f32) : Fin 3 → FVec F S1x256 .f32 :=
  ![shapeCast S1x256 (View.ld x2 (Rect.unit (s := S1x3x256) ![0, 0, 0] S1x1x256.size inb_S1x3x256_S1x1x256_0_0_0)) shapeCasts_S1x1x256_S1x256,
    shapeCast S1x256 (View.ld x2 (Rect.unit (s := S1x3x256) ![0, 1, 0] S1x1x256.size inb_S1x3x256_S1x1x256_0_1_0)) shapeCasts_S1x1x256_S1x256,
    shapeCast S1x256 (View.ld x2 (Rect.unit (s := S1x3x256) ![0, 2, 0] S1x1x256.size inb_S1x3x256_S1x1x256_0_2_0)) shapeCasts_S1x1x256_S1x256]

/-- The sum of the squares of three vectors. -/
def sumSq {s : Shape} (a b c : FVec F s .f32) : FVec F s .f32 := addf (addf (mulf a a) (mulf b b)) (mulf c c)

/-- Minus twice the keys' products with the queries. -/
def cross (x0 : Vec F S1x4096x3 .f32) (x2 : Vec F S1x3x256 .f32) : FVec F S4096x256 .f32 :=
  mulf (broadcast S4096x256 (Scalar.ofBits .f32 0xC0000000#32))
    (matmul dot_S4096x3_S3x256_S4096x256_1_0_0_1_n_n none
      (truncf .bf16 (shapeCast S4096x3 (View.ld x0 (Rect.unit (s := S1x4096x3) ![0, 0, 0] S1x4096x3.size inb_S1x4096x3_S1x4096x3_0_0_0)) shapeCasts_S1x4096x3_S4096x3) bitsLt_bf16_f32)
      (truncf .bf16 (shapeCast S3x256 (View.ld x2 (Rect.unit (s := S1x3x256) ![0, 0, 0] S1x3x256.size inb_S1x3x256_S1x3x256_0_0_0)) shapeCasts_S1x3x256_S3x256) bitsLt_bf16_f32)
      (constant S4096x256 .f32 0x00000000#32))

/-- The squared distances of the keys from the queries. -/
def dist0 (x0 : Vec F S1x4096x3 .f32) (x2 : Vec F S1x3x256 .f32) : FVec F S4096x256 .f32 :=
  addf (addf (cross x0 x2) (broadcastTo S4096x256 (sumSq (qrow x2 0) (qrow x2 1) (qrow x2 2)) broadcasts_S1x256_S4096x256))
    (broadcastTo S4096x256 (sumSq (kcol x0 0) (kcol x0 1) (kcol x0 2)) broadcasts_S4096x1_S4096x256)

/-- A row's leading part at the narrow width, -/
def hi {s : Shape} (v : FVec F s .f32) : FVec F s .bf16 := truncf .bf16 v bitsLt_bf16_f32
/-- and what it leaves. -/
def lo {s : Shape} (v : FVec F s .f32) : FVec F s .f32 := subf v (extf .f32 (hi v) bitsLt_bf16_f32)

/-- The keys' numbers in steps of 64, -/
def numHi : FVec F S1x4096 .bf16 :=
  truncf .bf16 (sitofp .f32 (shli (shrsi (iota .tc S1x4096 32 [1] iota_S1x4096_d1_w32) (broadcast S1x4096 6#32)) (broadcast S1x4096 6#32))) bitsLt_bf16_f32
/-- and the rest of them. -/
def numLo : FVec F S1x4096 .bf16 :=
  truncf .bf16 (sitofp .f32 (andi (iota .tc S1x4096 32 [1] iota_S1x4096_d1_w32) (broadcast S1x4096 63#32))) bitsLt_bf16_f32

/-- The table of keys: each coordinate as three narrow parts, a row of ones, the keys' numbers as two parts. -/
def table (x1 : Vec F S1x3x4096 .f32) : FVec F S12x4096 .bf16 :=
  concatenate S12x4096 0 [⟨S1x4096, hi (krow x1 0)⟩, ⟨S1x4096, hi (lo (krow x1 0))⟩, ⟨S1x4096, hi (lo (lo (krow x1 0)))⟩,
      ⟨S1x4096, hi (krow x1 1)⟩, ⟨S1x4096, hi (lo (krow x1 1))⟩, ⟨S1x4096, hi (lo (lo (krow x1 1)))⟩,
      ⟨S1x4096, hi (krow x1 2)⟩, ⟨S1x4096, hi (lo (krow x1 2))⟩, ⟨S1x4096, hi (lo (lo (krow x1 2)))⟩,
      ⟨S1x4096, broadcast S1x4096 (Scalar.ofBits .bf16 0x3F80#16)⟩, ⟨S1x4096, numHi⟩, ⟨S1x4096, numLo⟩]
    concatenates_S1x4096_S1x4096_S1x4096_S1x4096_S1x4096_S1x4096_S1x4096_S1x4096_S1x4096_S1x4096_S1x4096_S1x4096_S12x4096_d0

/-! ## The rounds -/

/-- The keys' numbers down each column. -/
def keys : IVec S4096x256 32 := iota .tc S4096x256 32 [0] iota_S4096x256_d0_w32

/-- The distances at round `r`, from the table `km` and the distances `D`: the picks of the rounds before taken out. -/
def distG (km : FVec F S12x4096 .bf16) (D : FVec F S4096x256 .f32) : ℕ → FVec F S4096x256 .f32
  | 0 => D
  | r + 1 => nextD keys km (distG km D r)

/-- The block's distances at round `r`. -/
def distAt (x0 : Vec F S1x4096x3 .f32) (x1 : Vec F S1x3x4096 .f32) (x2 : Vec F S1x3x256 .f32) : ℕ → FVec F S4096x256 .f32 :=
  distG (table x1) (dist0 x0 x2)

/-- What reads coordinate `l` off the product with the table. -/
def fast : Fin 3 → FVec F S12x256 .f32 → FVec F S1x256 .f32
  | 0 => fastX
  | 1 => fastY
  | 2 => fastZ

/-- Coordinate `l` of round `r`'s pick, the keys' coordinates being `k`. -/
def pickG (k : Fin 3 → FVec F S4096x1 .f32) (km : FVec F S12x4096 .bf16) (D : FVec F S4096x256 .f32) (r : ℕ) (l : Fin 3) : FVec F S1x256 .f32 :=
  selV (tieD km (distG km D r)) keys (k l) (hitD (distG km D r)) (fast l (gatD km (distG km D r)))

/-! ## The neighbours in order about the query -/

/-- Eight rows stacked. -/
def cat8 (f : Fin 8 → FVec F S1x256 .f32) : FVec F S8x256 .f32 :=
  concatenate S8x256 0 [⟨S1x256, f 0⟩, ⟨S1x256, f 1⟩, ⟨S1x256, f 2⟩, ⟨S1x256, f 3⟩, ⟨S1x256, f 4⟩, ⟨S1x256, f 5⟩, ⟨S1x256, f 6⟩, ⟨S1x256, f 7⟩]
    concatenates_S1x256_S1x256_S1x256_S1x256_S1x256_S1x256_S1x256_S1x256_S8x256_d0

/-- The eight neighbours' offsets from the query `q`, in coordinate `l`: the first pick, the query itself, left out. -/
def offsG (k : Fin 3 → FVec F S4096x1 .f32) (q : Fin 3 → FVec F S1x256 .f32) (km : FVec F S12x4096 .bf16) (D : FVec F S4096x256 .f32) (l : Fin 3) : FVec F S8x256 .f32 :=
  cat8 ![subf (pickG k km D 1 l) (q l), subf (pickG k km D 2 l) (q l), subf (pickG k km D 3 l) (q l), subf (pickG k km D 4 l) (q l),
    subf (pickG k km D 5 l) (q l), subf (pickG k km D 6 l) (q l), subf (pickG k km D 7 l) (q l), subf (pickG k km D 8 l) (q l)]

/-- A number near zero moved off it. -/
def off0 (v : FVec F S8x256 .f32) : FVec F S8x256 .f32 :=
  select (cmpf .olt (absf v) (broadcast S8x256 (Scalar.ofBits .f32 0x2EDBE6FF#32))) (addf v (broadcast S8x256 (Scalar.ofBits .f32 0x2EDBE6FF#32))) v

/-- The angle of a point of the plane, as a share of the full turn from the negative axis. -/
def turn (x y : FVec F S8x256 .f32) : FVec F S8x256 .f32 :=
  addf (divf (atan2 (off0 y) (off0 x)) (broadcast S8x256 (Scalar.ofBits .f32 0x40C90FDB#32))) (broadcast S8x256 (Scalar.ofBits .f32 0x3F000000#32))

/-- Row `j` of eight. -/
theorem slices_row (j : Fin 8) : S8x256.Slices ![j.val, 0] S1x256 := by revert j; decide

/-- Row `j` repeated down eight rows. -/
def rowAll (j : Fin 8) (v : FVec F S8x256 .f32) : FVec F S8x256 .f32 :=
  broadcastTo S8x256 (extractStridedSlice S1x256 ![j.val, 0] v (slices_row j)) broadcasts_S1x256_S8x256

/-- The rows' numbers. -/
def rows8 : IVec S8x256 32 := iota .tc S8x256 32 [0] iota_S8x256_d0_w32

/-- Row `j` counted before the rows whose angle is greater, and before those of the same angle that come after it. -/
def count (p : FVec F S8x256 .f32) (j : Fin 8) (r : IVec S8x256 32) : IVec S8x256 32 :=
  addi (addi r (extui 32 (cmpf .ogt p (rowAll j p)) natLt_1_32))
    (extui 32 (andi (cmpf .oeq p (rowAll j p)) (cmpi .sgt rows8 (broadcast S8x256 (BitVec.ofNat 32 j.val)))) natLt_1_32)

/-- Each row's place in the order of the angles. -/
def rank (p : FVec F S8x256 .f32) : IVec S8x256 32 :=
  count p 7 (count p 6 (count p 5 (count p 4 (count p 3 (count p 2 (count p 1 (count p 0 (broadcast S8x256 0#32))))))))

/-- The row of place `t`. -/
def placed (r : IVec S8x256 32) (v : FVec F S8x256 .f32) (t : Fin 8) : FVec F S1x256 .f32 :=
  shapeCast S1x256 (multiReduction .add [0] S256 (select (cmpi .eq r (broadcast S8x256 (BitVec.ofNat 32 t.val))) v (broadcast S8x256 (Scalar.ofBits .f32 0x00000000#32)))
    0x00000000#32 reduces_S8x256_S256 (.inl rfl) rfl) shapeCasts_S256_S1x256

/-- The rows in the order of their places, -/
def ordered (r : IVec S8x256 32) (v : FVec F S8x256 .f32) : FVec F S8x256 .f32 := cat8 ![placed r v 0, placed r v 1, placed r v 2, placed r v 3, placed r v 4, placed r v 5, placed r v 6, placed r v 7]
/-- and from the second place on, the first one last. -/
def orderedNext (r : IVec S8x256 32) (v : FVec F S8x256 .f32) : FVec F S8x256 .f32 :=
  cat8 ![placed r v 1, placed r v 2, placed r v 3, placed r v 4, placed r v 5, placed r v 6, placed r v 7, placed r v 0]

/-! ## The features of a triangle -/

/-- A constant spread over the eight rows. -/
abbrev K8 (b : BitVec 32) : FVec F S8x256 .f32 := broadcast S8x256 (Scalar.ofBits .f32 b)

/-- A component of the cross product. -/
def crossP (a b c d : FVec F S8x256 .f32) : FVec F S8x256 .f32 := subf (mulf a b) (mulf c d)

/-- The length of a vector. -/
def len (a b c : FVec F S8x256 .f32) : FVec F S8x256 .f32 := sqrt (sumSq a b c)

/-- A length to divide by: one where it is next to nothing. -/
def safe (n : FVec F S8x256 .f32) : FVec F S8x256 .f32 := select (cmpf .olt n (K8 0x358637BD#32)) (K8 0x3F800000#32) n

/-- The sign that makes the first triangle's normal point to positive `x`, of each query, -/
def signRow (u : FVec F S8x256 .f32) : FVec F S1x256 .f32 :=
  select (cmpf .ogt (extractStridedSlice S1x256 ![0, 0] u slices_S8x256_o0_0_S1x256) (broadcast S1x256 (Scalar.ofBits .f32 0x00000000#32)))
    (broadcast S1x256 (Scalar.ofBits .f32 0x3F800000#32)) (broadcast S1x256 (Scalar.ofBits .f32 0xBF800000#32))
/-- spread over its triangles. -/
def sign (u : FVec F S8x256 .f32) : FVec F S8x256 .f32 := broadcastTo S8x256 (signRow u) broadcasts_S1x256_S8x256

/-- A third of a sum: a triangle's centre, the query being the origin. -/
def third (a b : FVec F S8x256 .f32) : FVec F S8x256 .f32 := divf (addf a b) (K8 0x40400000#32)

/-- The centre's distance from the query. -/
def rho (x y z : FVec F S8x256 .f32) : FVec F S8x256 .f32 := sqrt (addf (sumSq x y z) (K8 0x2EDBE6FF#32))

/-- The cosine of the centre's inclination, kept within [-1, 1]. -/
def cosInc (z r : FVec F S8x256 .f32) : FVec F S8x256 .f32 :=
  minimumf (K8 0x3F800000#32) (maximumf (K8 0xBF800000#32) (divf z (maximumf r (K8 0x2EDBE6FF#32))))

/-- The inclination, by the two-argument arctangent. -/
def theta (c : FVec F S8x256 .f32) : FVec F S8x256 .f32 :=
  divf (atan2 (sqrt (subf (K8 0x3F800000#32) (mulf c c))) c) (K8 0x40490FDB#32)

/-- A coordinate kept within a million. -/
def clipM (v : FVec F S8x256 .f32) : FVec F S8x256 .f32 := minimumf (K8 0x49742400#32) (maximumf (K8 0xC9742400#32) v)

/-- A component of the normal over its length, a fixed one where the length is next to nothing. -/
def unitOr (b : BitVec 32) (n u : FVec F S8x256 .f32) : FVec F S8x256 .f32 :=
  select (cmpf .olt n (K8 0x358637BD#32)) (K8 b) (divf u (maximumf n (K8 0x358637BD#32)))

/-- The plane's offset: the normal times the centre, over a constant. -/
def plane (ux uy uz cx cy cz : FVec F S8x256 .f32) : FVec F S8x256 .f32 :=
  divf (addf (addf (mulf (unitOr 0x3F800000#32 (len ux uy uz) ux) (clipM cx)) (mulf (unitOr 0x00000000#32 (len ux uy uz) uy) (clipM cy)))
    (mulf (unitOr 0x00000000#32 (len ux uy uz) uz) (clipM cz))) (K8 0x3FDDB3E0#32)

/-- The ten features, of eight triangles with corners `s` and `r` beside the query. -/
def feats (sx sy sz rx ry rz : FVec F S8x256 .f32) : Fin 10 → FVec F S8x256 .f32 :=
  let nx := crossP sy rz sz ry
  let ny := crossP sz rx sx rz
  let nz := crossP sx ry sy rx
  let n := safe (len nx ny nz)
  let sg := sign (divf nx n)
  let ux := mulf (divf nx n) sg
  let uy := mulf (divf ny n) sg
  let uz := mulf (divf nz n) sg
  let cx := third sx rx
  let cy := third sy ry
  let cz := third sz rz
  let r := rho cx cy cz
  ![r, theta (cosInc cz r), turn cx cy, ux, uy, uz, plane ux uy uz cx cy cz, cx, cy, cz]

/-- The ten features of eight offsets. -/
def featO (gx gy gz : FVec F S8x256 .f32) : Fin 10 → FVec F S8x256 .f32 :=
  feats (ordered (rank (turn gx gy)) gx) (ordered (rank (turn gx gy)) gy) (ordered (rank (turn gx gy)) gz)
    (orderedNext (rank (turn gx gy)) gx) (orderedNext (rank (turn gx gy)) gy) (orderedNext (rank (turn gx gy)) gz)

/-- The ten features, from keys, queries, table and distances. -/
def featG (k : Fin 3 → FVec F S4096x1 .f32) (q : Fin 3 → FVec F S1x256 .f32) (km : FVec F S12x4096 .bf16) (D : FVec F S4096x256 .f32) : Fin 10 → FVec F S8x256 .f32 :=
  featO (offsG k q km D 0) (offsG k q km D 1) (offsG k q km D 2)

/-- The block's ten features. -/
def feat (x0 : Vec F S1x4096x3 .f32) (x1 : Vec F S1x3x4096 .f32) (x2 : Vec F S1x3x256 .f32) : Fin 10 → FVec F S8x256 .f32 :=
  featG (kcol x0) (qrow x2) (table x1) (dist0 x0 x2)

/-- The block of features the body leaves. -/
def featBlock (x0 : Vec F S1x4096x3 .f32) (x1 : Vec F S1x3x4096 .f32) (x2 : Vec F S1x3x256 .f32) : Vec F S1x10x8x256 .f32 :=
  fun y => feat x0 x1 x2 (y 1) (ix2 (y 2) (y 3))

/-! ## A layer and its sums -/

/-- A vector through the narrow width and back. -/
def narrow {s : Shape} (v : FVec F s .f32) : FVec F s .f32 := extf .f32 (truncf .bf16 v bitsLt_bf16_f32) bitsLt_bf16_f32

/-- Entry `(d, c)` of the weights. -/
theorem slices_entry (d c : Fin 10) : S10x10.Slices ![d.val, c.val] S1x1 := by revert d c; decide

/-- A vector times entry `(d, c)` of the weights. -/
def term (w : FVec F S10x10 .f32) (f : Fin 10 → FVec F S8x256 .f32) (d c : Fin 10) : FVec F S8x256 .f32 :=
  mulf (narrow (f c)) (broadcastTo S8x256 (extractStridedSlice S1x1 ![d.val, c.val] w (slices_entry d c)) broadcasts_S1x1_S8x256)

/-- Output `d` of the layer of weights `w`, already narrowed. -/
def layer (w : FVec F S10x10 .f32) (f : Fin 10 → FVec F S8x256 .f32) (d : Fin 10) : FVec F S8x256 .f32 :=
  addf (addf (addf (addf (addf (addf (addf (addf (addf (term w f d 0) (term w f d 1)) (term w f d 2)) (term w f d 3)) (term w f d 4)) (term w f d 5))
    (term w f d 6)) (term w f d 7)) (term w f d 8)) (term w f d 9)

/-- The sum of all of a block's numbers, spread over one element. -/
def total (v : FVec F S8x256 .f32) : FVec F S1x1 .f32 :=
  broadcast S1x1 (extractAt ![0, 0, 0] (shapeCast S1x1x1 (multiReduction .add [1, 2] S1 (shapeCast S1x8x256 v shapeCasts_S8x256_S1x8x256) 0x00000000#32 reduces_S1x8x256_S1 (.inl rfl) rfl)
    shapeCasts_S1_S1x1x1) inpos_S1x1x1_p0_0_0)

/-- What the sums gain at row `d`: at column 0 the block's sum, at column 1 the sum of its squares. -/
def gain (f : Fin 10 → FVec F S8x256 .f32) (d : Fin 10) (l : Fin 2) : FVec F S1x1 .f32 :=
  ![total (f d), total (mulf (f d) (f d))] l

/-- The only entry of a one-element vector. -/
def one11 : S1x1.Idx := ix2 0 0

/-- The sums after a block: rows 0 to 9 of columns 0 and 1 have gained the block's, the rest is as it was. -/
def accBlock (f : Fin 10 → FVec F S8x256 .f32) (x : Vec F S16x128 .f32) : Vec F S16x128 .f32 :=
  fun y => if hd : (y 0).val < 10 then
      if hl : (y 1).val < 2 then FloatOps.addf (x y) (gain f ⟨(y 0).val, hd⟩ ⟨(y 1).val, hl⟩ one11)
      else x y
    else x y

end Cert.KernelIdeal.Knn

end
-- ==== Proof.Stores.lean ====
/- What the stores of the kernel bodies leave in a staging buffer, read back: ten planes of a block of features,
   and two columns of ten sums. -/
module

public import proofs.«01_k».proof.Proof.KnnFeat
public import Idealize.ShloMosaic.Lib.WritesUnit
public import Idealize.ShloMosaic.Lib.Pipeline.Value

@[expose] public section

noncomputable section

namespace Cert.KernelIdeal.Knn

open Idealize.ShloMosaic Idealize.SL.Sem
open Cert.KernelIdeal.Gen

variable {F : FTy → Type} [FloatOps F]

/-! ## Ten planes -/

/-- Plane `d` lies in the block. -/
theorem inb_plane (d : Fin 10) : ∀ a, (![0, d.val, 0, 0] : Fin 4 → ℕ) a + S1x1x8x256.size a ≤ S1x10x8x256.size a := by
  revert d; decide

/-- The stores of the ten planes, newest first. -/
def planes (P : Fin 10 → Vec F S1x1x8x256 .f32) : List (View.Piece (Elt F) S1x10x8x256 .f32) :=
  View.tilePieces (s := S1x10x8x256) S1x1x8x256.size (fun d : Fin 10 => ![0, d.val, 0, 0]) inb_plane P 10 le_rfl

/-- The planes' stores leave plane `d` at its payload. -/
theorem read_planes {sp : Space} (v : View sig .tc sp S1x10x8x256 .f32) (f : v.ty.Contents (Elt F)) (P : Fin 10 → Vec F S1x1x8x256 .f32) :
    v.read (Elt F) (v.writes (Elt F) f (planes P)) = fun y => P (y 1) (ix4 0 0 (y 2) (y 3)) := by
  funext y
  refine View.read_tilePieces v f _ _ inb_plane P 10 le_rfl y (y 1) (y 1).isLt (ix4 0 0 (y 2) (y 3)) (fun a => ?_) 1 fun i' hi' => ?_
  · have h0 : (y 0).val = 0 := Nat.lt_one_iff.mp (y 0).isLt
    fin_cases a <;> simp [h0]
  · have hne : i'.val ≠ (y 1).val := fun h => hi' (Fin.ext h)
    show (y 1).val < i'.val ∨ i'.val + 1 ≤ (y 1).val
    omega

/-- A plane seen as a rank-four block of one plane. -/
theorem plane_apply (v : FVec F S8x256 .f32) (a : Fin 8) (b : Fin 256) :
    shapeCast S1x1x8x256 v shapeCasts_S8x256_S1x1x8x256 (ix4 0 0 a b) = v (ix2 a b) :=
  shapeCast_apply v _ _ _ (by rw [Shape.rowMajor_val_two, Shape.rowMajor_val_four]; simp)

/-! ## Two columns of ten -/

/-- Entry `(d, l)` lies in the buffer of sums. -/
theorem inb_acc (d : Fin 10) (l : Fin 2) : ∀ a, (![d.val, l.val] : Fin 2 → ℕ) a + S1x1.size a ≤ S16x128.size a := by
  revert d l; decide

/-- The stores of the first `j` rows of sums, newest first. -/
def accPieces (P : Fin 10 → Fin 2 → Vec F S1x1 .f32) : (j : ℕ) → j ≤ 10 → List (View.Piece (Elt F) S16x128 .f32)
  | 0, _ => []
  | j + 1, hj => ⟨Rect.unit (s := S16x128) ![j, 1] S1x1.size (inb_acc ⟨j, hj⟩ 1), P ⟨j, hj⟩ 1⟩
      :: ⟨Rect.unit (s := S16x128) ![j, 0] S1x1.size (inb_acc ⟨j, hj⟩ 0), P ⟨j, hj⟩ 0⟩ :: accPieces P j (Nat.le_of_succ_le hj)

/-- The sums' stores leave the first `j` rows of the two columns at their payloads and the rest as it was. -/
theorem read_accPieces {sp : Space} (v : View sig .tc sp S16x128 .f32) (f : v.ty.Contents (Elt F)) (P : Fin 10 → Fin 2 → Vec F S1x1 .f32)
    (y : S16x128.Idx) : ∀ (j : ℕ) (hj : j ≤ 10), v.read (Elt F) (v.writes (Elt F) f (accPieces P j hj)) y
      = if hd : (y 0).val < j then
          if hl : (y 1).val < 2 then P ⟨(y 0).val, hd.trans_le hj⟩ ⟨(y 1).val, hl⟩ one11 else v.read (Elt F) f y
        else v.read (Elt F) f y
  | 0, _ => rfl
  | j + 1, hj => by
    have ih := read_accPieces v f P y j (Nat.le_of_succ_le hj)
    have hmiss : ∀ (l : Fin 2) (w : Vec F S1x1 .f32) (L : List (View.Piece (Elt F) S16x128 .f32)), ((y 0).val ≠ j ∨ (y 1).val ≠ l.val) →
        v.read (Elt F) (v.writes (Elt F) f (⟨Rect.unit (s := S16x128) ![j, l.val] S1x1.size (inb_acc ⟨j, hj⟩ l), w⟩ :: L)) y
          = v.read (Elt F) (v.writes (Elt F) f L) y := fun l w L h => by
      rcases h with h | h
      · exact View.read_writes_cons_unit_of_not_mem v f (inb_acc ⟨j, hj⟩ l) w L y rfl 0 (by
          show (y 0).val < j ∨ j + 1 ≤ (y 0).val
          omega)
      · exact View.read_writes_cons_unit_of_not_mem v f (inb_acc ⟨j, hj⟩ l) w L y rfl 1 (by
          show (y 1).val < l.val ∨ l.val + 1 ≤ (y 1).val
          omega)
    have hhit : ∀ (l : Fin 2) (w : Vec F S1x1 .f32) (L : List (View.Piece (Elt F) S16x128 .f32)), (y 0).val = j → (y 1).val = l.val →
        v.read (Elt F) (v.writes (Elt F) f (⟨Rect.unit (s := S16x128) ![j, l.val] S1x1.size (inb_acc ⟨j, hj⟩ l), w⟩ :: L)) y = w one11 := fun l w L h0 h1 =>
      View.read_writes_cons_unit_of_mem v f (inb_acc ⟨j, hj⟩ l) w L y one11 rfl fun a => by
        fin_cases a
        · show (y 0).val = j + 0
          omega
        · show (y 1).val = l.val + 0
          omega
    by_cases h0 : (y 0).val = j
    · by_cases h1 : (y 1).val = 1
      · refine (hhit 1 _ _ h0 h1).trans ?_
        rw [dif_pos (by omega), dif_pos (by omega)]
        have e0 : (⟨j, hj⟩ : Fin 10) = ⟨(y 0).val, by omega⟩ := Fin.ext h0.symm
        have e1 : (1 : Fin 2) = ⟨(y 1).val, by omega⟩ := Fin.ext h1.symm
        rw [← e0, ← e1]
      · by_cases h2 : (y 1).val = 0
        · refine (hmiss 1 _ _ (.inr h1)).trans ((hhit 0 _ _ h0 h2).trans ?_)
          rw [dif_pos (by omega), dif_pos (by omega)]
          have e0 : (⟨j, hj⟩ : Fin 10) = ⟨(y 0).val, by omega⟩ := Fin.ext h0.symm
          have e1 : (0 : Fin 2) = ⟨(y 1).val, by omega⟩ := Fin.ext h2.symm
          rw [← e0, ← e1]
        · refine (hmiss 1 _ _ (.inr h1)).trans ((hmiss 0 _ _ (.inr h2)).trans (ih.trans ?_))
          rw [dif_neg (by omega), dif_pos (by omega), dif_neg (by omega)]
    · refine (hmiss 1 _ _ (.inl h0)).trans ((hmiss 0 _ _ (.inl h0)).trans (ih.trans ?_))
      by_cases h3 : (y 0).val < j
      · have h4 : (y 0).val < j + 1 := by omega
        rw [dif_pos h3, dif_pos h4]
      · rw [dif_neg h3, dif_neg (by omega)]

end Cert.KernelIdeal.Knn

end
-- ==== Proof.KnnParts.lean ====
/- The printed stretches of the first kernel body that order the neighbours and form the features, as pure values
   in the vocabulary of the features. -/
module

public import proofs.«01_k».proof.Proof.KnnFeat

@[expose] public section

noncomputable section

namespace Cert.KernelIdeal.Knn

open Idealize.ShloMosaic Idealize.SL.Sem
open Cert.KernelIdeal.Gen

variable {F : FTy → Type} [FloatOps F]

set_option maxRecDepth 65536

/-- Where row `j`'s angle is met. -/
def same (p : FVec F S8x256 .f32) (j : Fin 8) : IVec S8x256 1 := cmpf .oeq p (rowAll j p)
/-- Row `j` counted before greater angles. -/
def countGt (p : FVec F S8x256 .f32) (j : Fin 8) (r : IVec S8x256 32) : IVec S8x256 32 := addi r (extui 32 (cmpf .ogt p (rowAll j p)) natLt_1_32)
/-- Row `j` counted before later rows of the same angle. -/
def countEq (io : IVec S8x256 32) (h : IVec S8x256 1) (j : Fin 8) : IVec S8x256 32 :=
  extui 32 (andi h (cmpi .sgt io (broadcast S8x256 (BitVec.ofNat 32 j.val)))) natLt_1_32
/-- One row counted. -/
def count' (p : FVec F S8x256 .f32) (io : IVec S8x256 32) (j : Fin 8) (r : IVec S8x256 32) : IVec S8x256 32 :=
  addi (countGt p j r) (countEq io (same p j) j)
/-- The rows picked by a mask, added up. -/
def sumBy (h : IVec S8x256 1) (v z : FVec F S8x256 .f32) : FVec F S1x256 .f32 :=
  shapeCast S1x256 (multiReduction .add [0] S256 (select h v z) 0x00000000#32 reduces_S8x256_S256 (.inl rfl) rfl) shapeCasts_S256_S1x256
/-- Where the place is `t`. -/
def atPlace (r : IVec S8x256 32) (t : Fin 8) : IVec S8x256 1 := cmpi .eq r (broadcast S8x256 (BitVec.ofNat 32 t.val))

/-- The rows of the second place, the others nought. -/
def sel1 (r : IVec S8x256 32) (v : FVec F S8x256 .f32) : FVec F S8x256 .f32 := select (atPlace r 1) v (K8 0x00000000#32)
/-- The mask of numbers near zero, -/
def tiny (v : FVec F S8x256 .f32) : IVec S8x256 1 := cmpf .olt (absf v) (K8 0x2EDBE6FF#32)
/-- and the numbers moved off it. -/
def bump (v : FVec F S8x256 .f32) : FVec F S8x256 .f32 := addf v (K8 0x2EDBE6FF#32)
/-- The first six rows counted, but for the ties of the sixth. -/
def cnt5 (p : FVec F S8x256 .f32) : IVec S8x256 32 := countGt p 5 (count p 4 (count p 3 (count p 2 (count p 1 (count p 0 (broadcast S8x256 0#32))))))
/-- The normals over their lengths, before the sign. -/
def nrm (sx sy sz rx ry rz : FVec F S8x256 .f32) : Fin 3 → FVec F S8x256 .f32 :=
  ![divf (crossP sy rz sz ry) (safe (len (crossP sy rz sz ry) (crossP sz rx sx rz) (crossP sx ry sy rx))),
    divf (crossP sz rx sx rz) (safe (len (crossP sy rz sz ry) (crossP sz rx sx rz) (crossP sx ry sy rx))),
    divf (crossP sx ry sy rx) (safe (len (crossP sy rz sz ry) (crossP sz rx sx rz) (crossP sx ry sy rx)))]

/-- The offsets of the neighbours, their angles, and the first row half counted. -/
theorem part7_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v7 v9 v11 v113_1 v113_2 v134_1 v134_2 v155_1 v155_2 v176_1 v176_2 v197_1 v197_2 v218_0 v218_1 v218_2 v239_0 v239_1 v239_2 v260_0 v260_1 v260_2 v261 v262 v263 v264 v265 : FVec F S1x256 .f32) :
    k0_part7 i arg2 harg2 arg3 harg3 arg4 harg4 arg5 harg5 arg6 harg6 arg7 harg7 v7 v9 v11 v113_1 v113_2 v134_1 v134_2 v155_1 v155_2 v176_1 v176_2 v197_1 v197_2 v218_0 v218_1 v218_2 v239_0 v239_1 v239_2 v260_0 v260_1 v260_2 v261 v262 v263 v264 v265
      = pure (let gx := cat8 ![v261, v262, v263, v264, v265, subf v218_0 v7, subf v239_0 v7, subf v260_0 v7]
        let gy := cat8 ![subf v113_1 v9, subf v134_1 v9, subf v155_1 v9, subf v176_1 v9, subf v197_1 v9, subf v218_1 v9, subf v239_1 v9, subf v260_1 v9]
        let gz := cat8 ![subf v113_2 v11, subf v134_2 v11, subf v155_2 v11, subf v176_2 v11, subf v197_2 v11, subf v218_2 v11, subf v239_2 v11, subf v260_2 v11]
        let p := turn gx gy
        ⟨gx, gy, gz, p, rows8, countGt p 0 (broadcast S8x256 0#32), countEq rows8 (same p 0) 0⟩) := by
  rw [k0_part7_eq_skeleton]; rfl

/-- Four rows counted and the sixth begun. -/
theorem part8_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v304 : FVec F S8x256 .f32) (v305 v311 v317 : IVec S8x256 32) :
    k0_part8 i arg2 harg2 arg3 harg3 arg4 harg4 arg5 harg5 arg6 harg6 arg7 harg7 v304 v305 v311 v317
      = pure (⟨countGt v304 5 (count' v304 v305 4 (count' v304 v305 3 (count' v304 v305 2 (count' v304 v305 1 (addi v311 v317))))), same v304 5⟩) := by
  rw [k0_part8_eq_skeleton]; rfl

/-- The last rows counted; the first place's row. -/
theorem part9_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v269 v278 v287 v304 : FVec F S8x256 .f32) (v305 v371 : IVec S8x256 32) (v373 : IVec S8x256 1) :
    k0_part9 i arg2 harg2 arg3 harg3 arg4 harg4 arg5 harg5 arg6 harg6 arg7 harg7 v269 v278 v287 v304 v305 v371 v373
      = pure (let r := count' v304 v305 7 (count' v304 v305 6 (addi v371 (countEq v305 v373 5)))
        ⟨r, placed r v269 0, placed r v278 0, placed r v287 0, atPlace r 1, select (atPlace r 1) v269 (K8 0x00000000#32)⟩) := by
  rw [k0_part9_eq_skeleton]; rfl

/-- The rows of the second to the fourth place. -/
theorem part10_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v269 v278 v287 : FVec F S8x256 .f32) (v402 : IVec S8x256 32) (v418 : IVec S8x256 1) (v420 : FVec F S8x256 .f32) :
    k0_part10 i arg2 harg2 arg3 harg3 arg4 harg4 arg5 harg5 arg6 harg6 arg7 harg7 v269 v278 v287 v402 v418 v420
      = pure (⟨shapeCast S1x256 (multiReduction .add [0] S256 v420 0x00000000#32 reduces_S8x256_S256 (.inl rfl) rfl) shapeCasts_S256_S1x256,
        sumBy v418 v278 (K8 0x00000000#32), sumBy v418 v287 (K8 0x00000000#32), placed v402 v269 2, placed v402 v278 2, placed v402 v287 2,
        placed v402 v269 3, placed v402 v278 3, placed v402 v287 3, atPlace v402 4, Scalar.ofBits .f32 0x00000000#32⟩) := by
  rw [k0_part10_eq_skeleton]; rfl

/-- The rows of the fifth to the seventh place. -/
theorem part11_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v269 v278 v287 : FVec F S8x256 .f32) (v402 : IVec S8x256 32) (v460 : IVec S8x256 1) (cst_123 : F .f32) :
    k0_part11 i arg2 harg2 arg3 harg3 arg4 harg4 arg5 harg5 arg6 harg6 arg7 harg7 v269 v278 v287 v402 v460 cst_123
      = pure (⟨sumBy v460 v269 (broadcast S8x256 cst_123), sumBy v460 v278 (K8 0x00000000#32), sumBy v460 v287 (K8 0x00000000#32), placed v402 v269 5, placed v402 v278 5, placed v402 v287 5,
        placed v402 v269 6, placed v402 v278 6, placed v402 v287 6, 7#32⟩) := by
  rw [k0_part11_eq_skeleton]; rfl

/-- The triangles' corners and their normals before the sign. -/
theorem part12_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v269 v278 v287 : FVec F S8x256 .f32) (v402 : IVec S8x256 32) (v408 v412 v416 v422 v426 v430 v436 v440 v444 v450 v454 v458 v464 v468 v472 v478 v482 v486 v492 v496 v500 : FVec F S1x256 .f32) (c7_i32_143 : BitVec 32) :
    k0_part12 i arg2 harg2 arg3 harg3 arg4 harg4 arg5 harg5 arg6 harg6 arg7 harg7 v269 v278 v287 v402 v408 v412 v416 v422 v426 v430 v436 v440 v444 v450 v454 v458 v464 v468 v472 v478 v482 v486 v492 v496 v500 c7_i32_143
      = pure (let sx := cat8 ![v408, v422, v436, v450, v464, v478, v492, sumBy (cmpi .eq v402 (broadcast S8x256 c7_i32_143)) v269 (K8 0x00000000#32)]
        let sy := cat8 ![v412, v426, v440, v454, v468, v482, v496, sumBy (cmpi .eq v402 (broadcast S8x256 c7_i32_143)) v278 (K8 0x00000000#32)]
        let sz := cat8 ![v416, v430, v444, v458, v472, v486, v500, sumBy (cmpi .eq v402 (broadcast S8x256 c7_i32_143)) v287 (K8 0x00000000#32)]
        let rx := cat8 ![v422, v436, v450, v464, v478, v492, sumBy (cmpi .eq v402 (broadcast S8x256 c7_i32_143)) v269 (K8 0x00000000#32), v408]
        let ry := cat8 ![v426, v440, v454, v468, v482, v496, sumBy (cmpi .eq v402 (broadcast S8x256 c7_i32_143)) v278 (K8 0x00000000#32), v412]
        let rz := cat8 ![v430, v444, v458, v472, v486, v500, sumBy (cmpi .eq v402 (broadcast S8x256 c7_i32_143)) v287 (K8 0x00000000#32), v416]
        let nx := crossP sy rz sz ry
        let ny := crossP sz rx sx rz
        let nz := crossP sx ry sy rx
        let n := safe (len nx ny nz)
        ⟨sx, sy, sz, rx, ry, rz, divf nx n, divf ny n, divf nz n, signRow (divf nx n), sign (divf nx n)⟩) := by
  rw [k0_part12_eq_skeleton]; rfl

/-- The normals, the centres, their distances and inclinations. -/
theorem part13_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v515 v516 v517 v518 v519 v520 v540 v541 v542 : FVec F S8x256 .f32) (v548 : FVec F S1x256 .f32) (v549 : FVec F S8x256 .f32) :
    k0_part13 i arg2 harg2 arg3 harg3 arg4 harg4 arg5 harg5 arg6 harg6 arg7 harg7 v515 v516 v517 v518 v519 v520 v540 v541 v542 v548 v549
      = pure (let cx := third v515 v518
        let cy := third v516 v519
        let cz := third v517 v520
        let r := rho cx cy cz
        ⟨mulf v540 v549, mulf v541 (broadcastTo S8x256 v548 broadcasts_S1x256_S8x256), mulf v542 (broadcastTo S8x256 v548 broadcasts_S1x256_S8x256),
          cx, cy, cz, r, theta (cosInc cz r), off0 cx, cmpf .olt (absf cy) (K8 0x2EDBE6FF#32), addf cy (K8 0x2EDBE6FF#32)⟩) := by
  rw [k0_part13_eq_skeleton]; rfl

/-- The centres' angles and the planes' offsets. -/
theorem part14_pure (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v550 v552 v554 v557 v560 v563 v591 : FVec F S8x256 .f32) (v594 : IVec S8x256 1) (v596 : FVec F S8x256 .f32) :
    k0_part14 i arg2 harg2 arg3 harg3 arg4 harg4 arg5 harg5 arg6 harg6 arg7 harg7 v550 v552 v554 v557 v560 v563 v591 v594 v596
      = pure (⟨addf (divf (atan2 (select v594 v596 v560) v591) (K8 0x40C90FDB#32)) (K8 0x3F000000#32), plane v550 v552 v554 v557 v560 v563⟩) := by
  rw [k0_part14_eq_skeleton]; rfl

/-! ## The stretches in the block's own terms -/

/-- The second pick, and the third round begun. -/
theorem part3_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (km : FVec F S12x4096 .bf16) (a : FVec F S4096x1 .f32) (b e : FVec F S4096x256 .f32) :
    k0_part3 i arg2 harg2 arg3 harg3 arg4 harg4 arg5 harg5 arg6 harg6 arg7 harg7 v1 v3 v5 (k0_pay13 a b e) km (iota .tc S4096x256 32 [0] iota_S4096x256_d0_w32) (k0_pay15 a b e)
      = pure ⟨pickG ![v1, v3, v5] km (k0_pay13 a b e) 1 0, pickG ![v1, v3, v5] km (k0_pay13 a b e) 1 1, pickG ![v1, v3, v5] km (k0_pay13 a b e) 1 2, distG km (k0_pay13 a b e) 2, hitD (distG km (k0_pay13 a b e) 2), mask (hitD (distG km (k0_pay13 a b e) 2)), zacc⟩ :=
  (part3_pure i arg2 harg2 arg3 harg3 arg4 harg4 arg5 harg5 arg6 harg6 arg7 harg7 _ _ _ _ _ _ _).trans rfl

/-- The third and the fourth pick, and the fifth round begun. -/
theorem part4_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (km : FVec F S12x4096 .bf16) (D : FVec F S4096x256 .f32) :
    k0_part4 i arg2 harg2 arg3 harg3 arg4 harg4 arg5 harg5 arg6 harg6 arg7 harg7 v1 v3 v5 km (iota .tc S4096x256 32 [0] iota_S4096x256_d0_w32) (distG km D 2) (hitD (distG km D 2)) (mask (hitD (distG km D 2))) zacc
      = pure ⟨pickG ![v1, v3, v5] km D 2 0, pickG ![v1, v3, v5] km D 2 1, pickG ![v1, v3, v5] km D 2 2, pickG ![v1, v3, v5] km D 3 0, pickG ![v1, v3, v5] km D 3 1, pickG ![v1, v3, v5] km D 3 2, distG km D 4, hitD (distG km D 4), gatD km (distG km D 4), most (gatD km (distG km D 4))⟩ :=
  (part4_pure i arg2 harg2 arg3 harg3 arg4 harg4 arg5 harg5 arg6 harg6 arg7 harg7 _ _ _ _ _ _ _ _ _).trans rfl

/-- The fifth and the sixth pick, and the seventh round begun. -/
theorem part5_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (km : FVec F S12x4096 .bf16) (D : FVec F S4096x256 .f32) :
    k0_part5 i arg2 harg2 arg3 harg3 arg4 harg4 arg5 harg5 arg6 harg6 arg7 harg7 v1 v3 v5 km (iota .tc S4096x256 32 [0] iota_S4096x256_d0_w32) (distG km D 4) (hitD (distG km D 4)) (gatD km (distG km D 4)) (most (gatD km (distG km D 4)))
      = pure ⟨pickG ![v1, v3, v5] km D 4 0, pickG ![v1, v3, v5] km D 4 1, pickG ![v1, v3, v5] km D 4 2, pickG ![v1, v3, v5] km D 5 0, pickG ![v1, v3, v5] km D 5 1, pickG ![v1, v3, v5] km D 5 2, distG km D 6, hitD (distG km D 6), gatD km (distG km D 6), tieD km (distG km D 6)⟩ :=
  (part5_pure i arg2 harg2 arg3 harg3 arg4 harg4 arg5 harg5 arg6 harg6 arg7 harg7 _ _ _ _ _ _ _ _ _).trans rfl

/-- The last three picks, and five of the offsets. -/
theorem part6_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (v1 v3 v5 : FVec F S4096x1 .f32) (km : FVec F S12x4096 .bf16) (D : FVec F S4096x256 .f32) (v7 x1 x2 x3 x4 x5 : FVec F S1x256 .f32) :
    k0_part6 i arg2 harg2 arg3 harg3 arg4 harg4 arg5 harg5 arg6 harg6 arg7 harg7 v1 v3 v5 v7 km (iota .tc S4096x256 32 [0] iota_S4096x256_d0_w32) x1 x2 x3 x4 x5 (distG km D 6) (hitD (distG km D 6)) (gatD km (distG km D 6)) (tieD km (distG km D 6))
      = pure ⟨pickG ![v1, v3, v5] km D 6 0, pickG ![v1, v3, v5] km D 6 1, pickG ![v1, v3, v5] km D 6 2, pickG ![v1, v3, v5] km D 7 0, pickG ![v1, v3, v5] km D 7 1, pickG ![v1, v3, v5] km D 7 2, pickG ![v1, v3, v5] km D 8 0, pickG ![v1, v3, v5] km D 8 1, pickG ![v1, v3, v5] km D 8 2, subf x1 v7, subf x2 v7, subf x3 v7, subf x4 v7, subf x5 v7⟩ :=
  (part6_pure i arg2 harg2 arg3 harg3 arg4 harg4 arg5 harg5 arg6 harg6 arg7 harg7 _ _ _ _ _ _ _ _ _ _ _ _ _ _ _).trans rfl

/-- The offsets, their angles, and the first row half counted. -/
theorem part7_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (k : Fin 3 → FVec F S4096x1 .f32) (km : FVec F S12x4096 .bf16) (D : FVec F S4096x256 .f32) (v7 v9 v11 : FVec F S1x256 .f32) :
    k0_part7 i arg2 harg2 arg3 harg3 arg4 harg4 arg5 harg5 arg6 harg6 arg7 harg7 v7 v9 v11 (pickG k km D 1 1) (pickG k km D 1 2) (pickG k km D 2 1) (pickG k km D 2 2) (pickG k km D 3 1) (pickG k km D 3 2) (pickG k km D 4 1) (pickG k km D 4 2) (pickG k km D 5 1) (pickG k km D 5 2) (pickG k km D 6 0) (pickG k km D 6 1) (pickG k km D 6 2) (pickG k km D 7 0) (pickG k km D 7 1) (pickG k km D 7 2) (pickG k km D 8 0) (pickG k km D 8 1) (pickG k km D 8 2) (subf (pickG k km D 1 0) v7) (subf (pickG k km D 2 0) v7) (subf (pickG k km D 3 0) v7) (subf (pickG k km D 4 0) v7) (subf (pickG k km D 5 0) v7)
      = pure ⟨(offsG k ![v7, v9, v11] km D 0), (offsG k ![v7, v9, v11] km D 1), (offsG k ![v7, v9, v11] km D 2), (turn (offsG k ![v7, v9, v11] km D 0) (offsG k ![v7, v9, v11] km D 1)), rows8, countGt (turn (offsG k ![v7, v9, v11] km D 0) (offsG k ![v7, v9, v11] km D 1)) 0 (broadcast S8x256 0#32), countEq rows8 (same (turn (offsG k ![v7, v9, v11] km D 0) (offsG k ![v7, v9, v11] km D 1)) 0) 0⟩ :=
  (part7_pure i arg2 harg2 arg3 harg3 arg4 harg4 arg5 harg5 arg6 harg6 arg7 harg7 _ _ _ _ _ _ _ _ _ _ _ _ _ _ _ _ _ _ _ _ _ _ _ _ _ _ _).trans rfl

/-- Five rows counted. -/
theorem part8_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (p : FVec F S8x256 .f32) :
    k0_part8 i arg2 harg2 arg3 harg3 arg4 harg4 arg5 harg5 arg6 harg6 arg7 harg7 p rows8 (countGt p 0 (broadcast S8x256 0#32)) (countEq rows8 (same p 0) 0)
      = pure ⟨cnt5 p, same p 5⟩ :=
  (part8_pure i arg2 harg2 arg3 harg3 arg4 harg4 arg5 harg5 arg6 harg6 arg7 harg7 _ _ _ _).trans rfl

/-- All rows counted; the first place. -/
theorem part9_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (gx gy gz p : FVec F S8x256 .f32) :
    k0_part9 i arg2 harg2 arg3 harg3 arg4 harg4 arg5 harg5 arg6 harg6 arg7 harg7 gx gy gz p rows8 (cnt5 p) (same p 5)
      = pure ⟨rank p, placed (rank p) gx 0, placed (rank p) gy 0, placed (rank p) gz 0, atPlace (rank p) 1, sel1 (rank p) gx⟩ :=
  (part9_pure i arg2 harg2 arg3 harg3 arg4 harg4 arg5 harg5 arg6 harg6 arg7 harg7 _ _ _ _ _ _ _).trans rfl

/-- The second to the fourth place. -/
theorem part10_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (gx gy gz : FVec F S8x256 .f32) (r : IVec S8x256 32) :
    k0_part10 i arg2 harg2 arg3 harg3 arg4 harg4 arg5 harg5 arg6 harg6 arg7 harg7 gx gy gz r (atPlace r 1) (sel1 r gx)
      = pure ⟨placed r gx 1, placed r gy 1, placed r gz 1, placed r gx 2, placed r gy 2, placed r gz 2, placed r gx 3, placed r gy 3, placed r gz 3, atPlace r 4, Scalar.ofBits .f32 0x00000000#32⟩ :=
  (part10_pure i arg2 harg2 arg3 harg3 arg4 harg4 arg5 harg5 arg6 harg6 arg7 harg7 _ _ _ _ _ _).trans rfl

/-- The fifth to the seventh place. -/
theorem part11_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (gx gy gz : FVec F S8x256 .f32) (r : IVec S8x256 32) :
    k0_part11 i arg2 harg2 arg3 harg3 arg4 harg4 arg5 harg5 arg6 harg6 arg7 harg7 gx gy gz r (atPlace r 4) (Scalar.ofBits .f32 0x00000000#32)
      = pure ⟨placed r gx 4, placed r gy 4, placed r gz 4, placed r gx 5, placed r gy 5, placed r gz 5, placed r gx 6, placed r gy 6, placed r gz 6, 7#32⟩ :=
  (part11_pure i arg2 harg2 arg3 harg3 arg4 harg4 arg5 harg5 arg6 harg6 arg7 harg7 _ _ _ _ _ _).trans rfl

/-- The corners and the normals before the sign. -/
theorem part12_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (gx gy gz : FVec F S8x256 .f32) (r : IVec S8x256 32) :
    k0_part12 i arg2 harg2 arg3 harg3 arg4 harg4 arg5 harg5 arg6 harg6 arg7 harg7 gx gy gz r (placed r gx 0) (placed r gy 0) (placed r gz 0) (placed r gx 1) (placed r gy 1) (placed r gz 1) (placed r gx 2) (placed r gy 2) (placed r gz 2) (placed r gx 3) (placed r gy 3) (placed r gz 3) (placed r gx 4) (placed r gy 4) (placed r gz 4) (placed r gx 5) (placed r gy 5) (placed r gz 5) (placed r gx 6) (placed r gy 6) (placed r gz 6) 7#32
      = pure ⟨ordered r gx, ordered r gy, ordered r gz, orderedNext r gx, orderedNext r gy, orderedNext r gz, nrm (ordered r gx) (ordered r gy) (ordered r gz) (orderedNext r gx) (orderedNext r gy) (orderedNext r gz) 0, nrm (ordered r gx) (ordered r gy) (ordered r gz) (orderedNext r gx) (orderedNext r gy) (orderedNext r gz) 1, nrm (ordered r gx) (ordered r gy) (ordered r gz) (orderedNext r gx) (orderedNext r gy) (orderedNext r gz) 2, signRow (nrm (ordered r gx) (ordered r gy) (ordered r gz) (orderedNext r gx) (orderedNext r gy) (orderedNext r gz) 0), sign (nrm (ordered r gx) (ordered r gy) (ordered r gz) (orderedNext r gx) (orderedNext r gy) (orderedNext r gz) 0)⟩ :=
  (part12_pure i arg2 harg2 arg3 harg3 arg4 harg4 arg5 harg5 arg6 harg6 arg7 harg7 _ _ _ _ _ _ _ _ _ _ _ _ _ _ _ _ _ _ _ _ _ _ _ _ _ _).trans rfl

/-- The normals, the centres, their distances and inclinations. -/
theorem part13_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (sx sy sz rx ry rz : FVec F S8x256 .f32) :
    k0_part13 i arg2 harg2 arg3 harg3 arg4 harg4 arg5 harg5 arg6 harg6 arg7 harg7 sx sy sz rx ry rz (nrm sx sy sz rx ry rz 0) (nrm sx sy sz rx ry rz 1) (nrm sx sy sz rx ry rz 2) (signRow (nrm sx sy sz rx ry rz 0)) (sign (nrm sx sy sz rx ry rz 0))
      = pure ⟨feats sx sy sz rx ry rz 3, feats sx sy sz rx ry rz 4, feats sx sy sz rx ry rz 5, feats sx sy sz rx ry rz 7, feats sx sy sz rx ry rz 8, feats sx sy sz rx ry rz 9, feats sx sy sz rx ry rz 0, feats sx sy sz rx ry rz 1, off0 (feats sx sy sz rx ry rz 7), tiny (feats sx sy sz rx ry rz 8), bump (feats sx sy sz rx ry rz 8)⟩ :=
  (part13_pure i arg2 harg2 arg3 harg3 arg4 harg4 arg5 harg5 arg6 harg6 arg7 harg7 _ _ _ _ _ _ _ _ _ _ _).trans rfl

/-- The centres' angles and the planes' offsets. -/
theorem part14_nice (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (sx sy sz rx ry rz : FVec F S8x256 .f32) :
    k0_part14 i arg2 harg2 arg3 harg3 arg4 harg4 arg5 harg5 arg6 harg6 arg7 harg7 (feats sx sy sz rx ry rz 3) (feats sx sy sz rx ry rz 4) (feats sx sy sz rx ry rz 5) (feats sx sy sz rx ry rz 7) (feats sx sy sz rx ry rz 8) (feats sx sy sz rx ry rz 9) (off0 (feats sx sy sz rx ry rz 7)) (tiny (feats sx sy sz rx ry rz 8)) (bump (feats sx sy sz rx ry rz 8))
      = pure ⟨feats sx sy sz rx ry rz 2, feats sx sy sz rx ry rz 6⟩ :=
  (part14_pure i arg2 harg2 arg3 harg3 arg4 harg4 arg5 harg5 arg6 harg6 arg7 harg7 _ _ _ _ _ _ _ _ _).trans rfl

/-- The rest of the body once the features stand: it stores them, and adds the first layer to the sums. -/
def rest (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole) (f : Fin 10 → FVec F S8x256 .f32) :
    Prog (TpuEff nD τ sig (Elt F) Λ₀ .tc) PUnit := do
  k0_part15 i arg2 harg2 arg3 harg3 arg4 harg4 arg5 harg5 arg6 harg6 arg7 harg7 (f 3) (f 4) (f 5) (f 0) (f 1) (f 2) (f 6)
  let ⟨v678, v680, v682, v684, v686, v688, v690, v692, v694, v696, v698, v705, v706⟩ : Σ' (v678 : FVec F S10x10 .f32) (v680 : FVec F S8x256 .f32) (v682 : FVec F S8x256 .f32) (v684 : FVec F S8x256 .f32) (v686 : FVec F S8x256 .f32) (v688 : FVec F S8x256 .f32) (v690 : FVec F S8x256 .f32) (v692 : FVec F S8x256 .f32) (v694 : FVec F S8x256 .f32) (v696 : FVec F S8x256 .f32) (v698 : FVec F S8x256 .f32) (v705 : FVec F S8x256 .f32), FVec F S1x1 .f32 ← k0_part16 i arg2 harg2 arg3 harg3 arg4 harg4 arg5 harg5 arg6 harg6 arg7 harg7 (BitVec.ofNat 32 (i 0).val) (BitVec.ofNat 32 (i 1).val) (f 3) (f 4) (f 5) (f 7) (f 8) (f 9) (f 0) (f 1) (f 2) (f 6)
  let v755 : FVec F S1x1 .f32 ← k0_part17 i arg2 harg2 arg3 harg3 arg4 harg4 arg5 harg5 arg6 harg6 arg7 harg7 v678 v684 v686 v688 v690 v692 v694 v696 v698 v705 v706
  let ⟨v795, v806⟩ : Σ' (v795 : FVec F S8x256 .f32), FVec F S1x1 .f32 ← k0_part18 i arg2 harg2 arg3 harg3 arg4 harg4 arg5 harg5 arg6 harg6 arg7 harg7 v678 v680 v682 v684 v686 v688 v690 v692 v694 v696 v698 v755
  let ⟨v853, v855, v859⟩ : Σ' (v853 : FVec F S8x256 .f32) (v855 : FVec F S1x1 .f32), F .f32 ← k0_part19 i arg2 harg2 arg3 harg3 arg4 harg4 arg5 harg5 arg6 harg6 arg7 harg7 v678 v680 v682 v684 v686 v688 v690 v692 v694 v696 v698 v795 v806
  let ⟨v907, v910⟩ : Σ' (v907 : FVec F S8x256 .f32), FVec F S8x256 .f32 ← k0_part20 i arg2 harg2 arg3 harg3 arg4 harg4 arg5 harg5 arg6 harg6 arg7 harg7 v678 v680 v682 v684 v686 v688 v690 v692 v694 v696 v698 v853 v855 v859
  let ⟨v957, v958⟩ : Σ' (v957 : FVec F S8x256 .f32), FVec F S1x1 .f32 ← k0_part21 i arg2 harg2 arg3 harg3 arg4 harg4 arg5 harg5 arg6 harg6 arg7 harg7 v678 v680 v682 v684 v686 v688 v690 v692 v907 v910
  let ⟨v1003, v1006⟩ : Σ' (v1003 : FVec F S8x256 .f32), FVec F S8x256 .f32 ← k0_part22 i arg2 harg2 arg3 harg3 arg4 harg4 arg5 harg5 arg6 harg6 arg7 harg7 v678 v680 v682 v684 v686 v688 v694 v696 v698 v957 v958
  let ⟨v1053, v1054⟩ : Σ' (v1053 : FVec F S8x256 .f32), FVec F S1x1 .f32 ← k0_part23 i arg2 harg2 arg3 harg3 arg4 harg4 arg5 harg5 arg6 harg6 arg7 harg7 v678 v680 v682 v690 v692 v694 v696 v698 v1003 v1006
  let v1103 : FVec F S1x1 .f32 ← k0_part24 i arg2 harg2 arg3 harg3 arg4 harg4 arg5 harg5 arg6 harg6 arg7 harg7 v678 v684 v686 v688 v690 v692 v694 v696 v698 v1053 v1054
  let ⟨v1143, v1154⟩ : Σ' (v1143 : FVec F S8x256 .f32), FVec F S1x1 .f32 ← k0_part25 i arg2 harg2 arg3 harg3 arg4 harg4 arg5 harg5 arg6 harg6 arg7 harg7 v678 v680 v682 v684 v686 v688 v690 v692 v694 v696 v698 v1103
  let ⟨v1201, v1203, v1207⟩ : Σ' (v1201 : FVec F S8x256 .f32) (v1203 : FVec F S1x1 .f32), F .f32 ← k0_part26 i arg2 harg2 arg3 harg3 arg4 harg4 arg5 harg5 arg6 harg6 arg7 harg7 v678 v680 v682 v684 v686 v688 v690 v692 v694 v696 v698 v1143 v1154
  let ⟨v1255, v1258⟩ : Σ' (v1255 : FVec F S8x256 .f32), FVec F S8x256 .f32 ← k0_part27 i arg2 harg2 arg3 harg3 arg4 harg4 arg5 harg5 arg6 harg6 arg7 harg7 v678 v680 v682 v684 v686 v688 v690 v692 v694 v696 v698 v1201 v1203 v1207
  let v1260 : Vec F S1x1 .f32 ← Prog.lift (.load arg7 (Rect.unit (s := S16x128) ![9, 0] S1x1.size inb_S16x128_S1x1_9_0).toLoadRect (View.loadsAt_vmem h_S1x1))
  let v1268 : Vec F S1x1 .f32 ← Prog.lift (.load arg7 (Rect.unit (s := S16x128) ![9, 0] S1x1.size inb_S16x128_S1x1_9_0).toLoadRect (View.loadsAt_vmem h_S1x1))
  Prog.lift (.store arg7 (Rect.unit (s := S16x128) ![9, 0] S1x1.size inb_S16x128_S1x1_9_0) (k0_pay2 v1255 v1258 v1260) Finset.univ (View.stores_vmem_bits_univ h_S1x1 rfl) (.inl rfl))
  let v1269 : Vec F S1x1 .f32 ← Prog.lift (.load arg7 (Rect.unit (s := S16x128) ![9, 1] S1x1.size inb_S16x128_S1x1_9_1).toLoadRect (View.loadsAt_vmem h_S1x1))
  let v1278 : Vec F S1x1 .f32 ← Prog.lift (.load arg7 (Rect.unit (s := S16x128) ![9, 1] S1x1.size inb_S16x128_S1x1_9_1).toLoadRect (View.loadsAt_vmem h_S1x1))
  Prog.lift (.store arg7 (Rect.unit (s := S16x128) ![9, 1] S1x1.size inb_S16x128_S1x1_9_1) (k0_pay3 v1255 v1258 v1269) Finset.univ (View.stores_vmem_bits_univ h_S1x1 rfl) (.inl rfl))
  pure ⟨⟩

/-- The body: the blocks loaded, the features formed, and the rest. -/
theorem body_eq (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole) :
    cc0__lambda_ i arg2 harg2 arg3 harg3 arg4 harg4 arg5 harg5 arg6 harg6 arg7 harg7 = (do
    let v0 : Vec F S1x4096x1 .f32 ← Prog.lift (.load arg2 (Rect.unit (s := S1x4096x3) ![0, 0, 0] S1x4096x1.size inb_S1x4096x3_S1x4096x1_0_0_0).toLoadRect (View.loadsAt_vmem h_S1x4096x1))
    let v2 : Vec F S1x4096x1 .f32 ← Prog.lift (.load arg2 (Rect.unit (s := S1x4096x3) ![0, 0, 1] S1x4096x1.size inb_S1x4096x3_S1x4096x1_0_0_1).toLoadRect (View.loadsAt_vmem h_S1x4096x1))
    let v4 : Vec F S1x4096x1 .f32 ← Prog.lift (.load arg2 (Rect.unit (s := S1x4096x3) ![0, 0, 2] S1x4096x1.size inb_S1x4096x3_S1x4096x1_0_0_2).toLoadRect (View.loadsAt_vmem h_S1x4096x1))
    let v6 : Vec F S1x1x256 .f32 ← Prog.lift (.load arg4 (Rect.unit (s := S1x3x256) ![0, 0, 0] S1x1x256.size inb_S1x3x256_S1x1x256_0_0_0).toLoadRect (View.loadsAt_vmem h_S1x1x256))
    let v8 : Vec F S1x1x256 .f32 ← Prog.lift (.load arg4 (Rect.unit (s := S1x3x256) ![0, 1, 0] S1x1x256.size inb_S1x3x256_S1x1x256_0_1_0).toLoadRect (View.loadsAt_vmem h_S1x1x256))
    let v10 : Vec F S1x1x256 .f32 ← Prog.lift (.load arg4 (Rect.unit (s := S1x3x256) ![0, 2, 0] S1x1x256.size inb_S1x3x256_S1x1x256_0_2_0).toLoadRect (View.loadsAt_vmem h_S1x1x256))
    let v22 : Vec F S1x4096x3 .f32 ← Prog.lift (.load arg2 (Rect.unit (s := S1x4096x3) ![0, 0, 0] S1x4096x3.size inb_S1x4096x3_S1x4096x3_0_0_0).toLoadRect (View.loadsAt_vmem h_S1x4096x3))
    let v25 : Vec F S1x3x256 .f32 ← Prog.lift (.load arg4 (Rect.unit (s := S1x3x256) ![0, 0, 0] S1x3x256.size inb_S1x3x256_S1x3x256_0_0_0).toLoadRect (View.loadsAt_vmem h_S1x3x256))
    let v35 : Vec F S1x1x4096 .f32 ← Prog.lift (.load arg3 (Rect.unit (s := S1x3x4096) ![0, 0, 0] S1x1x4096.size inb_S1x3x4096_S1x1x4096_0_0_0).toLoadRect (View.loadsAt_vmem h_S1x1x4096))
    let v37 : Vec F S1x1x4096 .f32 ← Prog.lift (.load arg3 (Rect.unit (s := S1x3x4096) ![0, 1, 0] S1x1x4096.size inb_S1x3x4096_S1x1x4096_0_1_0).toLoadRect (View.loadsAt_vmem h_S1x1x4096))
    let v39 : Vec F S1x1x4096 .f32 ← Prog.lift (.load arg3 (Rect.unit (s := S1x3x4096) ![0, 2, 0] S1x1x4096.size inb_S1x3x4096_S1x1x4096_0_2_0).toLoadRect (View.loadsAt_vmem h_S1x1x4096))
    rest i arg2 harg2 arg3 harg3 arg4 harg4 arg5 harg5 arg6 harg6 arg7 harg7 (featG ![k0_pay4 v0, k0_pay5 v2, k0_pay6 v4] ![k0_pay7 v6, k0_pay8 v8, k0_pay9 v10] (k0_pay14 v35 v37 v39) (k0_pay13 (k0_pay10 v0 v2 v4) (k0_pay11 v22 v25) (k0_pay12 v6 v8 v10))) : Prog (TpuEff nD τ sig (Elt F) Λ₀ .tc) PUnit) := by
  rw [cc0__lambda__eq_skeleton]; unfold cc0__lambda__skel
  rw [k0_part1_eq_skeleton, k0_part2_eq_skeleton]; unfold k0_part1_skel k0_part2_skel
  simp only [bind_assoc, pure_bind]
  iterate 11 refine congrArg (Bind.bind _) (funext fun _ => ?_)
  rw [part3_nice, pure_bind]; dsimp only
  rw [part4_nice, pure_bind]; dsimp only
  rw [part5_nice, pure_bind]; dsimp only
  rw [part6_nice, pure_bind]; dsimp only
  rw [part7_nice, pure_bind]; dsimp only
  rw [part8_nice, pure_bind]; dsimp only
  rw [part9_nice, pure_bind]; dsimp only
  rw [part10_nice, pure_bind]; dsimp only
  rw [part11_nice, pure_bind]; dsimp only
  rw [part12_nice, pure_bind]; dsimp only
  rw [part13_nice, pure_bind]; dsimp only
  rw [part14_nice, pure_bind]; dsimp only
  simp only [rest, featG, featO]

/-- The last part of the body: the first layer of features `f`, added to the sums. -/
def sums (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole) (f : Fin 10 → FVec F S8x256 .f32) :
    Prog (TpuEff nD τ sig (Elt F) Λ₀ .tc) PUnit := do
  let v676 : Vec F S10x10 .f32 ← Prog.lift (.load arg5 (Rect.unit (s := S10x10) ![0, 0] S10x10.size inb_S10x10_S10x10_0_0).toLoadRect (View.loadsAt_vmem h_S10x10))
  let v755 : FVec F S1x1 .f32 ← k0_part17 i arg2 harg2 arg3 harg3 arg4 harg4 arg5 harg5 arg6 harg6 arg7 harg7 (k0_pay212 v676) (k0_pay215 (f 2)) (k0_pay216 (f 3)) (k0_pay217 (f 4)) (k0_pay218 (f 5)) (k0_pay219 (f 6)) (k0_pay220 (f 7)) (k0_pay221 (f 8)) (k0_pay222 (f 9)) (k0_pay223 (f 0) (f 1) v676) (k0_pay224 v676)
  let ⟨v795, v806⟩ : Σ' (v795 : FVec F S8x256 .f32), FVec F S1x1 .f32 ← k0_part18 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v755
  let ⟨v853, v855, v859⟩ : Σ' (v853 : FVec F S8x256 .f32) (v855 : FVec F S1x1 .f32), F .f32 ← k0_part19 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v795 v806
  let ⟨v907, v910⟩ : Σ' (v907 : FVec F S8x256 .f32), FVec F S8x256 .f32 ← k0_part20 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v853 v855 v859
  let ⟨v957, v958⟩ : Σ' (v957 : FVec F S8x256 .f32), FVec F S1x1 .f32 ← k0_part21 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) v907 v910
  let ⟨v1003, v1006⟩ : Σ' (v1003 : FVec F S8x256 .f32), FVec F S8x256 .f32 ← k0_part22 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay220 (f 7)) (k0_pay221 (f 8)) (k0_pay222 (f 9)) v957 v958
  let ⟨v1053, v1054⟩ : Σ' (v1053 : FVec F S8x256 .f32), FVec F S1x1 .f32 ← k0_part23 i arg2 harg2 arg3 harg3 arg4 harg4 arg5 harg5 arg6 harg6 arg7 harg7 (k0_pay212 v676) (k0_pay213 (f 0)) (k0_pay214 (f 1)) (k0_pay218 (f 5)) (k0_pay219 (f 6)) (k0_pay220 (f 7)) (k0_pay221 (f 8)) (k0_pay222 (f 9)) v1003 v1006
  let v1103 : FVec F S1x1 .f32 ← k0_part24 i arg2 harg2 arg3 harg3 arg4 harg4 arg5 harg5 arg6 harg6 arg7 harg7 (k0_pay212 v676) (k0_pay215 (f 2)) (k0_pay216 (f 3)) (k0_pay217 (f 4)) (k0_pay218 (f 5)) (k0_pay219 (f 6)) (k0_pay220 (f 7)) (k0_pay221 (f 8)) (k0_pay222 (f 9)) v1053 v1054
  let ⟨v1143, v1154⟩ : Σ' (v1143 : FVec F S8x256 .f32), FVec F S1x1 .f32 ← k0_part25 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v1103
  let ⟨v1201, v1203, v1207⟩ : Σ' (v1201 : FVec F S8x256 .f32) (v1203 : FVec F S1x1 .f32), F .f32 ← k0_part26 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v1143 v1154
  let ⟨v1255, v1258⟩ : Σ' (v1255 : FVec F S8x256 .f32), FVec F S8x256 .f32 ← k0_part27 i arg2 harg2 arg3 harg3 arg4 harg4 arg5 harg5 arg6 harg6 arg7 harg7 (k0_pay212 v676) (k0_pay213 (f 0)) (k0_pay214 (f 1)) (k0_pay215 (f 2)) (k0_pay216 (f 3)) (k0_pay217 (f 4)) (k0_pay218 (f 5)) (k0_pay219 (f 6)) (k0_pay220 (f 7)) (k0_pay221 (f 8)) (k0_pay222 (f 9)) v1201 v1203 v1207
  let v1260 : Vec F S1x1 .f32 ← Prog.lift (.load arg7 (Rect.unit (s := S16x128) ![9, 0] S1x1.size inb_S16x128_S1x1_9_0).toLoadRect (View.loadsAt_vmem h_S1x1))
  let v1268 : Vec F S1x1 .f32 ← Prog.lift (.load arg7 (Rect.unit (s := S16x128) ![9, 0] S1x1.size inb_S16x128_S1x1_9_0).toLoadRect (View.loadsAt_vmem h_S1x1))
  Prog.lift (.store arg7 (Rect.unit (s := S16x128) ![9, 0] S1x1.size inb_S16x128_S1x1_9_0) (k0_pay2 v1255 v1258 v1260) Finset.univ (View.stores_vmem_bits_univ h_S1x1 rfl) (.inl rfl))
  let v1269 : Vec F S1x1 .f32 ← Prog.lift (.load arg7 (Rect.unit (s := S16x128) ![9, 1] S1x1.size inb_S16x128_S1x1_9_1).toLoadRect (View.loadsAt_vmem h_S1x1))
  let v1278 : Vec F S1x1 .f32 ← Prog.lift (.load arg7 (Rect.unit (s := S16x128) ![9, 1] S1x1.size inb_S16x128_S1x1_9_1).toLoadRect (View.loadsAt_vmem h_S1x1))
  Prog.lift (.store arg7 (Rect.unit (s := S16x128) ![9, 1] S1x1.size inb_S16x128_S1x1_9_1) (k0_pay3 v1255 v1258 v1269) Finset.univ (View.stores_vmem_bits_univ h_S1x1 rfl) (.inl rfl))
  pure ⟨⟩

/-- The features stored, the sums begun at the first point, and the last part. -/
theorem rest_eq (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole) (f : Fin 10 → FVec F S8x256 .f32) :
    rest i arg2 harg2 arg3 harg3 arg4 harg4 arg5 harg5 arg6 harg6 arg7 harg7 f = (do
  k0_part15 i arg2 harg2 arg3 harg3 arg4 harg4 arg5 harg5 arg6 harg6 arg7 harg7 (f 3) (f 4) (f 5) (f 0) (f 1) (f 2) (f 6)
  Prog.lift (.store arg6 (Rect.unit (s := S1x10x8x256) ![0, 7, 0, 0] S1x1x8x256.size inb_S1x10x8x256_S1x1x8x256_0_7_0_0) (k0_pay208 (f 7)) Finset.univ (View.stores_vmem_bits_univ h_S1x1x8x256 rfl) (.inl rfl))
  let v665 : Vec F S1x1x8x256 .f32 ← Prog.lift (.load arg6 (Rect.unit (s := S1x10x8x256) ![0, 8, 0, 0] S1x1x8x256.size inb_S1x10x8x256_S1x1x8x256_0_8_0_0).toLoadRect (View.loadsAt_vmem h_S1x1x8x256))
  Prog.lift (.store arg6 (Rect.unit (s := S1x10x8x256) ![0, 8, 0, 0] S1x1x8x256.size inb_S1x10x8x256_S1x1x8x256_0_8_0_0) (k0_pay209 (f 8)) Finset.univ (View.stores_vmem_bits_univ h_S1x1x8x256 rfl) (.inl rfl))
  let v668 : Vec F S1x1x8x256 .f32 ← Prog.lift (.load arg6 (Rect.unit (s := S1x10x8x256) ![0, 9, 0, 0] S1x1x8x256.size inb_S1x10x8x256_S1x1x8x256_0_9_0_0).toLoadRect (View.loadsAt_vmem h_S1x1x8x256))
  Prog.lift (.store arg6 (Rect.unit (s := S1x10x8x256) ![0, 9, 0, 0] S1x1x8x256.size inb_S1x10x8x256_S1x1x8x256_0_9_0_0) (k0_pay210 (f 9)) Finset.univ (View.stores_vmem_bits_univ h_S1x1x8x256 rfl) (.inl rfl))
  let v671 : BitVec 1 := Scalar.cmpi .eq (BitVec.ofNat 32 (i 0).val) 0#32
  let v672 : BitVec 1 := Scalar.cmpi .eq (BitVec.ofNat 32 (i 1).val) 0#32
  let v673 : BitVec 1 := Scalar.andi v671 v672
  let v674 : BitVec 32 := Scalar.extui v673
  let v675 : BitVec 1 := Scalar.cmpi .ne v674 0#32
  if k0_h10 : v675 = 1#1 then do
    let v1280 : Vec F S16x128 .f32 ← Prog.lift (.load arg7 (Rect.unit (s := S16x128) ![0, 0] S16x128.size inb_S16x128_S16x128_0_0).toLoadRect (View.loadsAt_vmem h_S16x128))
    Prog.lift (.store arg7 (Rect.unit (s := S16x128) ![0, 0] S16x128.size inb_S16x128_S16x128_0_0) (k0_pay211 (F := F)) Finset.univ (View.stores_vmem_bits_univ h_S16x128 rfl) (.inl rfl))
    pure ⟨⟩
  else do
    pure ⟨⟩
  sums i arg2 harg2 arg3 harg3 arg4 harg4 arg5 harg5 arg6 harg6 arg7 harg7 f : Prog (TpuEff nD τ sig (Elt F) Λ₀ .tc) PUnit) := by
  unfold rest sums
  rw [k0_part16_eq_skeleton]; unfold k0_part16_skel
  simp only [bind_assoc, pure_bind]
  split_ifs <;> simp only [bind_assoc, pure_bind]

/-- The keys as loaded. -/
theorem kcol_eq (x0 : Vec F S1x4096x3 .f32) :
    ![k0_pay4 (View.ld x0 (Rect.unit (s := S1x4096x3) ![0, 0, 0] S1x4096x1.size inb_S1x4096x3_S1x4096x1_0_0_0)), k0_pay5 (View.ld x0 (Rect.unit (s := S1x4096x3) ![0, 0, 1] S1x4096x1.size inb_S1x4096x3_S1x4096x1_0_0_1)), k0_pay6 (View.ld x0 (Rect.unit (s := S1x4096x3) ![0, 0, 2] S1x4096x1.size inb_S1x4096x3_S1x4096x1_0_0_2))] = kcol x0 := rfl

/-- The queries as loaded. -/
theorem qrow_eq (x2 : Vec F S1x3x256 .f32) :
    ![k0_pay7 (View.ld x2 (Rect.unit (s := S1x3x256) ![0, 0, 0] S1x1x256.size inb_S1x3x256_S1x1x256_0_0_0)), k0_pay8 (View.ld x2 (Rect.unit (s := S1x3x256) ![0, 1, 0] S1x1x256.size inb_S1x3x256_S1x1x256_0_1_0)), k0_pay9 (View.ld x2 (Rect.unit (s := S1x3x256) ![0, 2, 0] S1x1x256.size inb_S1x3x256_S1x1x256_0_2_0))] = qrow x2 := rfl

/-- The table as loaded. -/
theorem table_eq (x1 : Vec F S1x3x4096 .f32) :
    k0_pay14 (View.ld x1 (Rect.unit (s := S1x3x4096) ![0, 0, 0] S1x1x4096.size inb_S1x3x4096_S1x1x4096_0_0_0)) (View.ld x1 (Rect.unit (s := S1x3x4096) ![0, 1, 0] S1x1x4096.size inb_S1x3x4096_S1x1x4096_0_1_0)) (View.ld x1 (Rect.unit (s := S1x3x4096) ![0, 2, 0] S1x1x4096.size inb_S1x3x4096_S1x1x4096_0_2_0)) = table x1 := rfl

/-- The distances as loaded. -/
theorem dist0_eq (x0 : Vec F S1x4096x3 .f32) (x2 : Vec F S1x3x256 .f32) :
    k0_pay13 (k0_pay10 (View.ld x0 (Rect.unit (s := S1x4096x3) ![0, 0, 0] S1x4096x1.size inb_S1x4096x3_S1x4096x1_0_0_0)) (View.ld x0 (Rect.unit (s := S1x4096x3) ![0, 0, 1] S1x4096x1.size inb_S1x4096x3_S1x4096x1_0_0_1)) (View.ld x0 (Rect.unit (s := S1x4096x3) ![0, 0, 2] S1x4096x1.size inb_S1x4096x3_S1x4096x1_0_0_2))) (k0_pay11 (View.ld x0 (Rect.unit (s := S1x4096x3) ![0, 0, 0] S1x4096x3.size inb_S1x4096x3_S1x4096x3_0_0_0)) (View.ld x2 (Rect.unit (s := S1x3x256) ![0, 0, 0] S1x3x256.size inb_S1x3x256_S1x3x256_0_0_0))) (k0_pay12 (View.ld x2 (Rect.unit (s := S1x3x256) ![0, 0, 0] S1x1x256.size inb_S1x3x256_S1x1x256_0_0_0)) (View.ld x2 (Rect.unit (s := S1x3x256) ![0, 1, 0] S1x1x256.size inb_S1x3x256_S1x1x256_0_1_0)) (View.ld x2 (Rect.unit (s := S1x3x256) ![0, 2, 0] S1x1x256.size inb_S1x3x256_S1x1x256_0_2_0))) = dist0 x0 x2 := rfl

/-- The features as loaded. -/
theorem feat_eq (x0 : Vec F S1x4096x3 .f32) (x1 : Vec F S1x3x4096 .f32) (x2 : Vec F S1x3x256 .f32) :
    featG ![k0_pay4 (View.ld x0 (Rect.unit (s := S1x4096x3) ![0, 0, 0] S1x4096x1.size inb_S1x4096x3_S1x4096x1_0_0_0)), k0_pay5 (View.ld x0 (Rect.unit (s := S1x4096x3) ![0, 0, 1] S1x4096x1.size inb_S1x4096x3_S1x4096x1_0_0_1)), k0_pay6 (View.ld x0 (Rect.unit (s := S1x4096x3) ![0, 0, 2] S1x4096x1.size inb_S1x4096x3_S1x4096x1_0_0_2))] ![k0_pay7 (View.ld x2 (Rect.unit (s := S1x3x256) ![0, 0, 0] S1x1x256.size inb_S1x3x256_S1x1x256_0_0_0)), k0_pay8 (View.ld x2 (Rect.unit (s := S1x3x256) ![0, 1, 0] S1x1x256.size inb_S1x3x256_S1x1x256_0_1_0)), k0_pay9 (View.ld x2 (Rect.unit (s := S1x3x256) ![0, 2, 0] S1x1x256.size inb_S1x3x256_S1x1x256_0_2_0))] (k0_pay14 (View.ld x1 (Rect.unit (s := S1x3x4096) ![0, 0, 0] S1x1x4096.size inb_S1x3x4096_S1x1x4096_0_0_0)) (View.ld x1 (Rect.unit (s := S1x3x4096) ![0, 1, 0] S1x1x4096.size inb_S1x3x4096_S1x1x4096_0_1_0)) (View.ld x1 (Rect.unit (s := S1x3x4096) ![0, 2, 0] S1x1x4096.size inb_S1x3x4096_S1x1x4096_0_2_0))) (k0_pay13 (k0_pay10 (View.ld x0 (Rect.unit (s := S1x4096x3) ![0, 0, 0] S1x4096x1.size inb_S1x4096x3_S1x4096x1_0_0_0)) (View.ld x0 (Rect.unit (s := S1x4096x3) ![0, 0, 1] S1x4096x1.size inb_S1x4096x3_S1x4096x1_0_0_1)) (View.ld x0 (Rect.unit (s := S1x4096x3) ![0, 0, 2] S1x4096x1.size inb_S1x4096x3_S1x4096x1_0_0_2))) (k0_pay11 (View.ld x0 (Rect.unit (s := S1x4096x3) ![0, 0, 0] S1x4096x3.size inb_S1x4096x3_S1x4096x3_0_0_0)) (View.ld x2 (Rect.unit (s := S1x3x256) ![0, 0, 0] S1x3x256.size inb_S1x3x256_S1x3x256_0_0_0))) (k0_pay12 (View.ld x2 (Rect.unit (s := S1x3x256) ![0, 0, 0] S1x1x256.size inb_S1x3x256_S1x1x256_0_0_0)) (View.ld x2 (Rect.unit (s := S1x3x256) ![0, 1, 0] S1x1x256.size inb_S1x3x256_S1x1x256_0_1_0)) (View.ld x2 (Rect.unit (s := S1x3x256) ![0, 2, 0] S1x1x256.size inb_S1x3x256_S1x1x256_0_2_0)))) = feat x0 x1 x2 := by
  rw [kcol_eq, qrow_eq, table_eq, dist0_eq]; rfl

end Cert.KernelIdeal.Knn

end
-- ==== Proof.KnnRun.lean ====
/- The first kernel body run on whole staging buffers. -/
module

public import proofs.«01_k».proof.Proof.Stores
public import proofs.«01_k».proof.Proof.KnnParts
public import Idealize.ShloMosaic.Lib.VecWindow
public import Idealize.ShloMosaic.Lib.Pipeline.ValueKit
public import proofs.«01_k».proof.Proof.Gen.KernelIdeal.Regions

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The body is at the grid's first point. -/
def first (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The block of ten planes. -/
def planesOf (f : Fin 10 → FVec F S8x256 .f32) : Vec F S1x10x8x256 .f32 := fun y => f (y 1) (ix2 (y 2) (y 3))

/-- What a row of sums is stored as. -/
abbrev sumOf (f : Fin 10 → FVec F S8x256 .f32) (x : Vec F S16x128 .f32) (d : Fin 10) (l : Fin 2) : Vec F S1x1 .f32 :=
  addf (shapeCast S1x1 (View.ld x (Rect.unit (s := S16x128) ![d.val, l.val] S1x1.size (inb_acc d l))) shapeCasts_S1x1_S1x1) (gain f d l)

/-- An entry of the sums after a row of them is stored. -/
theorem sumOf_apply (f : Fin 10 → FVec F S8x256 .f32) (x : Vec F S16x128 .f32) (y : S16x128.Idx) (hd : (y 0).val < 10) (hl : (y 1).val < 2) :
    sumOf f x ⟨(y 0).val, hd⟩ ⟨(y 1).val, hl⟩ one11 = FloatOps.addf (x y) (gain f ⟨(y 0).val, hd⟩ ⟨(y 1).val, hl⟩ one11) := by
  refine congrArg (fun v => FloatOps.addf v _) ((shapeCast_apply _ _ one11 one11 rfl).trans (congrArg x (funext fun a => Fin.ext ?_)))
  fin_cases a
  · show (y 0).val + 1 * 0 = (y 0).val
    omega
  · show (y 1).val + 1 * 0 = (y 1).val
    omega

/-- The sums after all ten rows are stored. -/
theorem sums_eq (f : Fin 10 → FVec F S8x256 .f32) (x : Vec F S16x128 .f32) (y : S16x128.Idx) :
    (if hd : (y 0).val < 10 then if hl : (y 1).val < 2 then sumOf f x ⟨(y 0).val, hd⟩ ⟨(y 1).val, hl⟩ one11 else x y else x y) = accBlock f x y := by
  unfold accBlock
  split
  · split
    · exact sumOf_apply f x y _ _
    · rfl
  · rfl

set_option maxHeartbeats 1000000 in
/-- The last part of the body adds the first layer of the features to the sums. -/
theorem sums_run (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (f : Fin 10 → FVec F S8x256 .f32) (x3 : Vec F S10x10 .f32) (x5 : Vec F S16x128 .f32) :
    ∀ (E : Set ℕ) (K : PUnit → sProp 𝕄),
      iprop(owns (c : Thread nD τ) arg5 fullShare x3 ∗ owns (c : Thread nD τ) arg7 fullShare x5
          ∗ (iprop(owns (c : Thread nD τ) arg5 fullShare x3
            ∗ owns (c : Thread nD τ) arg7 fullShare (accBlock (layer (narrow x3) f) x5)) -∗ K ⟨⟩))
        ⊢ wp frame (wpE (defs₀ (F := F)) Variants.none c none) E (sums i arg2 harg2 arg3 harg3 arg4 harg4 arg5 harg5 arg6 harg6 arg7 harg7 f) K := by
  intro E K
  unfold sums
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f3, %hf3, H3⟩, ⟨%f5, %hf5, H5⟩, Hk⟩
  subst hf3; subst hf5
  sl_exec
  sl_step
  iapply Hk
  isplitl [H3]
  · iexists _; isplitr; · ipureintro; rfl
    iexact H3
  iexists _; isplitr; swap; · iexact H5
  ipureintro
  have hw : View.ld (View.read (Elt F) arg5.view f3) (Rect.unit (s := S10x10) ![0, 0] S10x10.size inb_S10x10_S10x10_0_0) = View.read (Elt F) arg5.view f3 :=
    View.ld_unit_lit _ _ (by decide)
  rw [← hw]
  refine (congrArg (fun L => View.read (Elt F) arg7.view (View.writes arg7.view (Elt F) f5 L)) (?_ : _ = accPieces (sumOf (layer (narrow (View.ld (View.read (Elt F) arg5.view f3) (Rect.unit (s := S10x10) ![0, 0] S10x10.size inb_S10x10_S10x10_0_0))) f) (View.read (Elt F) arg7.view f5)) 10 le_rfl)).trans
    (funext fun y => (read_accPieces _ _ _ y 10 le_rfl).trans (sums_eq _ _ y))
  simp only [accPieces]
  rfl

set_option maxHeartbeats 1000000 in
/-- At a point after the first the rest of the body leaves the features, and adds the first layer to the sums. -/
theorem rest_later (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (hc0 : ¬ first i) (f : Fin 10 → FVec F S8x256 .f32) (x3 : Vec F S10x10 .f32) (x5 : Vec F S16x128 .f32) :
    ∀ (E : Set ℕ) (K : PUnit → sProp 𝕄),
      iprop(owns (c : Thread nD τ) arg5 fullShare x3 ∗ (∃ d, owns (c : Thread nD τ) arg6 fullShare d) ∗ owns (c : Thread nD τ) arg7 fullShare x5
          ∗ (iprop(owns (c : Thread nD τ) arg5 fullShare x3 ∗ owns (c : Thread nD τ) arg6 fullShare (planesOf f)
            ∗ owns (c : Thread nD τ) arg7 fullShare (accBlock (layer (narrow x3) f) x5)) -∗ K ⟨⟩))
        ⊢ wp frame (wpE (defs₀ (F := F)) Variants.none c none) E (rest i arg2 harg2 arg3 harg3 arg4 harg4 arg5 harg5 arg6 harg6 arg7 harg7 f) K := by
  intro E K
  rw [rest_eq]
  have key := sums_run c i arg2 harg2 arg3 harg3 arg4 harg4 arg5 harg5 arg6 harg6 arg7 harg7 f x3 x5 E K
  generalize sums (F := F) i arg2 harg2 arg3 harg3 arg4 harg4 arg5 harg5 arg6 harg6 arg7 harg7 f = g at key ⊢
  simp only [k0_part15_eq_skeleton]
  unfold owns at key ⊢
  iintro ⟨H3, ⟨%d4, %f4, -, H4⟩, H5, Hk⟩
  sl_exec (disch := first | sl_exact hc0)
  iapply key
  isplitl [H3]; · iexact H3
  isplitl [H5]
  · iexact H5
  iintro ⟨H3, H5⟩
  iapply Hk
  isplitl [H3]; · iexact H3
  isplitl [H4]
  · iexists _; isplitr; swap; · iexact H4
    ipureintro
    exact (read_planes _ _ fun d => shapeCast S1x1x8x256 (f d) shapeCasts_S8x256_S1x1x8x256).trans (funext fun y => plane_apply _ _ _)
  iexact H5

set_option maxHeartbeats 1000000 in
/-- At a point after the first the body leaves the block of features, and adds the first layer to the sums. -/
theorem run_later (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (hc0 : ¬ first i) (x0 : Vec F S1x4096x3 .f32) (x1 : Vec F S1x3x4096 .f32) (x2 : Vec F S1x3x256 .f32) (x3 : Vec F S10x10 .f32) (x5 : Vec F S16x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ (∃ d, owns (c : Thread nD τ) arg6 fullShare d) ∗ owns (c : Thread nD τ) arg7 fullShare x5
          ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (featBlock x0 x1 x2) ∗ owns (c : Thread nD τ) arg7 fullShare (accBlock (layer (narrow x3) (feat x0 x1 x2)) x5)) -∗ K ⟨⟩))
        ⊢ wp frame (wpE (defs₀ (F := F)) Variants.none c none) E (cc0__lambda_ i arg2 harg2 arg3 harg3 arg4 harg4 arg5 harg5 arg6 harg6 arg7 harg7) K := by
  intro E K
  rw [body_eq]
  have key := fun (f : Fin 10 → FVec F S8x256 .f32) => rest_later c i arg2 harg2 arg3 harg3 arg4 harg4 arg5 harg5 arg6 harg6 arg7 harg7 hc0 f x3 x5 E K
  generalize rest (F := F) i arg2 harg2 arg3 harg3 arg4 harg4 arg5 harg5 arg6 harg6 arg7 harg7 = g at key ⊢
  have key := fun (f : Fin 10 → FVec F S8x256 .f32) (hf : f = feat x0 x1 x2) => hf ▸ key f
  unfold owns at key ⊢
  iintro ⟨⟨%f0, %hf0, H0⟩, ⟨%f1, %hf1, H1⟩, ⟨%f2, %hf2, H2⟩, H3, H4, H5, Hk⟩
  subst hf0; subst hf1; subst hf2
  sl_exec
  iapply (key _ (feat_eq _ _ _))
  isplitl [H3]; · iexact H3
  isplitl [H4]; · iexact H4
  isplitl [H5]; · iexact H5
  iintro ⟨H3, H4, H5⟩
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]; · iexact H3
  isplitl [H4]; · iexact H4
  iexact H5

set_option maxHeartbeats 1000000 in
/-- At the first point, the sums starting from nothing, the rest of the body leaves the features, and adds the first layer to the sums. -/
theorem rest_first (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (hc0 : first i) (f : Fin 10 → FVec F S8x256 .f32) (x3 : Vec F S10x10 .f32) :
    ∀ (E : Set ℕ) (K : PUnit → sProp 𝕄),
      iprop(owns (c : Thread nD τ) arg5 fullShare x3 ∗ (∃ d, owns (c : Thread nD τ) arg6 fullShare d) ∗ (∃ d, owns (c : Thread nD τ) arg7 fullShare d)
          ∗ (iprop(owns (c : Thread nD τ) arg5 fullShare x3 ∗ owns (c : Thread nD τ) arg6 fullShare (planesOf f)
            ∗ owns (c : Thread nD τ) arg7 fullShare (accBlock (layer (narrow x3) f) (k0_pay211 (F := F)))) -∗ K ⟨⟩))
        ⊢ wp frame (wpE (defs₀ (F := F)) Variants.none c none) E (rest i arg2 harg2 arg3 harg3 arg4 harg4 arg5 harg5 arg6 harg6 arg7 harg7 f) K := by
  intro E K
  rw [rest_eq]
  have key := sums_run c i arg2 harg2 arg3 harg3 arg4 harg4 arg5 harg5 arg6 harg6 arg7 harg7 f x3 (k0_pay211 (F := F)) E K
  generalize sums (F := F) i arg2 harg2 arg3 harg3 arg4 harg4 arg5 harg5 arg6 harg6 arg7 harg7 f = g at key ⊢
  simp only [k0_part15_eq_skeleton]
  unfold owns at key ⊢
  iintro ⟨H3, ⟨%d4, %f4, -, H4⟩, ⟨%d5, %f5, -, H5⟩, Hk⟩
  sl_exec (disch := first | sl_exact hc0)
  iapply key
  isplitl [H3]; · iexact H3
  isplitl [H5]
  · iexists _; isplitr; swap; · iexact H5
    ipureintro
    exact View.read_writes_full _ _ _ _ _
  iintro ⟨H3, H5⟩
  iapply Hk
  isplitl [H3]; · iexact H3
  isplitl [H4]
  · iexists _; isplitr; swap; · iexact H4
    ipureintro
    exact (read_planes _ _ fun d => shapeCast S1x1x8x256 (f d) shapeCasts_S8x256_S1x1x8x256).trans (funext fun y => plane_apply _ _ _)
  iexact H5

set_option maxHeartbeats 1000000 in
/-- At the first point, the sums starting from nothing, the body leaves the block of features, and adds the first layer to the sums. -/
theorem run_first (c : Dev nD) (i : grid0.Coords) (arg2 : Memref sig .tc .vmem S1x4096x3 .f32) (harg2 : arg2.IsWhole) (arg3 : Memref sig .tc .vmem S1x3x4096 .f32) (harg3 : arg3.IsWhole) (arg4 : Memref sig .tc .vmem S1x3x256 .f32) (harg4 : arg4.IsWhole) (arg5 : Memref sig .tc .vmem S10x10 .f32) (harg5 : arg5.IsWhole) (arg6 : Memref sig .tc .vmem S1x10x8x256 .f32) (harg6 : arg6.IsWhole) (arg7 : Memref sig .tc .vmem S16x128 .f32) (harg7 : arg7.IsWhole)
    (hc0 : first i) (x0 : Vec F S1x4096x3 .f32) (x1 : Vec F S1x3x4096 .f32) (x2 : Vec F S1x3x256 .f32) (x3 : Vec F S10x10 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3
          ∗ (∃ d, owns (c : Thread nD τ) arg6 fullShare d) ∗ (∃ d, owns (c : Thread nD τ) arg7 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (featBlock x0 x1 x2) ∗ owns (c : Thread nD τ) arg7 fullShare (accBlock (layer (narrow x3) (feat x0 x1 x2)) (k0_pay211 (F := F)))) -∗ K ⟨⟩))
        ⊢ wp frame (wpE (defs₀ (F := F)) Variants.none c none) E (cc0__lambda_ i arg2 harg2 arg3 harg3 arg4 harg4 arg5 harg5 arg6 harg6 arg7 harg7) K := by
  intro E K
  rw [body_eq]
  have key := fun (f : Fin 10 → FVec F S8x256 .f32) => rest_first c i arg2 harg2 arg3 harg3 arg4 harg4 arg5 harg5 arg6 harg6 arg7 harg7 hc0 f x3 E K
  generalize rest (F := F) i arg2 harg2 arg3 harg3 arg4 harg4 arg5 harg5 arg6 harg6 arg7 harg7 = g at key ⊢
  have key := fun (f : Fin 10 → FVec F S8x256 .f32) (hf : f = feat x0 x1 x2) => hf ▸ key f
  unfold owns at key ⊢
  iintro ⟨⟨%f0, %hf0, H0⟩, ⟨%f1, %hf1, H1⟩, ⟨%f2, %hf2, H2⟩, H3, H4, H5, Hk⟩
  subst hf0; subst hf1; subst hf2
  sl_exec
  iapply (key _ (feat_eq _ _ _))
  isplitl [H3]; · iexact H3
  isplitl [H4]; · iexact H4
  isplitl [H5]; · iexact H5
  iintro ⟨H3, H4, H5⟩
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]; · iexact H3
  isplitl [H4]; · iexact H4
  iexact H5

end Cert.KernelIdeal.Knn

end
-- ==== Proof.Call0.lean ====
/- The first call: what its windows hold at every grid point. -/
module

public import proofs.«01_k».proof.Proof.Regs
public import proofs.«01_k».proof.Proof.KnnRun
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

variable {F : FTy → Type} [FloatOps F]

local notation "𝕄" => MT nD τ sig Unit (Elt F) ℕ (UR sig nD τ) ℕ

variable (V : Dev nD → Valuation τ sig (Elt F))

/-- A window's block at a grid point, out of what the call finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of features at a point. -/
def feat0 (c : Dev nD) (t : Fin cfg0.N) : Vec F S1x10x8x256 .f32 := featBlock (blk0 V c 0 t) (blk0 V c 1 t) (blk0 V c 2 t)

/-- The first layer's values at a point. -/
def vals0 (c : Dev nD) (t : Fin cfg0.N) : Fin 10 → FVec F S8x256 .f32 :=
  layer (narrow (blk0 V c 3 t)) (feat (blk0 V c 0 t) (blk0 V c 1 t) (blk0 V c 2 t))

/-- The grid point of a number. -/
def pt0 (n : ℕ) : Fin cfg0.N := ⟨n % 64, (Nat.mod_lt _ (by decide)).trans_eq N_0.symm⟩

theorem pt0_val (t : Fin cfg0.N) : pt0 t.val = t := Fin.ext (Nat.mod_eq_of_lt (t.isLt.trans_eq N_0))

/-- The sums after the points up to a number, each point's added in turn. -/
def acc0 (c : Dev nD) : ℕ → Vec F S16x128 .f32
  | 0 => accBlock (vals0 V c (pt0 0)) (k0_pay211 (F := F))
  | n + 1 => accBlock (vals0 V c (pt0 (n + 1))) (acc0 c n)

/-- What the call works on: its arrays as found, each input's block left in place, the outputs at what the body stores. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => feat0 V c t
    | ⟨5, _⟩ => acc0 V c t.val
  Φ _ := Pipeline.scopedRest spec0 c
  q w := Pipeline.shareOf spec0 w
  owed _ := 0

theorem A0_eq (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = feat0 V c t := by dsimp only [dat0]
theorem after0_5 (c : Dev nD) (t : Fin cfg0.N) : (dat0 V c).after 5 t = acc0 V c t.val := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)

/-- The sums found at a later point are those the point before left. -/
theorem before0_5 (c : Dev nD) (t : Fin cfg0.N) (ht : t.val % 64 ≠ 0) (d) : (dat0 V c).before 5 t d = acc0 V c (t.val - 1) := by
  have hN : t.val < 64 := t.isLt.trans_eq N_0
  rw [(dat0 V c).before_out_kept 5 rfl t (by omega) ?_ (fun _ => rfl) (fun _ _ => rfl) d, after0_5]
  rw [← Bool.not_eq_true, flush0_5]
  show ¬ (t.val - 1) % 64 = 63
  omega

theorem acc0_first (c : Dev nD) (t : Fin cfg0.N) (ht : t.val % 64 = 0) : acc0 V c t.val = accBlock (vals0 V c t) (k0_pay211 (F := F)) := by
  have hN : t.val < 64 := t.isLt.trans_eq N_0
  have h0 : t.val = 0 := by omega
  have hp := pt0_val t
  rw [h0] at hp ⊢
  rw [← hp]
  rfl

theorem acc0_later (c : Dev nD) (t : Fin cfg0.N) (ht : t.val % 64 ≠ 0) : acc0 V c t.val = accBlock (vals0 V c t) (acc0 V c (t.val - 1)) := by
  have hN : t.val < 64 := t.isLt.trans_eq N_0
  obtain ⟨n, hn⟩ : ∃ n, t.val = n + 1 := ⟨t.val - 1, by omega⟩
  have hp := pt0_val t
  rw [hn] at hp ⊢
  rw [← hp]
  rfl

/-- The first point, by its number. -/
theorem first_iff : ∀ t : Fin cfg0.N, first (grid0.coords t) ↔ t.val % 64 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [first, e0, e1]
    word_cmp
   : ∀ t : Fin grid0.N, first (grid0.coords t) ↔ t.val % 64 = 0)

/-- What the body is called with, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any point turns the one into the other. -/
theorem body0_sound (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 64 = 0
  · rw [acc0_first V c t h0]
    unfold vals0
    iintro ⟨HΦ, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ ((first_iff t).mpr h0) (blk0 V c 0 t) (blk0 V c 1 t) (blk0 V c 2 t) (blk0 V c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_later V c t h0]
    simp only [before0_5 V c t h0]
    unfold vals0
    iintro ⟨HΦ, Ho, ⟨%d0, H0⟩, ⟨%d1, H1⟩, ⟨%d2, H2⟩, ⟨%d3, H3⟩, ⟨%d4, H4⟩, ⟨%d5, H5⟩⟩
    iapply ((run_later c (grid0.coords t) _ _ _ _ _ _ _ _ _ _ _ _ (fun h => h0 ((first_iff t).mp h)) (blk0 V c 0 t) (blk0 V c 1 t) (blk0 V c 2 t) (blk0 V c 3 t) (acc0 V c (t.val - 1))) Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row0 (t : Fin cfg0.N) : defs₀ (F := F) .tc cfg0.body (cfg0.bodyArgs t (cfg0.slots t)) = bodyAt0 t := by
  unfold defs₀; rw [Defs.onTc_tc]

/-- The obligation of the call's body, at every point. -/
theorem obligation0 (c : Dev nD) : BodyObligation (dat0 (F := F) V c) (defs₀ (F := F)) Variants.none () Set.univ := fun t => by
  rw [bigSep_W0, bigSep_W0, row0]
  exact triple_restated (body0_sound V c t) rfl .rfl fun _ => .rfl

end Cert.KernelIdeal.Knn

end
-- ==== Proof.Mlp.lean ====
/- The layers of the second and third bodies. -/
module

public import proofs.«01_k».proof.Proof.Stores
public import proofs.«01_k».proof.Proof.Gen.KernelIdeal.Regions

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ten planes of a block of features. -/
def planesIn (x : Vec F S1x10x8x256 .f32) : Fin 10 → FVec F S8x256 .f32 := fun d =>
  shapeCast S8x256 (View.ld x (Rect.unit (s := S1x10x8x256) ![0, d.val, 0, 0] S1x1x8x256.size (inb_plane d))) shapeCasts_S1x1x8x256_S8x256

/-- Entry `(l, d)` lies in the scales and shifts. -/
theorem inb_stat (l : Fin 2) (d : Fin 10) : ∀ a, (![l.val, d.val] : Fin 2 → ℕ) a + S1x1.size a ≤ S2x10.size a := by
  revert l d; decide

/-- Entry `d` lies in the bias. -/
theorem inb_bias (d : Fin 10) : ∀ a, (![0, d.val] : Fin 2 → ℕ) a + S1x1.size a ≤ S1x10.size a := by
  revert d; decide

/-- One number over a block. -/
def spread (v : Vec F S1x1 .f32) : FVec F S8x256 .f32 :=
  broadcastTo S8x256 (shapeCast S1x1 v shapeCasts_S1x1_S1x1) broadcasts_S1x1_S8x256

/-- Scaled, shifted and cut off at nothing. -/
def hidden (st : Vec F S2x10 .f32) (r : Fin 10 → FVec F S8x256 .f32) : Fin 10 → FVec F S8x256 .f32 := fun d =>
  maximumf (addf (mulf (r d) (spread (View.ld st (Rect.unit (s := S2x10) ![(0 : Fin 2).val, d.val] S1x1.size (inb_stat 0 d)))))
    (spread (View.ld st (Rect.unit (s := S2x10) ![(1 : Fin 2).val, d.val] S1x1.size (inb_stat 1 d))))) (broadcast S8x256 (Scalar.ofBits .f32 0x00000000#32))

/-- A layer with its bias. -/
def affine (w : Vec F S10x10 .f32) (b : Vec F S1x10 .f32) (h : Fin 10 → FVec F S8x256 .f32) : Fin 10 → FVec F S8x256 .f32 := fun d =>
  addf (layer (narrow w) h d) (spread (View.ld b (Rect.unit (s := S1x10) ![0, d.val] S1x1.size (inb_bias d))))

end Cert.KernelIdeal.Knn

end
-- ==== Proof.Mlp2.lean ====
/- The second body cut at its layers. -/
module

public import proofs.«01_k».proof.Proof.Mlp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The last part of the second body: ten rows of values `f`, added to the sums. -/
def sums2 (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole) (f : Fin 10 → FVec F S8x256 .f32) :
    Prog (TpuEff nD τ sig (Elt F) Λ₀ .tc) PUnit := do
  let v991 : Vec F S1x1 .f32 ← Prog.lift (.load arg7 (Rect.unit (s := S16x128) ![0, 0] S1x1.size inb_S16x128_S1x1_0_0).toLoadRect (View.loadsAt_vmem h_S1x1))
  let v999 : Vec F S1x1 .f32 ← Prog.lift (.load arg7 (Rect.unit (s := S16x128) ![0, 0] S1x1.size inb_S16x128_S1x1_0_0).toLoadRect (View.loadsAt_vmem h_S1x1))
  Prog.lift (.store arg7 (Rect.unit (s := S16x128) ![0, 0] S1x1.size inb_S16x128_S1x1_0_0) (k1_pay83 (f 0) v991) Finset.univ (View.stores_vmem_bits_univ h_S1x1 rfl) (.inl rfl))
  let v1000 : Vec F S1x1 .f32 ← Prog.lift (.load arg7 (Rect.unit (s := S16x128) ![0, 1] S1x1.size inb_S16x128_S1x1_0_1).toLoadRect (View.loadsAt_vmem h_S1x1))
  let v1009 : Vec F S1x1 .f32 ← Prog.lift (.load arg7 (Rect.unit (s := S16x128) ![0, 1] S1x1.size inb_S16x128_S1x1_0_1).toLoadRect (View.loadsAt_vmem h_S1x1))
  Prog.lift (.store arg7 (Rect.unit (s := S16x128) ![0, 1] S1x1.size inb_S16x128_S1x1_0_1) (k1_pay84 (f 0) v1000) Finset.univ (View.stores_vmem_bits_univ h_S1x1 rfl) (.inl rfl))
  let v1010 : Vec F S1x1 .f32 ← Prog.lift (.load arg7 (Rect.unit (s := S16x128) ![1, 0] S1x1.size inb_S16x128_S1x1_1_0).toLoadRect (View.loadsAt_vmem h_S1x1))
  let v1018 : Vec F S1x1 .f32 ← Prog.lift (.load arg7 (Rect.unit (s := S16x128) ![1, 0] S1x1.size inb_S16x128_S1x1_1_0).toLoadRect (View.loadsAt_vmem h_S1x1))
  Prog.lift (.store arg7 (Rect.unit (s := S16x128) ![1, 0] S1x1.size inb_S16x128_S1x1_1_0) (k1_pay85 (f 1) v1010) Finset.univ (View.stores_vmem_bits_univ h_S1x1 rfl) (.inl rfl))
  let v1019 : Vec F S1x1 .f32 ← Prog.lift (.load arg7 (Rect.unit (s := S16x128) ![1, 1] S1x1.size inb_S16x128_S1x1_1_1).toLoadRect (View.loadsAt_vmem h_S1x1))
  let v1028 : Vec F S1x1 .f32 ← Prog.lift (.load arg7 (Rect.unit (s := S16x128) ![1, 1] S1x1.size inb_S16x128_S1x1_1_1).toLoadRect (View.loadsAt_vmem h_S1x1))
  Prog.lift (.store arg7 (Rect.unit (s := S16x128) ![1, 1] S1x1.size inb_S16x128_S1x1_1_1) (k1_pay86 (f 1) v1019) Finset.univ (View.stores_vmem_bits_univ h_S1x1 rfl) (.inl rfl))
  let v1029 : Vec F S1x1 .f32 ← Prog.lift (.load arg7 (Rect.unit (s := S16x128) ![2, 0] S1x1.size inb_S16x128_S1x1_2_0).toLoadRect (View.loadsAt_vmem h_S1x1))
  let v1037 : Vec F S1x1 .f32 ← Prog.lift (.load arg7 (Rect.unit (s := S16x128) ![2, 0] S1x1.size inb_S16x128_S1x1_2_0).toLoadRect (View.loadsAt_vmem h_S1x1))
  Prog.lift (.store arg7 (Rect.unit (s := S16x128) ![2, 0] S1x1.size inb_S16x128_S1x1_2_0) (k1_pay87 (f 2) v1029) Finset.univ (View.stores_vmem_bits_univ h_S1x1 rfl) (.inl rfl))
  let v1038 : Vec F S1x1 .f32 ← Prog.lift (.load arg7 (Rect.unit (s := S16x128) ![2, 1] S1x1.size inb_S16x128_S1x1_2_1).toLoadRect (View.loadsAt_vmem h_S1x1))
  let v1047 : Vec F S1x1 .f32 ← Prog.lift (.load arg7 (Rect.unit (s := S16x128) ![2, 1] S1x1.size inb_S16x128_S1x1_2_1).toLoadRect (View.loadsAt_vmem h_S1x1))
  Prog.lift (.store arg7 (Rect.unit (s := S16x128) ![2, 1] S1x1.size inb_S16x128_S1x1_2_1) (k1_pay88 (f 2) v1038) Finset.univ (View.stores_vmem_bits_univ h_S1x1 rfl) (.inl rfl))
  let v1048 : Vec F S1x1 .f32 ← Prog.lift (.load arg7 (Rect.unit (s := S16x128) ![3, 0] S1x1.size inb_S16x128_S1x1_3_0).toLoadRect (View.loadsAt_vmem h_S1x1))
  let v1056 : Vec F S1x1 .f32 ← Prog.lift (.load arg7 (Rect.unit (s := S16x128) ![3, 0] S1x1.size inb_S16x128_S1x1_3_0).toLoadRect (View.loadsAt_vmem h_S1x1))
  Prog.lift (.store arg7 (Rect.unit (s := S16x128) ![3, 0] S1x1.size inb_S16x128_S1x1_3_0) (k1_pay89 (f 3) v1048) Finset.univ (View.stores_vmem_bits_univ h_S1x1 rfl) (.inl rfl))
  let v1057 : Vec F S1x1 .f32 ← Prog.lift (.load arg7 (Rect.unit (s := S16x128) ![3, 1] S1x1.size inb_S16x128_S1x1_3_1).toLoadRect (View.loadsAt_vmem h_S1x1))
  let v1066 : Vec F S1x1 .f32 ← Prog.lift (.load arg7 (Rect.unit (s := S16x128) ![3, 1] S1x1.size inb_S16x128_S1x1_3_1).toLoadRect (View.loadsAt_vmem h_S1x1))
  Prog.lift (.store arg7 (Rect.unit (s := S16x128) ![3, 1] S1x1.size inb_S16x128_S1x1_3_1) (k1_pay90 (f 3) v1057) Finset.univ (View.stores_vmem_bits_univ h_S1x1 rfl) (.inl rfl))
  let v1067 : Vec F S1x1 .f32 ← Prog.lift (.load arg7 (Rect.unit (s := S16x128) ![4, 0] S1x1.size inb_S16x128_S1x1_4_0).toLoadRect (View.loadsAt_vmem h_S1x1))
  let v1075 : Vec F S1x1 .f32 ← Prog.lift (.load arg7 (Rect.unit (s := S16x128) ![4, 0] S1x1.size inb_S16x128_S1x1_4_0).toLoadRect (View.loadsAt_vmem h_S1x1))
  Prog.lift (.store arg7 (Rect.unit (s := S16x128) ![4, 0] S1x1.size inb_S16x128_S1x1_4_0) (k1_pay91 (f 4) v1067) Finset.univ (View.stores_vmem_bits_univ h_S1x1 rfl) (.inl rfl))
  let v1076 : Vec F S1x1 .f32 ← Prog.lift (.load arg7 (Rect.unit (s := S16x128) ![4, 1] S1x1.size inb_S16x128_S1x1_4_1).toLoadRect (View.loadsAt_vmem h_S1x1))
  let v1085 : Vec F S1x1 .f32 ← Prog.lift (.load arg7 (Rect.unit (s := S16x128) ![4, 1] S1x1.size inb_S16x128_S1x1_4_1).toLoadRect (View.loadsAt_vmem h_S1x1))
  Prog.lift (.store arg7 (Rect.unit (s := S16x128) ![4, 1] S1x1.size inb_S16x128_S1x1_4_1) (k1_pay94 (k1_pay92 v1076) (k1_pay93 (f 4))) Finset.univ (View.stores_vmem_bits_univ h_S1x1 rfl) (.inl rfl))
  let v1086 : Vec F S1x1 .f32 ← Prog.lift (.load arg7 (Rect.unit (s := S16x128) ![5, 0] S1x1.size inb_S16x128_S1x1_5_0).toLoadRect (View.loadsAt_vmem h_S1x1))
  let v1094 : Vec F S1x1 .f32 ← Prog.lift (.load arg7 (Rect.unit (s := S16x128) ![5, 0] S1x1.size inb_S16x128_S1x1_5_0).toLoadRect (View.loadsAt_vmem h_S1x1))
  Prog.lift (.store arg7 (Rect.unit (s := S16x128) ![5, 0] S1x1.size inb_S16x128_S1x1_5_0) (k1_pay95 (f 5) v1086) Finset.univ (View.stores_vmem_bits_univ h_S1x1 rfl) (.inl rfl))
  let v1095 : Vec F S1x1 .f32 ← Prog.lift (.load arg7 (Rect.unit (s := S16x128) ![5, 1] S1x1.size inb_S16x128_S1x1_5_1).toLoadRect (View.loadsAt_vmem h_S1x1))
  let v1104 : Vec F S1x1 .f32 ← Prog.lift (.load arg7 (Rect.unit (s := S16x128) ![5, 1] S1x1.size inb_S16x128_S1x1_5_1).toLoadRect (View.loadsAt_vmem h_S1x1))
  Prog.lift (.store arg7 (Rect.unit (s := S16x128) ![5, 1] S1x1.size inb_S16x128_S1x1_5_1) (k1_pay96 (f 5) v1095) Finset.univ (View.stores_vmem_bits_univ h_S1x1 rfl) (.inl rfl))
  let v1105 : Vec F S1x1 .f32 ← Prog.lift (.load arg7 (Rect.unit (s := S16x128) ![6, 0] S1x1.size inb_S16x128_S1x1_6_0).toLoadRect (View.loadsAt_vmem h_S1x1))
  let v1113 : Vec F S1x1 .f32 ← Prog.lift (.load arg7 (Rect.unit (s := S16x128) ![6, 0] S1x1.size inb_S16x128_S1x1_6_0).toLoadRect (View.loadsAt_vmem h_S1x1))
  Prog.lift (.store arg7 (Rect.unit (s := S16x128) ![6, 0] S1x1.size inb_S16x128_S1x1_6_0) (k1_pay97 (f 6) v1105) Finset.univ (View.stores_vmem_bits_univ h_S1x1 rfl) (.inl rfl))
  let v1114 : Vec F S1x1 .f32 ← Prog.lift (.load arg7 (Rect.unit (s := S16x128) ![6, 1] S1x1.size inb_S16x128_S1x1_6_1).toLoadRect (View.loadsAt_vmem h_S1x1))
  let v1123 : Vec F S1x1 .f32 ← Prog.lift (.load arg7 (Rect.unit (s := S16x128) ![6, 1] S1x1.size inb_S16x128_S1x1_6_1).toLoadRect (View.loadsAt_vmem h_S1x1))
  Prog.lift (.store arg7 (Rect.unit (s := S16x128) ![6, 1] S1x1.size inb_S16x128_S1x1_6_1) (k1_pay100 (k1_pay98 v1114) (k1_pay99 (f 6))) Finset.univ (View.stores_vmem_bits_univ h_S1x1 rfl) (.inl rfl))
  let v1124 : Vec F S1x1 .f32 ← Prog.lift (.load arg7 (Rect.unit (s := S16x128) ![7, 0] S1x1.size inb_S16x128_S1x1_7_0).toLoadRect (View.loadsAt_vmem h_S1x1))
  let v1132 : Vec F S1x1 .f32 ← Prog.lift (.load arg7 (Rect.unit (s := S16x128) ![7, 0] S1x1.size inb_S16x128_S1x1_7_0).toLoadRect (View.loadsAt_vmem h_S1x1))
  Prog.lift (.store arg7 (Rect.unit (s := S16x128) ![7, 0] S1x1.size inb_S16x128_S1x1_7_0) (k1_pay101 (f 7) v1124) Finset.univ (View.stores_vmem_bits_univ h_S1x1 rfl) (.inl rfl))
  let v1133 : Vec F S1x1 .f32 ← Prog.lift (.load arg7 (Rect.unit (s := S16x128) ![7, 1] S1x1.size inb_S16x128_S1x1_7_1).toLoadRect (View.loadsAt_vmem h_S1x1))
  let v1142 : Vec F S1x1 .f32 ← Prog.lift (.load arg7 (Rect.unit (s := S16x128) ![7, 1] S1x1.size inb_S16x128_S1x1_7_1).toLoadRect (View.loadsAt_vmem h_S1x1))
  Prog.lift (.store arg7 (Rect.unit (s := S16x128) ![7, 1] S1x1.size inb_S16x128_S1x1_7_1) (k1_pay102 (f 7) v1133) Finset.univ (View.stores_vmem_bits_univ h_S1x1 rfl) (.inl rfl))
  let v1143 : Vec F S1x1 .f32 ← Prog.lift (.load arg7 (Rect.unit (s := S16x128) ![8, 0] S1x1.size inb_S16x128_S1x1_8_0).toLoadRect (View.loadsAt_vmem h_S1x1))
  let v1151 : Vec F S1x1 .f32 ← Prog.lift (.load arg7 (Rect.unit (s := S16x128) ![8, 0] S1x1.size inb_S16x128_S1x1_8_0).toLoadRect (View.loadsAt_vmem h_S1x1))
  Prog.lift (.store arg7 (Rect.unit (s := S16x128) ![8, 0] S1x1.size inb_S16x128_S1x1_8_0) (k1_pay103 (f 8) v1143) Finset.univ (View.stores_vmem_bits_univ h_S1x1 rfl) (.inl rfl))
  let v1152 : Vec F S1x1 .f32 ← Prog.lift (.load arg7 (Rect.unit (s := S16x128) ![8, 1] S1x1.size inb_S16x128_S1x1_8_1).toLoadRect (View.loadsAt_vmem h_S1x1))
  let v1161 : Vec F S1x1 .f32 ← Prog.lift (.load arg7 (Rect.unit (s := S16x128) ![8, 1] S1x1.size inb_S16x128_S1x1_8_1).toLoadRect (View.loadsAt_vmem h_S1x1))
  Prog.lift (.store arg7 (Rect.unit (s := S16x128) ![8, 1] S1x1.size inb_S16x128_S1x1_8_1) (k1_pay106 (k1_pay104 v1152) (k1_pay105 (f 8))) Finset.univ (View.stores_vmem_bits_univ h_S1x1 rfl) (.inl rfl))
  let v1162 : Vec F S1x1 .f32 ← Prog.lift (.load arg7 (Rect.unit (s := S16x128) ![9, 0] S1x1.size inb_S16x128_S1x1_9_0).toLoadRect (View.loadsAt_vmem h_S1x1))
  let v1170 : Vec F S1x1 .f32 ← Prog.lift (.load arg7 (Rect.unit (s := S16x128) ![9, 0] S1x1.size inb_S16x128_S1x1_9_0).toLoadRect (View.loadsAt_vmem h_S1x1))
  Prog.lift (.store arg7 (Rect.unit (s := S16x128) ![9, 0] S1x1.size inb_S16x128_S1x1_9_0) (k1_pay107 (f 9) v1162) Finset.univ (View.stores_vmem_bits_univ h_S1x1 rfl) (.inl rfl))
  let v1171 : Vec F S1x1 .f32 ← Prog.lift (.load arg7 (Rect.unit (s := S16x128) ![9, 1] S1x1.size inb_S16x128_S1x1_9_1).toLoadRect (View.loadsAt_vmem h_S1x1))
  let v1180 : Vec F S1x1 .f32 ← Prog.lift (.load arg7 (Rect.unit (s := S16x128) ![9, 1] S1x1.size inb_S16x128_S1x1_9_1).toLoadRect (View.loadsAt_vmem h_S1x1))
  Prog.lift (.store arg7 (Rect.unit (s := S16x128) ![9, 1] S1x1.size inb_S16x128_S1x1_9_1) (k1_pay108 (f 9) v1171) Finset.univ (View.stores_vmem_bits_univ h_S1x1 rfl) (.inl rfl))

/-- The sums begun at the first point, and the last part. -/
def tail2 (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole) (f : Fin 10 → FVec F S8x256 .f32) :
    Prog (TpuEff nD τ sig (Elt F) Λ₀ .tc) PUnit := do
  if k1_h1 : (Scalar.cmpi .ne (Scalar.extui (Scalar.andi (Scalar.cmpi .eq ((BitVec.ofNat 32 (i 0).val)) 0#32) (Scalar.cmpi .eq ((BitVec.ofNat 32 (i 1).val)) 0#32))) 0#32) = 1#1 then do
    let v1182 : Vec F S16x128 .f32 ← Prog.lift (.load arg7 (Rect.unit (s := S16x128) ![0, 0] S16x128.size inb_S16x128_S16x128_0_0).toLoadRect (View.loadsAt_vmem h_S16x128))
    Prog.lift (.store arg7 (Rect.unit (s := S16x128) ![0, 0] S16x128.size inb_S16x128_S16x128_0_0) (k1_pay82 (F := F)) Finset.univ (View.stores_vmem_bits_univ h_S16x128 rfl) (.inl rfl))
    pure ⟨⟩
  else do
    pure ⟨⟩
  sums2 i arg2 harg2 arg3 harg3 arg4 harg4 arg5 harg5 arg6 harg6 arg7 harg7 f

/-- From the first layer `r` on: the hidden rows and the second layer. -/
def mid2 (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole) (r : Fin 10 → FVec F S8x256 .f32) :
    Prog (TpuEff nD τ sig (Elt F) Λ₀ .tc) PUnit := do
  let v433 : Vec F S1x1 .f32 ← Prog.lift (.load arg4 (Rect.unit (s := S2x10) ![0, 0] S1x1.size inb_S2x10_S1x1_0_0).toLoadRect (View.loadsAt_vmem h_S1x1))
  let v437 : Vec F S1x1 .f32 ← Prog.lift (.load arg4 (Rect.unit (s := S2x10) ![1, 0] S1x1.size inb_S2x10_S1x1_1_0).toLoadRect (View.loadsAt_vmem h_S1x1))
  let v443 : Vec F S1x1 .f32 ← Prog.lift (.load arg4 (Rect.unit (s := S2x10) ![0, 1] S1x1.size inb_S2x10_S1x1_0_1).toLoadRect (View.loadsAt_vmem h_S1x1))
  let v447 : Vec F S1x1 .f32 ← Prog.lift (.load arg4 (Rect.unit (s := S2x10) ![1, 1] S1x1.size inb_S2x10_S1x1_1_1).toLoadRect (View.loadsAt_vmem h_S1x1))
  let v453 : Vec F S1x1 .f32 ← Prog.lift (.load arg4 (Rect.unit (s := S2x10) ![0, 2] S1x1.size inb_S2x10_S1x1_0_2).toLoadRect (View.loadsAt_vmem h_S1x1))
  let v457 : Vec F S1x1 .f32 ← Prog.lift (.load arg4 (Rect.unit (s := S2x10) ![1, 2] S1x1.size inb_S2x10_S1x1_1_2).toLoadRect (View.loadsAt_vmem h_S1x1))
  let v463 : Vec F S1x1 .f32 ← Prog.lift (.load arg4 (Rect.unit (s := S2x10) ![0, 3] S1x1.size inb_S2x10_S1x1_0_3).toLoadRect (View.loadsAt_vmem h_S1x1))
  let v467 : Vec F S1x1 .f32 ← Prog.lift (.load arg4 (Rect.unit (s := S2x10) ![1, 3] S1x1.size inb_S2x10_S1x1_1_3).toLoadRect (View.loadsAt_vmem h_S1x1))
  let v473 : Vec F S1x1 .f32 ← Prog.lift (.load arg4 (Rect.unit (s := S2x10) ![0, 4] S1x1.size inb_S2x10_S1x1_0_4).toLoadRect (View.loadsAt_vmem h_S1x1))
  let v477 : Vec F S1x1 .f32 ← Prog.lift (.load arg4 (Rect.unit (s := S2x10) ![1, 4] S1x1.size inb_S2x10_S1x1_1_4).toLoadRect (View.loadsAt_vmem h_S1x1))
  let v483 : Vec F S1x1 .f32 ← Prog.lift (.load arg4 (Rect.unit (s := S2x10) ![0, 5] S1x1.size inb_S2x10_S1x1_0_5).toLoadRect (View.loadsAt_vmem h_S1x1))
  let v487 : Vec F S1x1 .f32 ← Prog.lift (.load arg4 (Rect.unit (s := S2x10) ![1, 5] S1x1.size inb_S2x10_S1x1_1_5).toLoadRect (View.loadsAt_vmem h_S1x1))
  let v493 : Vec F S1x1 .f32 ← Prog.lift (.load arg4 (Rect.unit (s := S2x10) ![0, 6] S1x1.size inb_S2x10_S1x1_0_6).toLoadRect (View.loadsAt_vmem h_S1x1))
  let v497 : Vec F S1x1 .f32 ← Prog.lift (.load arg4 (Rect.unit (s := S2x10) ![1, 6] S1x1.size inb_S2x10_S1x1_1_6).toLoadRect (View.loadsAt_vmem h_S1x1))
  let v503 : Vec F S1x1 .f32 ← Prog.lift (.load arg4 (Rect.unit (s := S2x10) ![0, 7] S1x1.size inb_S2x10_S1x1_0_7).toLoadRect (View.loadsAt_vmem h_S1x1))
  let v507 : Vec F S1x1 .f32 ← Prog.lift (.load arg4 (Rect.unit (s := S2x10) ![1, 7] S1x1.size inb_S2x10_S1x1_1_7).toLoadRect (View.loadsAt_vmem h_S1x1))
  let v513 : Vec F S1x1 .f32 ← Prog.lift (.load arg4 (Rect.unit (s := S2x10) ![0, 8] S1x1.size inb_S2x10_S1x1_0_8).toLoadRect (View.loadsAt_vmem h_S1x1))
  let v517 : Vec F S1x1 .f32 ← Prog.lift (.load arg4 (Rect.unit (s := S2x10) ![1, 8] S1x1.size inb_S2x10_S1x1_1_8).toLoadRect (View.loadsAt_vmem h_S1x1))
  let v523 : Vec F S1x1 .f32 ← Prog.lift (.load arg4 (Rect.unit (s := S2x10) ![0, 9] S1x1.size inb_S2x10_S1x1_0_9).toLoadRect (View.loadsAt_vmem h_S1x1))
  let v527 : Vec F S1x1 .f32 ← Prog.lift (.load arg4 (Rect.unit (s := S2x10) ![1, 9] S1x1.size inb_S2x10_S1x1_1_9).toLoadRect (View.loadsAt_vmem h_S1x1))
  let v533 : Vec F S10x10 .f32 ← Prog.lift (.load arg5 (Rect.unit (s := S10x10) ![0, 0] S10x10.size inb_S10x10_S10x10_0_0).toLoadRect (View.loadsAt_vmem h_S10x10))
  let v595 : Vec F S1x1 .f32 ← Prog.lift (.load arg6 (Rect.unit (s := S1x10) ![0, 0] S1x1.size inb_S1x10_S1x1_0_0).toLoadRect (View.loadsAt_vmem h_S1x1))
  let v638 : Vec F S1x1 .f32 ← Prog.lift (.load arg6 (Rect.unit (s := S1x10) ![0, 1] S1x1.size inb_S1x10_S1x1_0_1).toLoadRect (View.loadsAt_vmem h_S1x1))
  let v681 : Vec F S1x1 .f32 ← Prog.lift (.load arg6 (Rect.unit (s := S1x10) ![0, 2] S1x1.size inb_S1x10_S1x1_0_2).toLoadRect (View.loadsAt_vmem h_S1x1))
  let v724 : Vec F S1x1 .f32 ← Prog.lift (.load arg6 (Rect.unit (s := S1x10) ![0, 3] S1x1.size inb_S1x10_S1x1_0_3).toLoadRect (View.loadsAt_vmem h_S1x1))
  let v767 : Vec F S1x1 .f32 ← Prog.lift (.load arg6 (Rect.unit (s := S1x10) ![0, 4] S1x1.size inb_S1x10_S1x1_0_4).toLoadRect (View.loadsAt_vmem h_S1x1))
  let v810 : Vec F S1x1 .f32 ← Prog.lift (.load arg6 (Rect.unit (s := S1x10) ![0, 5] S1x1.size inb_S1x10_S1x1_0_5).toLoadRect (View.loadsAt_vmem h_S1x1))
  let v853 : Vec F S1x1 .f32 ← Prog.lift (.load arg6 (Rect.unit (s := S1x10) ![0, 6] S1x1.size inb_S1x10_S1x1_0_6).toLoadRect (View.loadsAt_vmem h_S1x1))
  let v896 : Vec F S1x1 .f32 ← Prog.lift (.load arg6 (Rect.unit (s := S1x10) ![0, 7] S1x1.size inb_S1x10_S1x1_0_7).toLoadRect (View.loadsAt_vmem h_S1x1))
  let v939 : Vec F S1x1 .f32 ← Prog.lift (.load arg6 (Rect.unit (s := S1x10) ![0, 8] S1x1.size inb_S1x10_S1x1_0_8).toLoadRect (View.loadsAt_vmem h_S1x1))
  let v982 : Vec F S1x1 .f32 ← Prog.lift (.load arg6 (Rect.unit (s := S1x10) ![0, 9] S1x1.size inb_S1x10_S1x1_0_9).toLoadRect (View.loadsAt_vmem h_S1x1))
  tail2 i arg2 harg2 arg3 harg3 arg4 harg4 arg5 harg5 arg6 harg6 arg7 harg7 ![(k1_pay61 (k1_pay48 v533) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517) (k1_pay58 (r 9) v523 v527) (k1_pay59 (k1_pay40 (r 0) v433 v437) (k1_pay41 (r 1) v443 v447) v533) (k1_pay60 v533) v595), (k1_pay63 (k1_pay48 v533) (k1_pay55 (k1_pay46 (r 6) v493 v497)) (k1_pay56 (k1_pay47 (r 7) v503 v507)) (k1_pay57 (r 8) v513 v517) (k1_pay58 (r 9) v523 v527) (k1_pay62 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487))) v638), (k1_pay66 (k1_pay64 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517)) (k1_pay65 (k1_pay48 v533) (k1_pay58 (r 9) v523 v527)) v681), (k1_pay67 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517) (k1_pay58 (r 9) v523 v527) v724), (k1_pay70 (k1_pay48 v533) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517) (k1_pay58 (r 9) v523 v527) (k1_pay68 (k1_pay48 v533) (k1_pay49 (k1_pay40 (r 0) v433 v437)) (k1_pay50 (k1_pay41 (r 1) v443 v447))) (k1_pay69 (k1_pay48 v533)) v767), (k1_pay72 (k1_pay48 v533) (k1_pay55 (k1_pay46 (r 6) v493 v497)) (k1_pay56 (k1_pay47 (r 7) v503 v507)) (k1_pay57 (r 8) v513 v517) (k1_pay58 (r 9) v523 v527) (k1_pay71 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487))) v810), (k1_pay75 (k1_pay73 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517)) (k1_pay74 (k1_pay48 v533) (k1_pay58 (r 9) v523 v527)) v853), (k1_pay76 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517) (k1_pay58 (r 9) v523 v527) v896), (k1_pay79 (k1_pay48 v533) (k1_pay51 (k1_pay42 (r 2) v453 v457)) (k1_pay52 (k1_pay43 (r 3) v463 v467)) (k1_pay53 (k1_pay44 (r 4) v473 v477)) (k1_pay54 (k1_pay45 (r 5) v483 v487)) (k1_pay55 (k1_pay46 (r 6) v493 v497)) (k1_pay56 (k1_pay47 (r 7) v503 v507)) (k1_pay57 (r 8) v513 v517) (k1_pay58 (r 9) v523 v527) (k1_pay77 (k1_pay48 v533) (k1_pay49 (k1_pay40 (r 0) v433 v437)) (k1_pay50 (k1_pay41 (r 1) v443 v447))) (k1_pay78 (k1_pay48 v533)) v939), (k1_pay81 (k1_pay48 v533) (k1_pay55 (k1_pay46 (r 6) v493 v497)) (k1_pay56 (k1_pay47 (r 7) v503 v507)) (k1_pay57 (r 8) v513 v517) (k1_pay58 (r 9) v523 v527) (k1_pay80 (k1_pay48 v533) (k1_pay49 (k1_pay40 (r 0) v433 v437)) (k1_pay50 (k1_pay41 (r 1) v443 v447)) (k1_pay51 (k1_pay42 (r 2) v453 v457)) (k1_pay52 (k1_pay43 (r 3) v463 v467)) (k1_pay53 (k1_pay44 (r 4) v473 v477)) (k1_pay54 (k1_pay45 (r 5) v483 v487))) v982)]

/-- The body: its loads of the features and the first weights, then the rest from the first layer on. -/
theorem body2_eq (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole) :
    cc1__stats2_kernel (F := F) i arg2 harg2 arg3 harg3 arg4 harg4 arg5 harg5 arg6 harg6 arg7 harg7 = (do
  let v0 : Vec F S1x1x8x256 .f32 ← Prog.lift (.load arg2 (Rect.unit (s := S1x10x8x256) ![0, 0, 0, 0] S1x1x8x256.size inb_S1x10x8x256_S1x1x8x256_0_0_0_0).toLoadRect (View.loadsAt_vmem h_S1x1x8x256))
  let v2 : Vec F S1x1x8x256 .f32 ← Prog.lift (.load arg2 (Rect.unit (s := S1x10x8x256) ![0, 1, 0, 0] S1x1x8x256.size inb_S1x10x8x256_S1x1x8x256_0_1_0_0).toLoadRect (View.loadsAt_vmem h_S1x1x8x256))
  let v4 : Vec F S1x1x8x256 .f32 ← Prog.lift (.load arg2 (Rect.unit (s := S1x10x8x256) ![0, 2, 0, 0] S1x1x8x256.size inb_S1x10x8x256_S1x1x8x256_0_2_0_0).toLoadRect (View.loadsAt_vmem h_S1x1x8x256))
  let v6 : Vec F S1x1x8x256 .f32 ← Prog.lift (.load arg2 (Rect.unit (s := S1x10x8x256) ![0, 3, 0, 0] S1x1x8x256.size inb_S1x10x8x256_S1x1x8x256_0_3_0_0).toLoadRect (View.loadsAt_vmem h_S1x1x8x256))
  let v8 : Vec F S1x1x8x256 .f32 ← Prog.lift (.load arg2 (Rect.unit (s := S1x10x8x256) ![0, 4, 0, 0] S1x1x8x256.size inb_S1x10x8x256_S1x1x8x256_0_4_0_0).toLoadRect (View.loadsAt_vmem h_S1x1x8x256))
  let v10 : Vec F S1x1x8x256 .f32 ← Prog.lift (.load arg2 (Rect.unit (s := S1x10x8x256) ![0, 5, 0, 0] S1x1x8x256.size inb_S1x10x8x256_S1x1x8x256_0_5_0_0).toLoadRect (View.loadsAt_vmem h_S1x1x8x256))
  let v12 : Vec F S1x1x8x256 .f32 ← Prog.lift (.load arg2 (Rect.unit (s := S1x10x8x256) ![0, 6, 0, 0] S1x1x8x256.size inb_S1x10x8x256_S1x1x8x256_0_6_0_0).toLoadRect (View.loadsAt_vmem h_S1x1x8x256))
  let v14 : Vec F S1x1x8x256 .f32 ← Prog.lift (.load arg2 (Rect.unit (s := S1x10x8x256) ![0, 7, 0, 0] S1x1x8x256.size inb_S1x10x8x256_S1x1x8x256_0_7_0_0).toLoadRect (View.loadsAt_vmem h_S1x1x8x256))
  let v16 : Vec F S1x1x8x256 .f32 ← Prog.lift (.load arg2 (Rect.unit (s := S1x10x8x256) ![0, 8, 0, 0] S1x1x8x256.size inb_S1x10x8x256_S1x1x8x256_0_8_0_0).toLoadRect (View.loadsAt_vmem h_S1x1x8x256))
  let v18 : Vec F S1x1x8x256 .f32 ← Prog.lift (.load arg2 (Rect.unit (s := S1x10x8x256) ![0, 9, 0, 0] S1x1x8x256.size inb_S1x10x8x256_S1x1x8x256_0_9_0_0).toLoadRect (View.loadsAt_vmem h_S1x1x8x256))
  let v20 : Vec F S10x10 .f32 ← Prog.lift (.load arg3 (Rect.unit (s := S10x10) ![0, 0] S10x10.size inb_S10x10_S10x10_0_0).toLoadRect (View.loadsAt_vmem h_S10x10))
  mid2 i arg2 harg2 arg3 harg3 arg4 harg4 arg5 harg5 arg6 harg6 arg7 harg7 ![(k1_pay23 (k1_pay10 v20) (k1_pay19 (k1_pay9 v16)) (k1_pay20 v18) (k1_pay21 (k1_pay1 v0) (k1_pay2 v2) (k1_pay3 v4) (k1_pay4 v6) (k1_pay5 v8) (k1_pay6 v10) (k1_pay7 v12) (k1_pay8 v14) v20) (k1_pay22 v20)), (k1_pay24 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16)) (k1_pay20 v18)), (k1_pay26 (k1_pay10 v20) (k1_pay15 (k1_pay5 v8)) (k1_pay16 (k1_pay6 v10)) (k1_pay17 (k1_pay7 v12)) (k1_pay18 (k1_pay8 v14)) (k1_pay19 (k1_pay9 v16)) (k1_pay20 v18) (k1_pay25 (k1_pay10 v20) (k1_pay11 (k1_pay1 v0)) (k1_pay12 (k1_pay2 v2)) (k1_pay13 (k1_pay3 v4)) (k1_pay14 (k1_pay4 v6)))), (k1_pay29 (k1_pay20 v18) (k1_pay27 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16))) (k1_pay28 (k1_pay10 v20))), (k1_pay30 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16)) (k1_pay20 v18)), (k1_pay33 (k1_pay10 v20) (k1_pay16 (k1_pay6 v10)) (k1_pay17 (k1_pay7 v12)) (k1_pay18 (k1_pay8 v14)) (k1_pay19 (k1_pay9 v16)) (k1_pay20 v18) (k1_pay31 (k1_pay10 v20) (k1_pay11 (k1_pay1 v0)) (k1_pay12 (k1_pay2 v2)) (k1_pay13 (k1_pay3 v4)) (k1_pay14 (k1_pay4 v6))) (k1_pay32 (k1_pay10 v20) (k1_pay15 (k1_pay5 v8)))), (k1_pay34 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16)) (k1_pay20 v18)), (k1_pay35 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16)) (k1_pay20 v18)), (k1_pay38 (k1_pay10 v20) (k1_pay16 (k1_pay6 v10)) (k1_pay17 (k1_pay7 v12)) (k1_pay18 (k1_pay8 v14)) (k1_pay19 (k1_pay9 v16)) (k1_pay20 v18) (k1_pay36 (k1_pay10 v20) (k1_pay11 (k1_pay1 v0)) (k1_pay12 (k1_pay2 v2)) (k1_pay13 (k1_pay3 v4)) (k1_pay14 (k1_pay4 v6)) (k1_pay15 (k1_pay5 v8))) (k1_pay37 (k1_pay10 v20))), (k1_pay39 (k1_pay10 v20) (k1_pay11 (k1_pay1 v0)) (k1_pay12 (k1_pay2 v2)) (k1_pay13 (k1_pay3 v4)) (k1_pay14 (k1_pay4 v6)) (k1_pay15 (k1_pay5 v8)) (k1_pay16 (k1_pay6 v10)) (k1_pay17 (k1_pay7 v12)) (k1_pay18 (k1_pay8 v14)) (k1_pay19 (k1_pay9 v16)) (k1_pay20 v18))] : Prog (TpuEff nD τ sig (Elt F) Λ₀ .tc) PUnit) := by
  rw [cc1__stats2_kernel_eq_skeleton]; unfold cc1__stats2_kernel_skel
  rw [k1_part24_eq_skeleton]; unfold k1_part24_skel
  rw [k1_part19_eq_skeleton]; unfold k1_part19_skel
  unfold mid2 tail2
  iterate 42 refine congrArg (Prog.op _) (funext fun _ => ?_)
  dsimp only
  split_ifs
  · rfl
  · rfl

/-- The first layer of a block of features. -/
theorem first2_eq (x0 : Vec F S1x10x8x256 .f32) (x1 : Vec F S10x10 .f32) :
    ![(k1_pay23 (k1_pay10 (View.ld x1 (Rect.unit (s := S10x10) ![0, 0] S10x10.size inb_S10x10_S10x10_0_0))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0))) (k1_pay21 (k1_pay1 (View.ld x0 (Rect.unit (s := S1x10x8x256) ![0, 0, 0, 0] S1x1x8x256.size inb_S1x10x8x256_S1x1x8x256_0_0_0_0))) (k1_pay2 (View.ld x0 (Rect.unit (s := S1x10x8x256) ![0, 1, 0, 0] S1x1x8x256.size inb_S1x10x8x256_S1x1x8x256_0_1_0_0))) (k1_pay3 (View.ld x0 (Rect.unit (s := S1x10x8x256) ![0, 2, 0, 0] S1x1x8x256.size inb_S1x10x8x256_S1x1x8x256_0_2_0_0))) (k1_pay4 (View.ld x0 (Rect.unit (s := S1x10x8x256) ![0, 3, 0, 0] S1x1x8x256.size inb_S1x10x8x256_S1x1x8x256_0_3_0_0))) (k1_pay5 (View.ld x0 (Rect.unit (s := S1x10x8x256) ![0, 4, 0, 0] S1x1x8x256.size inb_S1x10x8x256_S1x1x8x256_0_4_0_0))) (k1_pay6 (View.ld x0 (Rect.unit (s := S1x10x8x256) ![0, 5, 0, 0] S1x1x8x256.size inb_S1x10x8x256_S1x1x8x256_0_5_0_0))) (k1_pay7 (View.ld x0 (Rect.unit (s := S1x10x8x256) ![0, 6, 0, 0] S1x1x8x256.size inb_S1x10x8x256_S1x1x8x256_0_6_0_0))) (k1_pay8 (View.ld x0 (Rect.unit (s := S1x10x8x256) ![0, 7, 0, 0] S1x1x8x256.size inb_S1x10x8x256_S1x1x8x256_0_7_0_0))) (View.ld x1 (Rect.unit (s := S10x10) ![0, 0] S10x10.size inb_S10x10_S10x10_0_0))) (k1_pay22 (View.ld x1 (Rect.unit (s := S10x10) ![0, 0] S10x10.size inb_S10x10_S10x10_0_0)))), (k1_pay24 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0)))), (k1_pay26 (k1_pay10 (View.ld x1 (Rect.unit (s := S10x10) ![0, 0] S10x10.size inb_S10x10_S10x10_0_0))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0))) (k1_pay25 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))))), (k1_pay29 (k1_pay20 (View.ld x0 (Rect.unit (s := S1x10x8x256) ![0, 9, 0, 0] S1x1x8x256.size inb_S1x10x8x256_S1x1x8x256_0_9_0_0))) (k1_pay27 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0))))) (k1_pay28 (k1_pay10 (View.ld x1 (Rect.unit (s := S10x10) ![0, 0] S10x10.size inb_S10x10_S10x10_0_0))))), (k1_pay30 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0)))), (k1_pay33 (k1_pay10 (View.ld x1 (Rect.unit (s := S10x10) ![0, 0] S10x10.size inb_S10x10_S10x10_0_0))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0))) (k1_pay31 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0))))) (k1_pay32 (k1_pay10 (View.ld x1 (Rect.unit (s := S10x10) ![0, 0] S10x10.size inb_S10x10_S10x10_0_0))) (k1_pay15 (k1_pay5 (View.ld x0 (Rect.unit (s := S1x10x8x256) ![0, 4, 0, 0] S1x1x8x256.size inb_S1x10x8x256_S1x1x8x256_0_4_0_0)))))), (k1_pay34 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0)))), (k1_pay35 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0)))), (k1_pay38 (k1_pay10 (View.ld x1 (Rect.unit (s := S10x10) ![0, 0] S10x10.size inb_S10x10_S10x10_0_0))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0))) (k1_pay36 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0))))) (k1_pay37 (k1_pay10 (View.ld x1 (Rect.unit (s := S10x10) ![0, 0] S10x10.size inb_S10x10_S10x10_0_0))))), (k1_pay39 (k1_pay10 (View.ld x1 (Rect.unit (s := S10x10) ![0, 0] S10x10.size inb_S10x10_S10x10_0_0))) (k1_pay11 (k1_pay1 (View.ld x0 (Rect.unit (s := S1x10x8x256) ![0, 0, 0, 0] S1x1x8x256.size inb_S1x10x8x256_S1x1x8x256_0_0_0_0)))) (k1_pay12 (k1_pay2 (View.ld x0 (Rect.unit (s := S1x10x8x256) ![0, 1, 0, 0] S1x1x8x256.size inb_S1x10x8x256_S1x1x8x256_0_1_0_0)))) (k1_pay13 (k1_pay3 (View.ld x0 (Rect.unit (s := S1x10x8x256) ![0, 2, 0, 0] S1x1x8x256.size inb_S1x10x8x256_S1x1x8x256_0_2_0_0)))) (k1_pay14 (k1_pay4 (View.ld x0 (Rect.unit (s := S1x10x8x256) ![0, 3, 0, 0] S1x1x8x256.size inb_S1x10x8x256_S1x1x8x256_0_3_0_0)))) (k1_pay15 (k1_pay5 (View.ld x0 (Rect.unit (s := S1x10x8x256) ![0, 4, 0, 0] S1x1x8x256.size inb_S1x10x8x256_S1x1x8x256_0_4_0_0)))) (k1_pay16 (k1_pay6 (View.ld x0 (Rect.unit (s := S1x10x8x256) ![0, 5, 0, 0] S1x1x8x256.size inb_S1x10x8x256_S1x1x8x256_0_5_0_0)))) (k1_pay17 (k1_pay7 (View.ld x0 (Rect.unit (s := S1x10x8x256) ![0, 6, 0, 0] S1x1x8x256.size inb_S1x10x8x256_S1x1x8x256_0_6_0_0)))) (k1_pay18 (k1_pay8 (View.ld x0 (Rect.unit (s := S1x10x8x256) ![0, 7, 0, 0] S1x1x8x256.size inb_S1x10x8x256_S1x1x8x256_0_7_0_0)))) (k1_pay19 (k1_pay9 (View.ld x0 (Rect.unit (s := S1x10x8x256) ![0, 8, 0, 0] S1x1x8x256.size inb_S1x10x8x256_S1x1x8x256_0_8_0_0)))) (k1_pay20 (View.ld x0 (Rect.unit (s := S1x10x8x256) ![0, 9, 0, 0] S1x1x8x256.size inb_S1x10x8x256_S1x1x8x256_0_9_0_0))))] = layer (narrow (View.ld x1 (Rect.unit (s := S10x10) ![0, 0] S10x10.size inb_S10x10_S10x10_0_0))) (planesIn x0) := by
  funext d
  fin_cases d <;> rfl

/-- The second layer from the first. -/
theorem second2_eq (r : Fin 10 → FVec F S8x256 .f32) (x2 : Vec F S2x10 .f32) (x3 : Vec F S10x10 .f32) (x4 : Vec F S1x10 .f32) :
    ![(k1_pay61 (k1_pay48 (View.ld x3 (Rect.unit (s := S10x10) ![0, 0] S10x10.size inb_S10x10_S10x10_0_0))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay59 (k1_pay40 (r 0) (View.ld x2 (Rect.unit (s := S2x10) ![0, 0] S1x1.size inb_S2x10_S1x1_0_0)) (View.ld x2 (Rect.unit (s := S2x10) ![1, 0] S1x1.size inb_S2x10_S1x1_1_0))) (k1_pay41 (r 1) (View.ld x2 (Rect.unit (s := S2x10) ![0, 1] S1x1.size inb_S2x10_S1x1_0_1)) (View.ld x2 (Rect.unit (s := S2x10) ![1, 1] S1x1.size inb_S2x10_S1x1_1_1))) (View.ld x3 (Rect.unit (s := S10x10) ![0, 0] S10x10.size inb_S10x10_S10x10_0_0))) (k1_pay60 (View.ld x3 (Rect.unit (s := S10x10) ![0, 0] S10x10.size inb_S10x10_S10x10_0_0))) (View.ld x4 (Rect.unit (s := S1x10) ![0, 0] S1x1.size inb_S1x10_S1x1_0_0))), (k1_pay63 (k1_pay48 (View.ld x3 (Rect.unit (s := S10x10) ![0, 0] S10x10.size inb_S10x10_S10x10_0_0))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay62 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 1] S1x1.size inb_S1x10_S1x1_0_1))), (k1_pay66 (k1_pay64 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8)))) (k1_pay65 (k1_pay48 (View.ld x3 (Rect.unit (s := S10x10) ![0, 0] S10x10.size inb_S10x10_S10x10_0_0))) (k1_pay58 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 2] S1x1.size inb_S1x10_S1x1_0_2))), (k1_pay67 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (View.ld x4 (Rect.unit (s := S1x10) ![0, 3] S1x1.size inb_S1x10_S1x1_0_3))), (k1_pay70 (k1_pay48 (View.ld x3 (Rect.unit (s := S10x10) ![0, 0] S10x10.size inb_S10x10_S10x10_0_0))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay68 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1))))) (k1_pay69 (k1_pay48 (View.ld x3 (Rect.unit (s := S10x10) ![0, 0] S10x10.size inb_S10x10_S10x10_0_0)))) (View.ld x4 (Rect.unit (s := S1x10) ![0, 4] S1x1.size inb_S1x10_S1x1_0_4))), (k1_pay72 (k1_pay48 (View.ld x3 (Rect.unit (s := S10x10) ![0, 0] S10x10.size inb_S10x10_S10x10_0_0))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay71 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 5] S1x1.size inb_S1x10_S1x1_0_5))), (k1_pay75 (k1_pay73 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8)))) (k1_pay74 (k1_pay48 (View.ld x3 (Rect.unit (s := S10x10) ![0, 0] S10x10.size inb_S10x10_S10x10_0_0))) (k1_pay58 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 6] S1x1.size inb_S1x10_S1x1_0_6))), (k1_pay76 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (View.ld x4 (Rect.unit (s := S1x10) ![0, 7] S1x1.size inb_S1x10_S1x1_0_7))), (k1_pay79 (k1_pay48 (View.ld x3 (Rect.unit (s := S10x10) ![0, 0] S10x10.size inb_S10x10_S10x10_0_0))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5)))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay77 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1))))) (k1_pay78 (k1_pay48 (View.ld x3 (Rect.unit (s := S10x10) ![0, 0] S10x10.size inb_S10x10_S10x10_0_0)))) (View.ld x4 (Rect.unit (s := S1x10) ![0, 8] S1x1.size inb_S1x10_S1x1_0_8))), (k1_pay81 (k1_pay48 (View.ld x3 (Rect.unit (s := S10x10) ![0, 0] S10x10.size inb_S10x10_S10x10_0_0))) (k1_pay55 (k1_pay46 (r 6) (View.ld x2 (Rect.unit (s := S2x10) ![0, 6] S1x1.size inb_S2x10_S1x1_0_6)) (View.ld x2 (Rect.unit (s := S2x10) ![1, 6] S1x1.size inb_S2x10_S1x1_1_6)))) (k1_pay56 (k1_pay47 (r 7) (View.ld x2 (Rect.unit (s := S2x10) ![0, 7] S1x1.size inb_S2x10_S1x1_0_7)) (View.ld x2 (Rect.unit (s := S2x10) ![1, 7] S1x1.size inb_S2x10_S1x1_1_7)))) (k1_pay57 (r 8) (View.ld x2 (Rect.unit (s := S2x10) ![0, 8] S1x1.size inb_S2x10_S1x1_0_8)) (View.ld x2 (Rect.unit (s := S2x10) ![1, 8] S1x1.size inb_S2x10_S1x1_1_8))) (k1_pay58 (r 9) (View.ld x2 (Rect.unit (s := S2x10) ![0, 9] S1x1.size inb_S2x10_S1x1_0_9)) (View.ld x2 (Rect.unit (s := S2x10) ![1, 9] S1x1.size inb_S2x10_S1x1_1_9))) (k1_pay80 (k1_pay48 (View.ld x3 (Rect.unit (s := S10x10) ![0, 0] S10x10.size inb_S10x10_S10x10_0_0))) (k1_pay49 (k1_pay40 (r 0) (View.ld x2 (Rect.unit (s := S2x10) ![0, 0] S1x1.size inb_S2x10_S1x1_0_0)) (View.ld x2 (Rect.unit (s := S2x10) ![1, 0] S1x1.size inb_S2x10_S1x1_1_0)))) (k1_pay50 (k1_pay41 (r 1) (View.ld x2 (Rect.unit (s := S2x10) ![0, 1] S1x1.size inb_S2x10_S1x1_0_1)) (View.ld x2 (Rect.unit (s := S2x10) ![1, 1] S1x1.size inb_S2x10_S1x1_1_1)))) (k1_pay51 (k1_pay42 (r 2) (View.ld x2 (Rect.unit (s := S2x10) ![0, 2] S1x1.size inb_S2x10_S1x1_0_2)) (View.ld x2 (Rect.unit (s := S2x10) ![1, 2] S1x1.size inb_S2x10_S1x1_1_2)))) (k1_pay52 (k1_pay43 (r 3) (View.ld x2 (Rect.unit (s := S2x10) ![0, 3] S1x1.size inb_S2x10_S1x1_0_3)) (View.ld x2 (Rect.unit (s := S2x10) ![1, 3] S1x1.size inb_S2x10_S1x1_1_3)))) (k1_pay53 (k1_pay44 (r 4) (View.ld x2 (Rect.unit (s := S2x10) ![0, 4] S1x1.size inb_S2x10_S1x1_0_4)) (View.ld x2 (Rect.unit (s := S2x10) ![1, 4] S1x1.size inb_S2x10_S1x1_1_4)))) (k1_pay54 (k1_pay45 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 9] S1x1.size inb_S1x10_S1x1_0_9)))] = affine (View.ld x3 (Rect.unit (s := S10x10) ![0, 0] S10x10.size inb_S10x10_S10x10_0_0)) x4 (hidden x2 r) := by
  funext d
  fin_cases d <;> rfl

end Cert.KernelIdeal.Knn

end
-- ==== Proof.MlpRun2.lean ====
/- The second kernel body run on whole staging buffers, point by point. -/
module

public import proofs.«01_k».proof.Proof.Mlp2
public import proofs.«01_k».proof.Proof.KnnRun
public import Idealize.ShloMosaic.Lib.VecWindow
public import Idealize.ShloMosaic.Lib.Pipeline.ValueKit

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The second body is at the grid's first point. -/
def first1 (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

set_option maxHeartbeats 1000000 in
/-- The last part of the second body adds the rows to the sums. -/
theorem sums2_run (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (f : Fin 10 → FVec F S8x256 .f32) (x5 : Vec F S16x128 .f32) :
    ∀ (E : Set ℕ) (K : PUnit → sProp 𝕄),
      iprop(owns (c : Thread nD τ) arg7 fullShare x5 ∗ (iprop(owns (c : Thread nD τ) arg7 fullShare (accBlock f x5)) -∗ K ⟨⟩))
        ⊢ wp frame (wpE (defs₀ (F := F)) Variants.none c none) E (sums2 i arg2 harg2 arg3 harg3 arg4 harg4 arg5 harg5 arg6 harg6 arg7 harg7 f) K := by
  intro E K
  unfold sums2 owns
  iintro ⟨⟨%f7, %hf7, H7⟩, Hk⟩
  subst hf7
  sl_exec
  sl_step
  iapply Hk
  iexists _; isplitr; swap; · iexact H7
  ipureintro
  refine (congrArg (fun L => View.read (Elt F) arg7.view (View.writes arg7.view (Elt F) f7 L)) (?_ : _ = accPieces (sumOf f (View.read (Elt F) arg7.view f7)) 10 le_rfl)).trans
    (funext fun y => (read_accPieces _ _ _ y 10 le_rfl).trans (sums_eq _ _ y))
  simp only [accPieces]
  rfl

set_option maxHeartbeats 1000000 in
/-- At a point after the first, the rows are added to the sums. -/
theorem tail2_later (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : ¬ first1 i) (f : Fin 10 → FVec F S8x256 .f32) (x5 : Vec F S16x128 .f32) :
    ∀ (E : Set ℕ) (K : PUnit → sProp 𝕄),
      iprop(owns (c : Thread nD τ) arg7 fullShare x5 ∗ (iprop(owns (c : Thread nD τ) arg7 fullShare (accBlock f x5)) -∗ K ⟨⟩))
        ⊢ wp frame (wpE (defs₀ (F := F)) Variants.none c none) E (tail2 i arg2 harg2 arg3 harg3 arg4 harg4 arg5 harg5 arg6 harg6 arg7 harg7 f) K := by
  intro E K
  unfold tail2
  have key := sums2_run c i arg2 harg2 arg3 harg3 arg4 harg4 arg5 harg5 arg6 harg6 arg7 harg7 f x5 E K
  generalize sums2 (F := F) i arg2 harg2 arg3 harg3 arg4 harg4 arg5 harg5 arg6 harg6 arg7 harg7 f = g at key ⊢
  unfold owns at key ⊢
  iintro ⟨H7, Hk⟩
  sl_exec (disch := first | sl_exact hc0)
  iapply key
  isplitl [H7]
  · iexact H7
  iexact Hk

set_option maxHeartbeats 1000000 in
/-- At a point after the first, the second layer is added to the sums. -/
theorem mid2_later (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : ¬ first1 i) (r : Fin 10 → FVec F S8x256 .f32) (x2 : Vec F S2x10 .f32) (x3 : Vec F S10x10 .f32) (x4 : Vec F S1x10 .f32) (x5 : Vec F S16x128 .f32) :
    ∀ (E : Set ℕ) (K : PUnit → sProp 𝕄),
      iprop(owns (c : Thread nD τ) arg4 fullShare x2 ∗ owns (c : Thread nD τ) arg5 fullShare x3 ∗ owns (c : Thread nD τ) arg6 fullShare x4 ∗ owns (c : Thread nD τ) arg7 fullShare x5 ∗ (iprop(owns (c : Thread nD τ) arg4 fullShare x2 ∗ owns (c : Thread nD τ) arg5 fullShare x3 ∗ owns (c : Thread nD τ) arg6 fullShare x4 ∗ owns (c : Thread nD τ) arg7 fullShare (accBlock (affine x3 x4 (hidden x2 r)) x5)) -∗ K ⟨⟩))
        ⊢ wp frame (wpE (defs₀ (F := F)) Variants.none c none) E (mid2 i arg2 harg2 arg3 harg3 arg4 harg4 arg5 harg5 arg6 harg6 arg7 harg7 r) K := by
  intro E K
  have key := fun (f : Fin 10 → FVec F S8x256 .f32) (hf : f = (affine x3 x4 (hidden x2 r))) =>
    (tail2_later c i arg2 harg2 arg3 harg3 arg4 harg4 arg5 harg5 arg6 harg6 arg7 harg7 hc0 ((affine x3 x4 (hidden x2 r))) x5 E K).trans
      (Entails.of_eq (congrArg (fun s => wp frame (wpE (defs₀ (F := F)) Variants.none c none) E (tail2 (F := F) i arg2 harg2 arg3 harg3 arg4 harg4 arg5 harg5 arg6 harg6 arg7 harg7 s) K) hf.symm))
  unfold mid2
  generalize tail2 (F := F) i arg2 harg2 arg3 harg3 arg4 harg4 arg5 harg5 arg6 harg6 arg7 harg7 = g at key ⊢
  unfold owns at key ⊢
  iintro ⟨⟨%f4, %hf4, H4⟩, ⟨%f5, %hf5, H5⟩, ⟨%f6, %hf6, H6⟩, H7, Hk⟩
  subst hf4; subst hf5; subst hf6
  sl_exec
  iapply (key _ ((second2_eq r _ _ _).trans (congrArg (fun w => affine w _ _) (View.ld_unit_lit _ _ (by decide)))))
  isplitl [H7]; · iexact H7
  iintro H7
  iapply Hk
  isplitl [H4]
  · iexists _; isplitr; · ipureintro; rfl
    iexact H4
  isplitl [H5]
  · iexists _; isplitr; · ipureintro; rfl
    iexact H5
  isplitl [H6]
  · iexists _; isplitr; · ipureintro; rfl
    iexact H6
  iexact H7

set_option maxHeartbeats 1000000 in
/-- At a point after the first, the body adds the second layer of the block to the sums. -/
theorem run2_later (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : ¬ first1 i) (x0 : Vec F S1x10x8x256 .f32) (x1 : Vec F S10x10 .f32) (x2 : Vec F S2x10 .f32) (x3 : Vec F S10x10 .f32) (x4 : Vec F S1x10 .f32) (x5 : Vec F S16x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (accBlock (affine x3 x4 (hidden x2 (layer (narrow x1) (planesIn x0)))) x5)) -∗ K ⟨⟩))
        ⊢ wp frame (wpE (defs₀ (F := F)) Variants.none c none) E (cc1__stats2_kernel i arg2 harg2 arg3 harg3 arg4 harg4 arg5 harg5 arg6 harg6 arg7 harg7) K := by
  intro E K
  rw [body2_eq]
  have key := fun (r : Fin 10 → FVec F S8x256 .f32) (hr : r = layer (narrow x1) (planesIn x0)) =>
    (mid2_later c i arg2 harg2 arg3 harg3 arg4 harg4 arg5 harg5 arg6 harg6 arg7 harg7 hc0 (layer (narrow x1) (planesIn x0)) x2 x3 x4 x5 E K).trans
      (Entails.of_eq (congrArg (fun s => wp frame (wpE (defs₀ (F := F)) Variants.none c none) E (mid2 (F := F) i arg2 harg2 arg3 harg3 arg4 harg4 arg5 harg5 arg6 harg6 arg7 harg7 s) K) hr.symm))
  generalize mid2 (F := F) i arg2 harg2 arg3 harg3 arg4 harg4 arg5 harg5 arg6 harg6 arg7 harg7 = g at key ⊢
  unfold owns at key ⊢
  iintro ⟨⟨%f2, %hf2, H2⟩, ⟨%f3, %hf3, H3⟩, H4, H5, H6, H7, Hk⟩
  subst hf2; subst hf3
  sl_exec
  iapply (key _ ((first2_eq _ _).trans (congrArg (fun w => layer (narrow w) _) (View.ld_unit_lit _ _ (by decide)))))
  isplitl [H4]; · iexact H4
  isplitl [H5]; · iexact H5
  isplitl [H6]; · iexact H6
  isplitl [H7]; · iexact H7
  iintro ⟨H4, H5, H6, H7⟩
  iapply Hk
  isplitl [H2]
  · iexists _; isplitr; · ipureintro; rfl
    iexact H2
  isplitl [H3]
  · iexists _; isplitr; · ipureintro; rfl
    iexact H3
  isplitl [H4]; · iexact H4
  isplitl [H5]; · iexact H5
  isplitl [H6]; · iexact H6
  iexact H7

set_option maxHeartbeats 1000000 in
/-- At the first point, the sums starting from nothing, the rows are added to the sums. -/
theorem tail2_first (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : first1 i) (f : Fin 10 → FVec F S8x256 .f32) :
    ∀ (E : Set ℕ) (K : PUnit → sProp 𝕄),
      iprop((∃ d, owns (c : Thread nD τ) arg7 fullShare d) ∗ (iprop(owns (c : Thread nD τ) arg7 fullShare (accBlock f (k1_pay82 (F := F)))) -∗ K ⟨⟩))
        ⊢ wp frame (wpE (defs₀ (F := F)) Variants.none c none) E (tail2 i arg2 harg2 arg3 harg3 arg4 harg4 arg5 harg5 arg6 harg6 arg7 harg7 f) K := by
  intro E K
  unfold tail2
  have key := sums2_run c i arg2 harg2 arg3 harg3 arg4 harg4 arg5 harg5 arg6 harg6 arg7 harg7 f (k1_pay82 (F := F)) E K
  generalize sums2 (F := F) i arg2 harg2 arg3 harg3 arg4 harg4 arg5 harg5 arg6 harg6 arg7 harg7 f = g at key ⊢
  unfold owns at key ⊢
  iintro ⟨⟨%d7, %f7, -, H7⟩, Hk⟩
  sl_exec (disch := first | sl_exact hc0)
  iapply key
  isplitl [H7]
  · iexists _; isplitr; swap; · iexact H7
    ipureintro
    exact View.read_writes_full _ _ _ _ _
  iexact Hk

set_option maxHeartbeats 1000000 in
/-- At the first point, the sums starting from nothing, the second layer is added to the sums. -/
theorem mid2_first (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : first1 i) (r : Fin 10 → FVec F S8x256 .f32) (x2 : Vec F S2x10 .f32) (x3 : Vec F S10x10 .f32) (x4 : Vec F S1x10 .f32) :
    ∀ (E : Set ℕ) (K : PUnit → sProp 𝕄),
      iprop(owns (c : Thread nD τ) arg4 fullShare x2 ∗ owns (c : Thread nD τ) arg5 fullShare x3 ∗ owns (c : Thread nD τ) arg6 fullShare x4 ∗ (∃ d, owns (c : Thread nD τ) arg7 fullShare d) ∗ (iprop(owns (c : Thread nD τ) arg4 fullShare x2 ∗ owns (c : Thread nD τ) arg5 fullShare x3 ∗ owns (c : Thread nD τ) arg6 fullShare x4 ∗ owns (c : Thread nD τ) arg7 fullShare (accBlock (affine x3 x4 (hidden x2 r)) (k1_pay82 (F := F)))) -∗ K ⟨⟩))
        ⊢ wp frame (wpE (defs₀ (F := F)) Variants.none c none) E (mid2 i arg2 harg2 arg3 harg3 arg4 harg4 arg5 harg5 arg6 harg6 arg7 harg7 r) K := by
  intro E K
  have key := fun (f : Fin 10 → FVec F S8x256 .f32) (hf : f = (affine x3 x4 (hidden x2 r))) =>
    (tail2_first c i arg2 harg2 arg3 harg3 arg4 harg4 arg5 harg5 arg6 harg6 arg7 harg7 hc0 ((affine x3 x4 (hidden x2 r))) E K).trans
      (Entails.of_eq (congrArg (fun s => wp frame (wpE (defs₀ (F := F)) Variants.none c none) E (tail2 (F := F) i arg2 harg2 arg3 harg3 arg4 harg4 arg5 harg5 arg6 harg6 arg7 harg7 s) K) hf.symm))
  unfold mid2
  generalize tail2 (F := F) i arg2 harg2 arg3 harg3 arg4 harg4 arg5 harg5 arg6 harg6 arg7 harg7 = g at key ⊢
  unfold owns at key ⊢
  iintro ⟨⟨%f4, %hf4, H4⟩, ⟨%f5, %hf5, H5⟩, ⟨%f6, %hf6, H6⟩, H7, Hk⟩
  subst hf4; subst hf5; subst hf6
  sl_exec
  iapply (key _ ((second2_eq r _ _ _).trans (congrArg (fun w => affine w _ _) (View.ld_unit_lit _ _ (by decide)))))
  isplitl [H7]; · iexact H7
  iintro H7
  iapply Hk
  isplitl [H4]
  · iexists _; isplitr; · ipureintro; rfl
    iexact H4
  isplitl [H5]
  · iexists _; isplitr; · ipureintro; rfl
    iexact H5
  isplitl [H6]
  · iexists _; isplitr; · ipureintro; rfl
    iexact H6
  iexact H7

set_option maxHeartbeats 1000000 in
/-- At the first point, the sums starting from nothing, the body adds the second layer of the block to the sums. -/
theorem run2_first (c : Dev nD) (i : grid1.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S16x128 .f32) (harg7 : arg7.IsWhole)
    (hc0 : first1 i) (x0 : Vec F S1x10x8x256 .f32) (x1 : Vec F S10x10 .f32) (x2 : Vec F S2x10 .f32) (x3 : Vec F S10x10 .f32) (x4 : Vec F S1x10 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (accBlock (affine x3 x4 (hidden x2 (layer (narrow x1) (planesIn x0)))) (k1_pay82 (F := F)))) -∗ K ⟨⟩))
        ⊢ wp frame (wpE (defs₀ (F := F)) Variants.none c none) E (cc1__stats2_kernel i arg2 harg2 arg3 harg3 arg4 harg4 arg5 harg5 arg6 harg6 arg7 harg7) K := by
  intro E K
  rw [body2_eq]
  have key := fun (r : Fin 10 → FVec F S8x256 .f32) (hr : r = layer (narrow x1) (planesIn x0)) =>
    (mid2_first c i arg2 harg2 arg3 harg3 arg4 harg4 arg5 harg5 arg6 harg6 arg7 harg7 hc0 (layer (narrow x1) (planesIn x0)) x2 x3 x4 E K).trans
      (Entails.of_eq (congrArg (fun s => wp frame (wpE (defs₀ (F := F)) Variants.none c none) E (mid2 (F := F) i arg2 harg2 arg3 harg3 arg4 harg4 arg5 harg5 arg6 harg6 arg7 harg7 s) K) hr.symm))
  generalize mid2 (F := F) i arg2 harg2 arg3 harg3 arg4 harg4 arg5 harg5 arg6 harg6 arg7 harg7 = g at key ⊢
  unfold owns at key ⊢
  iintro ⟨⟨%f2, %hf2, H2⟩, ⟨%f3, %hf3, H3⟩, H4, H5, H6, H7, Hk⟩
  subst hf2; subst hf3
  sl_exec
  iapply (key _ ((first2_eq _ _).trans (congrArg (fun w => layer (narrow w) _) (View.ld_unit_lit _ _ (by decide)))))
  isplitl [H4]; · iexact H4
  isplitl [H5]; · iexact H5
  isplitl [H6]; · iexact H6
  isplitl [H7]; · iexact H7
  iintro ⟨H4, H5, H6, H7⟩
  iapply Hk
  isplitl [H2]
  · iexists _; isplitr; · ipureintro; rfl
    iexact H2
  isplitl [H3]
  · iexists _; isplitr; · ipureintro; rfl
    iexact H3
  isplitl [H4]; · iexact H4
  isplitl [H5]; · iexact H5
  isplitl [H6]; · iexact H6
  iexact H7

end Cert.KernelIdeal.Knn

end
-- ==== Proof.Call1.lean ====
/- The second call: what its windows hold at every grid point. -/
module

public import proofs.«01_k».proof.Proof.Regs
public import proofs.«01_k».proof.Proof.MlpRun2
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

variable {F : FTy → Type} [FloatOps F]

local notation "𝕄" => MT nD τ sig Unit (Elt F) ℕ (UR sig nD τ) ℕ

variable (V : Dev nD → Valuation τ sig (Elt F))

/-- A window's block at a grid point, out of what the call finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second layer's values at a point. -/
def vals1 (c : Dev nD) (t : Fin cfg1.N) : Fin 10 → FVec F S8x256 .f32 :=
  affine (blk1 V c 3 t) (blk1 V c 4 t) (hidden (blk1 V c 2 t) (layer (narrow (blk1 V c 1 t)) (planesIn (blk1 V c 0 t))))

/-- The grid point of a number. -/
def pt1 (n : ℕ) : Fin cfg1.N := ⟨n % 64, (Nat.mod_lt _ (by decide)).trans_eq N_1.symm⟩

theorem pt1_val (t : Fin cfg1.N) : pt1 t.val = t := Fin.ext (Nat.mod_eq_of_lt (t.isLt.trans_eq N_1))

/-- The sums after the points up to a number, each point's added in turn. -/
def acc1 (c : Dev nD) : ℕ → Vec F S16x128 .f32
  | 0 => accBlock (vals1 V c (pt1 0)) (k1_pay82 (F := F))
  | n + 1 => accBlock (vals1 V c (pt1 (n + 1))) (acc1 c n)

/-- What the call works on: its arrays as found, each input's block left in place, the outputs at what the body stores. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => acc1 V c t.val
  Φ _ := Pipeline.scopedRest spec1 c
  q w := Pipeline.shareOf spec1 w
  owed _ := 0

theorem A1_eq (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = acc1 V c t.val := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf blk1; rw [A1_eq]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1_eq]; try rfl) t d).trans
    (by unfold Dat.fetched Dat.blockOf blk1; rw [A1_eq]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1_eq]; try rfl) t d).trans
    (by unfold Dat.fetched Dat.blockOf blk1; rw [A1_eq]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1_eq]; try rfl) t d).trans
    (by unfold Dat.fetched Dat.blockOf blk1; rw [A1_eq]; try rfl)

/-- The sums found at a later point are those the point before left. -/
theorem before1_5 (c : Dev nD) (t : Fin cfg1.N) (ht : t.val % 64 ≠ 0) (d) : (dat1 V c).before 5 t d = acc1 V c (t.val - 1) := by
  have hN : t.val < 64 := t.isLt.trans_eq N_1
  rw [(dat1 V c).before_out_kept 5 rfl t (by omega) ?_ (fun _ => rfl) (fun _ _ => rfl) d, after1_5]
  rw [← Bool.not_eq_true, flush1_5]
  show ¬ (t.val - 1) % 64 = 63
  omega

theorem acc1_first (c : Dev nD) (t : Fin cfg1.N) (ht : t.val % 64 = 0) : acc1 V c t.val = accBlock (vals1 V c t) (k1_pay82 (F := F)) := by
  have hN : t.val < 64 := t.isLt.trans_eq N_1
  have h0 : t.val = 0 := by omega
  have hp := pt1_val t
  rw [h0] at hp ⊢
  rw [← hp]
  rfl

theorem acc1_later (c : Dev nD) (t : Fin cfg1.N) (ht : t.val % 64 ≠ 0) : acc1 V c t.val = accBlock (vals1 V c t) (acc1 V c (t.val - 1)) := by
  have hN : t.val < 64 := t.isLt.trans_eq N_1
  obtain ⟨n, hn⟩ : ∃ n, t.val = n + 1 := ⟨t.val - 1, by omega⟩
  have hp := pt1_val t
  rw [hn] at hp ⊢
  rw [← hp]
  rfl

/-- The first point, by its number. -/
theorem first1_iff : ∀ t : Fin cfg1.N, first1 (grid1.coords t) ↔ t.val % 64 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [first1, e0, e1]
    word_cmp
   : ∀ t : Fin grid1.N, first1 (grid1.coords t) ↔ t.val % 64 = 0)

/-- What the body is called with, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point turns the one into the other. -/
theorem body1_sound (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 64 = 0
  · rw [acc1_first V c t h0]
    unfold vals1
    iintro ⟨HΦ, Ho, ⟨%d0, H0⟩, ⟨%d1, H1⟩, ⟨%d2, H2⟩, ⟨%d3, H3⟩, ⟨%d4, H4⟩, ⟨%d5, H5⟩⟩
    iapply ((run2_first c (grid1.coords t) _ _ _ _ _ _ _ _ _ _ _ _ ((first1_iff t).mpr h0) (blk1 V c 0 t) (blk1 V c 1 t) (blk1 V c 2 t) (blk1 V c 3 t) (blk1 V c 4 t)) Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5 V c t h0]
    unfold vals1
    iintro ⟨HΦ, Ho, ⟨%d0, H0⟩, ⟨%d1, H1⟩, ⟨%d2, H2⟩, ⟨%d3, H3⟩, ⟨%d4, H4⟩, ⟨%d5, H5⟩⟩
    iapply ((run2_later c (grid1.coords t) _ _ _ _ _ _ _ _ _ _ _ _ (fun h => h0 ((first1_iff t).mp h)) (blk1 V c 0 t) (blk1 V c 1 t) (blk1 V c 2 t) (blk1 V c 3 t) (blk1 V c 4 t) (acc1 V c (t.val - 1))) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row1 (t : Fin cfg1.N) : defs₀ (F := F) .tc cfg1.body (cfg1.bodyArgs t (cfg1.slots t)) = bodyAt1 t := by
  unfold defs₀; rw [Defs.onTc_tc]

/-- The obligation of the call's body, at every point. -/
theorem obligation1 (c : Dev nD) : BodyObligation (dat1 (F := F) V c) (defs₀ (F := F)) Variants.none () Set.univ := fun t => by
  rw [bigSep_W1, bigSep_W1, row1]
  exact triple_restated (body1_sound V c t) rfl .rfl fun _ => .rfl

end Cert.KernelIdeal.Knn

end
-- ==== Proof.Mlp3.lean ====
/- The third body cut at its layers. -/
module

public import proofs.«01_k».proof.Proof.Mlp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The last part of the third body: the columns of ten blocks `f` summed and stored. -/
def tail3 (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole) (f : Fin 10 → FVec F S8x256 .f32) :
    Prog (TpuEff nD τ sig (Elt F) Λ₀ .tc) PUnit := do
  let v1541 : Vec F S1x1x256 .f32 ← Prog.lift (.load arg10 (Rect.unit (s := S1x10x256) ![0, 0, 0] S1x1x256.size inb_S1x10x256_S1x1x256_0_0_0).toLoadRect (View.loadsAt_vmem h_S1x1x256))
  Prog.lift (.store arg10 (Rect.unit (s := S1x10x256) ![0, 0, 0] S1x1x256.size inb_S1x10x256_S1x1x256_0_0_0) (k2_pay133 (f 0)) Finset.univ (View.stores_vmem_bits_univ h_S1x1x256 rfl) (.inl rfl))
  let v1546 : Vec F S1x1x256 .f32 ← Prog.lift (.load arg10 (Rect.unit (s := S1x10x256) ![0, 1, 0] S1x1x256.size inb_S1x10x256_S1x1x256_0_1_0).toLoadRect (View.loadsAt_vmem h_S1x1x256))
  Prog.lift (.store arg10 (Rect.unit (s := S1x10x256) ![0, 1, 0] S1x1x256.size inb_S1x10x256_S1x1x256_0_1_0) (k2_pay135 (k2_pay134 (f 1))) Finset.univ (View.stores_vmem_bits_univ h_S1x1x256 rfl) (.inl rfl))
  let v1551 : Vec F S1x1x256 .f32 ← Prog.lift (.load arg10 (Rect.unit (s := S1x10x256) ![0, 2, 0] S1x1x256.size inb_S1x10x256_S1x1x256_0_2_0).toLoadRect (View.loadsAt_vmem h_S1x1x256))
  Prog.lift (.store arg10 (Rect.unit (s := S1x10x256) ![0, 2, 0] S1x1x256.size inb_S1x10x256_S1x1x256_0_2_0) (k2_pay136 (f 2)) Finset.univ (View.stores_vmem_bits_univ h_S1x1x256 rfl) (.inl rfl))
  let v1556 : Vec F S1x1x256 .f32 ← Prog.lift (.load arg10 (Rect.unit (s := S1x10x256) ![0, 3, 0] S1x1x256.size inb_S1x10x256_S1x1x256_0_3_0).toLoadRect (View.loadsAt_vmem h_S1x1x256))
  Prog.lift (.store arg10 (Rect.unit (s := S1x10x256) ![0, 3, 0] S1x1x256.size inb_S1x10x256_S1x1x256_0_3_0) (k2_pay137 (f 3)) Finset.univ (View.stores_vmem_bits_univ h_S1x1x256 rfl) (.inl rfl))
  let v1561 : Vec F S1x1x256 .f32 ← Prog.lift (.load arg10 (Rect.unit (s := S1x10x256) ![0, 4, 0] S1x1x256.size inb_S1x10x256_S1x1x256_0_4_0).toLoadRect (View.loadsAt_vmem h_S1x1x256))
  Prog.lift (.store arg10 (Rect.unit (s := S1x10x256) ![0, 4, 0] S1x1x256.size inb_S1x10x256_S1x1x256_0_4_0) (k2_pay138 (f 4)) Finset.univ (View.stores_vmem_bits_univ h_S1x1x256 rfl) (.inl rfl))
  let v1566 : Vec F S1x1x256 .f32 ← Prog.lift (.load arg10 (Rect.unit (s := S1x10x256) ![0, 5, 0] S1x1x256.size inb_S1x10x256_S1x1x256_0_5_0).toLoadRect (View.loadsAt_vmem h_S1x1x256))
  Prog.lift (.store arg10 (Rect.unit (s := S1x10x256) ![0, 5, 0] S1x1x256.size inb_S1x10x256_S1x1x256_0_5_0) (k2_pay139 (f 5)) Finset.univ (View.stores_vmem_bits_univ h_S1x1x256 rfl) (.inl rfl))
  let v1571 : Vec F S1x1x256 .f32 ← Prog.lift (.load arg10 (Rect.unit (s := S1x10x256) ![0, 6, 0] S1x1x256.size inb_S1x10x256_S1x1x256_0_6_0).toLoadRect (View.loadsAt_vmem h_S1x1x256))
  Prog.lift (.store arg10 (Rect.unit (s := S1x10x256) ![0, 6, 0] S1x1x256.size inb_S1x10x256_S1x1x256_0_6_0) (k2_pay140 (f 6)) Finset.univ (View.stores_vmem_bits_univ h_S1x1x256 rfl) (.inl rfl))
  let v1576 : Vec F S1x1x256 .f32 ← Prog.lift (.load arg10 (Rect.unit (s := S1x10x256) ![0, 7, 0] S1x1x256.size inb_S1x10x256_S1x1x256_0_7_0).toLoadRect (View.loadsAt_vmem h_S1x1x256))
  Prog.lift (.store arg10 (Rect.unit (s := S1x10x256) ![0, 7, 0] S1x1x256.size inb_S1x10x256_S1x1x256_0_7_0) (k2_pay1 (k2_pay141 (f 7))) Finset.univ (View.stores_vmem_bits_univ h_S1x1x256 rfl) (.inl rfl))
  let v1581 : Vec F S1x1x256 .f32 ← Prog.lift (.load arg10 (Rect.unit (s := S1x10x256) ![0, 8, 0] S1x1x256.size inb_S1x10x256_S1x1x256_0_8_0).toLoadRect (View.loadsAt_vmem h_S1x1x256))
  Prog.lift (.store arg10 (Rect.unit (s := S1x10x256) ![0, 8, 0] S1x1x256.size inb_S1x10x256_S1x1x256_0_8_0) (k2_pay2 (f 8)) Finset.univ (View.stores_vmem_bits_univ h_S1x1x256 rfl) (.inl rfl))
  let v1586 : Vec F S1x1x256 .f32 ← Prog.lift (.load arg10 (Rect.unit (s := S1x10x256) ![0, 9, 0] S1x1x256.size inb_S1x10x256_S1x1x256_0_9_0).toLoadRect (View.loadsAt_vmem h_S1x1x256))
  Prog.lift (.store arg10 (Rect.unit (s := S1x10x256) ![0, 9, 0] S1x1x256.size inb_S1x10x256_S1x1x256_0_9_0) (k2_pay3 (f 9)) Finset.univ (View.stores_vmem_bits_univ h_S1x1x256 rfl) (.inl rfl))

/-- From the second layer `r` on: the hidden rows and the third layer. -/
def last3 (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole) (r : Fin 10 → FVec F S8x256 .f32) :
    Prog (TpuEff nD τ sig (Elt F) Λ₀ .tc) PUnit := do
  let v986 : Vec F S1x1 .f32 ← Prog.lift (.load arg7 (Rect.unit (s := S2x10) ![0, 0] S1x1.size inb_S2x10_S1x1_0_0).toLoadRect (View.loadsAt_vmem h_S1x1))
  let v990 : Vec F S1x1 .f32 ← Prog.lift (.load arg7 (Rect.unit (s := S2x10) ![1, 0] S1x1.size inb_S2x10_S1x1_1_0).toLoadRect (View.loadsAt_vmem h_S1x1))
  let v996 : Vec F S1x1 .f32 ← Prog.lift (.load arg7 (Rect.unit (s := S2x10) ![0, 1] S1x1.size inb_S2x10_S1x1_0_1).toLoadRect (View.loadsAt_vmem h_S1x1))
  let v1000 : Vec F S1x1 .f32 ← Prog.lift (.load arg7 (Rect.unit (s := S2x10) ![1, 1] S1x1.size inb_S2x10_S1x1_1_1).toLoadRect (View.loadsAt_vmem h_S1x1))
  let v1006 : Vec F S1x1 .f32 ← Prog.lift (.load arg7 (Rect.unit (s := S2x10) ![0, 2] S1x1.size inb_S2x10_S1x1_0_2).toLoadRect (View.loadsAt_vmem h_S1x1))
  let v1010 : Vec F S1x1 .f32 ← Prog.lift (.load arg7 (Rect.unit (s := S2x10) ![1, 2] S1x1.size inb_S2x10_S1x1_1_2).toLoadRect (View.loadsAt_vmem h_S1x1))
  let v1016 : Vec F S1x1 .f32 ← Prog.lift (.load arg7 (Rect.unit (s := S2x10) ![0, 3] S1x1.size inb_S2x10_S1x1_0_3).toLoadRect (View.loadsAt_vmem h_S1x1))
  let v1020 : Vec F S1x1 .f32 ← Prog.lift (.load arg7 (Rect.unit (s := S2x10) ![1, 3] S1x1.size inb_S2x10_S1x1_1_3).toLoadRect (View.loadsAt_vmem h_S1x1))
  let v1026 : Vec F S1x1 .f32 ← Prog.lift (.load arg7 (Rect.unit (s := S2x10) ![0, 4] S1x1.size inb_S2x10_S1x1_0_4).toLoadRect (View.loadsAt_vmem h_S1x1))
  let v1030 : Vec F S1x1 .f32 ← Prog.lift (.load arg7 (Rect.unit (s := S2x10) ![1, 4] S1x1.size inb_S2x10_S1x1_1_4).toLoadRect (View.loadsAt_vmem h_S1x1))
  let v1036 : Vec F S1x1 .f32 ← Prog.lift (.load arg7 (Rect.unit (s := S2x10) ![0, 5] S1x1.size inb_S2x10_S1x1_0_5).toLoadRect (View.loadsAt_vmem h_S1x1))
  let v1040 : Vec F S1x1 .f32 ← Prog.lift (.load arg7 (Rect.unit (s := S2x10) ![1, 5] S1x1.size inb_S2x10_S1x1_1_5).toLoadRect (View.loadsAt_vmem h_S1x1))
  let v1046 : Vec F S1x1 .f32 ← Prog.lift (.load arg7 (Rect.unit (s := S2x10) ![0, 6] S1x1.size inb_S2x10_S1x1_0_6).toLoadRect (View.loadsAt_vmem h_S1x1))
  let v1050 : Vec F S1x1 .f32 ← Prog.lift (.load arg7 (Rect.unit (s := S2x10) ![1, 6] S1x1.size inb_S2x10_S1x1_1_6).toLoadRect (View.loadsAt_vmem h_S1x1))
  let v1056 : Vec F S1x1 .f32 ← Prog.lift (.load arg7 (Rect.unit (s := S2x10) ![0, 7] S1x1.size inb_S2x10_S1x1_0_7).toLoadRect (View.loadsAt_vmem h_S1x1))
  let v1060 : Vec F S1x1 .f32 ← Prog.lift (.load arg7 (Rect.unit (s := S2x10) ![1, 7] S1x1.size inb_S2x10_S1x1_1_7).toLoadRect (View.loadsAt_vmem h_S1x1))
  let v1066 : Vec F S1x1 .f32 ← Prog.lift (.load arg7 (Rect.unit (s := S2x10) ![0, 8] S1x1.size inb_S2x10_S1x1_0_8).toLoadRect (View.loadsAt_vmem h_S1x1))
  let v1070 : Vec F S1x1 .f32 ← Prog.lift (.load arg7 (Rect.unit (s := S2x10) ![1, 8] S1x1.size inb_S2x10_S1x1_1_8).toLoadRect (View.loadsAt_vmem h_S1x1))
  let v1076 : Vec F S1x1 .f32 ← Prog.lift (.load arg7 (Rect.unit (s := S2x10) ![0, 9] S1x1.size inb_S2x10_S1x1_0_9).toLoadRect (View.loadsAt_vmem h_S1x1))
  let v1080 : Vec F S1x1 .f32 ← Prog.lift (.load arg7 (Rect.unit (s := S2x10) ![1, 9] S1x1.size inb_S2x10_S1x1_1_9).toLoadRect (View.loadsAt_vmem h_S1x1))
  let v1086 : Vec F S10x10 .f32 ← Prog.lift (.load arg8 (Rect.unit (s := S10x10) ![0, 0] S10x10.size inb_S10x10_S10x10_0_0).toLoadRect (View.loadsAt_vmem h_S10x10))
  let v1148 : Vec F S1x1 .f32 ← Prog.lift (.load arg9 (Rect.unit (s := S1x10) ![0, 0] S1x1.size inb_S1x10_S1x1_0_0).toLoadRect (View.loadsAt_vmem h_S1x1))
  let v1191 : Vec F S1x1 .f32 ← Prog.lift (.load arg9 (Rect.unit (s := S1x10) ![0, 1] S1x1.size inb_S1x10_S1x1_0_1).toLoadRect (View.loadsAt_vmem h_S1x1))
  let v1234 : Vec F S1x1 .f32 ← Prog.lift (.load arg9 (Rect.unit (s := S1x10) ![0, 2] S1x1.size inb_S1x10_S1x1_0_2).toLoadRect (View.loadsAt_vmem h_S1x1))
  let v1277 : Vec F S1x1 .f32 ← Prog.lift (.load arg9 (Rect.unit (s := S1x10) ![0, 3] S1x1.size inb_S1x10_S1x1_0_3).toLoadRect (View.loadsAt_vmem h_S1x1))
  let v1320 : Vec F S1x1 .f32 ← Prog.lift (.load arg9 (Rect.unit (s := S1x10) ![0, 4] S1x1.size inb_S1x10_S1x1_0_4).toLoadRect (View.loadsAt_vmem h_S1x1))
  let v1363 : Vec F S1x1 .f32 ← Prog.lift (.load arg9 (Rect.unit (s := S1x10) ![0, 5] S1x1.size inb_S1x10_S1x1_0_5).toLoadRect (View.loadsAt_vmem h_S1x1))
  let v1406 : Vec F S1x1 .f32 ← Prog.lift (.load arg9 (Rect.unit (s := S1x10) ![0, 6] S1x1.size inb_S1x10_S1x1_0_6).toLoadRect (View.loadsAt_vmem h_S1x1))
  let v1449 : Vec F S1x1 .f32 ← Prog.lift (.load arg9 (Rect.unit (s := S1x10) ![0, 7] S1x1.size inb_S1x10_S1x1_0_7).toLoadRect (View.loadsAt_vmem h_S1x1))
  let v1492 : Vec F S1x1 .f32 ← Prog.lift (.load arg9 (Rect.unit (s := S1x10) ![0, 8] S1x1.size inb_S1x10_S1x1_0_8).toLoadRect (View.loadsAt_vmem h_S1x1))
  let v1535 : Vec F S1x1 .f32 ← Prog.lift (.load arg9 (Rect.unit (s := S1x10) ![0, 9] S1x1.size inb_S1x10_S1x1_0_9).toLoadRect (View.loadsAt_vmem h_S1x1))
  tail3 i arg2 harg2 arg3 harg3 arg4 harg4 arg5 harg5 arg6 harg6 arg7 harg7 arg8 harg8 arg9 harg9 arg10 harg10 ![(k2_pay111 (k2_pay109 (k2_pay88 (k2_pay87 (r 2) v1006) v1010) (k2_pay89 (r 3) v1016 v1020) (k2_pay90 (r 4) v1026 v1030) (k2_pay91 (r 5) v1036 v1040) (k2_pay93 (k2_pay92 (r 6) v1046) v1050) (k2_pay94 (r 7) v1056 v1060) (k2_pay95 (r 8) v1066 v1070) (k2_pay96 (r 9) v1076 v1080) (k2_pay97 v1086) (k2_pay98 (k2_pay85 (r 0) v986 v990)) (k2_pay99 (k2_pay86 (r 1) v996 v1000))) (k2_pay110 v1148)), (k2_pay112 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080)) v1191), (k2_pay115 (k2_pay97 v1086) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080)) (k2_pay113 (k2_pay97 v1086) (k2_pay98 (k2_pay85 (r 0) v986 v990)) (k2_pay100 (k2_pay99 (k2_pay86 (r 1) v996 v1000))) (k2_pay101 (k2_pay88 (k2_pay87 (r 2) v1006) v1010))) (k2_pay114 (k2_pay97 v1086)) v1234), (k2_pay118 (k2_pay97 v1086) (k2_pay106 (k2_pay94 (r 7) v1056 v1060)) (k2_pay107 (k2_pay95 (r 8) v1066 v1070)) (k2_pay108 (k2_pay96 (r 9) v1076 v1080)) (k2_pay116 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050))) (k2_pay117 (k2_pay97 v1086)) v1277), (k2_pay121 (k2_pay119 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080))) (k2_pay120 v1320)), (k2_pay122 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080)) v1363), (k2_pay125 (k2_pay97 v1086) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080)) (k2_pay123 (k2_pay97 v1086) (k2_pay98 (k2_pay85 (r 0) v986 v990)) (k2_pay100 (k2_pay99 (k2_pay86 (r 1) v996 v1000))) (k2_pay101 (k2_pay88 (k2_pay87 (r 2) v1006) v1010))) (k2_pay124 (k2_pay97 v1086)) v1406), (k2_pay128 (k2_pay97 v1086) (k2_pay106 (k2_pay94 (r 7) v1056 v1060)) (k2_pay107 (k2_pay95 (r 8) v1066 v1070)) (k2_pay108 (k2_pay96 (r 9) v1076 v1080)) (k2_pay126 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050))) (k2_pay127 (k2_pay97 v1086)) v1449), (k2_pay131 (k2_pay129 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080))) (k2_pay130 v1492)), (k2_pay132 (k2_pay97 v1086) (k2_pay98 (k2_pay85 (r 0) v986 v990)) (k2_pay100 (k2_pay99 (k2_pay86 (r 1) v996 v1000))) (k2_pay101 (k2_pay88 (k2_pay87 (r 2) v1006) v1010)) (k2_pay102 (k2_pay89 (r 3) v1016 v1020)) (k2_pay103 (k2_pay90 (r 4) v1026 v1030)) (k2_pay104 (k2_pay91 (r 5) v1036 v1040)) (k2_pay105 (k2_pay93 (k2_pay92 (r 6) v1046) v1050)) (k2_pay106 (k2_pay94 (r 7) v1056 v1060)) (k2_pay107 (k2_pay95 (r 8) v1066 v1070)) (k2_pay108 (k2_pay96 (r 9) v1076 v1080)) v1535)]

/-- From the first layer `r` on: the hidden rows and the second layer. -/
def mid3 (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole) (r : Fin 10 → FVec F S8x256 .f32) :
    Prog (TpuEff nD τ sig (Elt F) Λ₀ .tc) PUnit := do
  let v433 : Vec F S1x1 .f32 ← Prog.lift (.load arg4 (Rect.unit (s := S2x10) ![0, 0] S1x1.size inb_S2x10_S1x1_0_0).toLoadRect (View.loadsAt_vmem h_S1x1))
  let v437 : Vec F S1x1 .f32 ← Prog.lift (.load arg4 (Rect.unit (s := S2x10) ![1, 0] S1x1.size inb_S2x10_S1x1_1_0).toLoadRect (View.loadsAt_vmem h_S1x1))
  let v443 : Vec F S1x1 .f32 ← Prog.lift (.load arg4 (Rect.unit (s := S2x10) ![0, 1] S1x1.size inb_S2x10_S1x1_0_1).toLoadRect (View.loadsAt_vmem h_S1x1))
  let v447 : Vec F S1x1 .f32 ← Prog.lift (.load arg4 (Rect.unit (s := S2x10) ![1, 1] S1x1.size inb_S2x10_S1x1_1_1).toLoadRect (View.loadsAt_vmem h_S1x1))
  let v453 : Vec F S1x1 .f32 ← Prog.lift (.load arg4 (Rect.unit (s := S2x10) ![0, 2] S1x1.size inb_S2x10_S1x1_0_2).toLoadRect (View.loadsAt_vmem h_S1x1))
  let v457 : Vec F S1x1 .f32 ← Prog.lift (.load arg4 (Rect.unit (s := S2x10) ![1, 2] S1x1.size inb_S2x10_S1x1_1_2).toLoadRect (View.loadsAt_vmem h_S1x1))
  let v463 : Vec F S1x1 .f32 ← Prog.lift (.load arg4 (Rect.unit (s := S2x10) ![0, 3] S1x1.size inb_S2x10_S1x1_0_3).toLoadRect (View.loadsAt_vmem h_S1x1))
  let v467 : Vec F S1x1 .f32 ← Prog.lift (.load arg4 (Rect.unit (s := S2x10) ![1, 3] S1x1.size inb_S2x10_S1x1_1_3).toLoadRect (View.loadsAt_vmem h_S1x1))
  let v473 : Vec F S1x1 .f32 ← Prog.lift (.load arg4 (Rect.unit (s := S2x10) ![0, 4] S1x1.size inb_S2x10_S1x1_0_4).toLoadRect (View.loadsAt_vmem h_S1x1))
  let v477 : Vec F S1x1 .f32 ← Prog.lift (.load arg4 (Rect.unit (s := S2x10) ![1, 4] S1x1.size inb_S2x10_S1x1_1_4).toLoadRect (View.loadsAt_vmem h_S1x1))
  let v483 : Vec F S1x1 .f32 ← Prog.lift (.load arg4 (Rect.unit (s := S2x10) ![0, 5] S1x1.size inb_S2x10_S1x1_0_5).toLoadRect (View.loadsAt_vmem h_S1x1))
  let v487 : Vec F S1x1 .f32 ← Prog.lift (.load arg4 (Rect.unit (s := S2x10) ![1, 5] S1x1.size inb_S2x10_S1x1_1_5).toLoadRect (View.loadsAt_vmem h_S1x1))
  let v493 : Vec F S1x1 .f32 ← Prog.lift (.load arg4 (Rect.unit (s := S2x10) ![0, 6] S1x1.size inb_S2x10_S1x1_0_6).toLoadRect (View.loadsAt_vmem h_S1x1))
  let v497 : Vec F S1x1 .f32 ← Prog.lift (.load arg4 (Rect.unit (s := S2x10) ![1, 6] S1x1.size inb_S2x10_S1x1_1_6).toLoadRect (View.loadsAt_vmem h_S1x1))
  let v503 : Vec F S1x1 .f32 ← Prog.lift (.load arg4 (Rect.unit (s := S2x10) ![0, 7] S1x1.size inb_S2x10_S1x1_0_7).toLoadRect (View.loadsAt_vmem h_S1x1))
  let v507 : Vec F S1x1 .f32 ← Prog.lift (.load arg4 (Rect.unit (s := S2x10) ![1, 7] S1x1.size inb_S2x10_S1x1_1_7).toLoadRect (View.loadsAt_vmem h_S1x1))
  let v513 : Vec F S1x1 .f32 ← Prog.lift (.load arg4 (Rect.unit (s := S2x10) ![0, 8] S1x1.size inb_S2x10_S1x1_0_8).toLoadRect (View.loadsAt_vmem h_S1x1))
  let v517 : Vec F S1x1 .f32 ← Prog.lift (.load arg4 (Rect.unit (s := S2x10) ![1, 8] S1x1.size inb_S2x10_S1x1_1_8).toLoadRect (View.loadsAt_vmem h_S1x1))
  let v523 : Vec F S1x1 .f32 ← Prog.lift (.load arg4 (Rect.unit (s := S2x10) ![0, 9] S1x1.size inb_S2x10_S1x1_0_9).toLoadRect (View.loadsAt_vmem h_S1x1))
  let v527 : Vec F S1x1 .f32 ← Prog.lift (.load arg4 (Rect.unit (s := S2x10) ![1, 9] S1x1.size inb_S2x10_S1x1_1_9).toLoadRect (View.loadsAt_vmem h_S1x1))
  let v533 : Vec F S10x10 .f32 ← Prog.lift (.load arg5 (Rect.unit (s := S10x10) ![0, 0] S10x10.size inb_S10x10_S10x10_0_0).toLoadRect (View.loadsAt_vmem h_S10x10))
  let v595 : Vec F S1x1 .f32 ← Prog.lift (.load arg6 (Rect.unit (s := S1x10) ![0, 0] S1x1.size inb_S1x10_S1x1_0_0).toLoadRect (View.loadsAt_vmem h_S1x1))
  let v638 : Vec F S1x1 .f32 ← Prog.lift (.load arg6 (Rect.unit (s := S1x10) ![0, 1] S1x1.size inb_S1x10_S1x1_0_1).toLoadRect (View.loadsAt_vmem h_S1x1))
  let v681 : Vec F S1x1 .f32 ← Prog.lift (.load arg6 (Rect.unit (s := S1x10) ![0, 2] S1x1.size inb_S1x10_S1x1_0_2).toLoadRect (View.loadsAt_vmem h_S1x1))
  let v724 : Vec F S1x1 .f32 ← Prog.lift (.load arg6 (Rect.unit (s := S1x10) ![0, 3] S1x1.size inb_S1x10_S1x1_0_3).toLoadRect (View.loadsAt_vmem h_S1x1))
  let v767 : Vec F S1x1 .f32 ← Prog.lift (.load arg6 (Rect.unit (s := S1x10) ![0, 4] S1x1.size inb_S1x10_S1x1_0_4).toLoadRect (View.loadsAt_vmem h_S1x1))
  let v810 : Vec F S1x1 .f32 ← Prog.lift (.load arg6 (Rect.unit (s := S1x10) ![0, 5] S1x1.size inb_S1x10_S1x1_0_5).toLoadRect (View.loadsAt_vmem h_S1x1))
  let v853 : Vec F S1x1 .f32 ← Prog.lift (.load arg6 (Rect.unit (s := S1x10) ![0, 6] S1x1.size inb_S1x10_S1x1_0_6).toLoadRect (View.loadsAt_vmem h_S1x1))
  let v896 : Vec F S1x1 .f32 ← Prog.lift (.load arg6 (Rect.unit (s := S1x10) ![0, 7] S1x1.size inb_S1x10_S1x1_0_7).toLoadRect (View.loadsAt_vmem h_S1x1))
  let v939 : Vec F S1x1 .f32 ← Prog.lift (.load arg6 (Rect.unit (s := S1x10) ![0, 8] S1x1.size inb_S1x10_S1x1_0_8).toLoadRect (View.loadsAt_vmem h_S1x1))
  let v982 : Vec F S1x1 .f32 ← Prog.lift (.load arg6 (Rect.unit (s := S1x10) ![0, 9] S1x1.size inb_S1x10_S1x1_0_9).toLoadRect (View.loadsAt_vmem h_S1x1))
  last3 i arg2 harg2 arg3 harg3 arg4 harg4 arg5 harg5 arg6 harg6 arg7 harg7 arg8 harg8 arg9 harg9 arg10 harg10 ![(k2_pay64 (k2_pay51 v533) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517) (k2_pay61 (r 9) v523 v527) (k2_pay62 (k2_pay43 (r 0) v433 v437) (k2_pay44 (r 1) v443 v447) v533) (k2_pay63 v533) v595), (k2_pay66 (k2_pay51 v533) (k2_pay58 (k2_pay49 (r 6) v493 v497)) (k2_pay59 (k2_pay50 (r 7) v503 v507)) (k2_pay60 (r 8) v513 v517) (k2_pay61 (r 9) v523 v527) (k2_pay65 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487))) v638), (k2_pay69 (k2_pay67 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517)) (k2_pay68 (k2_pay51 v533) (k2_pay61 (r 9) v523 v527)) v681), (k2_pay70 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517) (k2_pay61 (r 9) v523 v527) v724), (k2_pay73 (k2_pay51 v533) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517) (k2_pay61 (r 9) v523 v527) (k2_pay71 (k2_pay51 v533) (k2_pay52 (k2_pay43 (r 0) v433 v437)) (k2_pay53 (k2_pay44 (r 1) v443 v447))) (k2_pay72 (k2_pay51 v533)) v767), (k2_pay75 (k2_pay51 v533) (k2_pay58 (k2_pay49 (r 6) v493 v497)) (k2_pay59 (k2_pay50 (r 7) v503 v507)) (k2_pay60 (r 8) v513 v517) (k2_pay61 (r 9) v523 v527) (k2_pay74 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487))) v810), (k2_pay78 (k2_pay76 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517)) (k2_pay77 (k2_pay51 v533) (k2_pay61 (r 9) v523 v527)) v853), (k2_pay79 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517) (k2_pay61 (r 9) v523 v527) v896), (k2_pay82 (k2_pay51 v533) (k2_pay54 (k2_pay45 (r 2) v453 v457)) (k2_pay55 (k2_pay46 (r 3) v463 v467)) (k2_pay56 (k2_pay47 (r 4) v473 v477)) (k2_pay57 (k2_pay48 (r 5) v483 v487)) (k2_pay58 (k2_pay49 (r 6) v493 v497)) (k2_pay59 (k2_pay50 (r 7) v503 v507)) (k2_pay60 (r 8) v513 v517) (k2_pay61 (r 9) v523 v527) (k2_pay80 (k2_pay51 v533) (k2_pay52 (k2_pay43 (r 0) v433 v437)) (k2_pay53 (k2_pay44 (r 1) v443 v447))) (k2_pay81 (k2_pay51 v533)) v939), (k2_pay84 (k2_pay51 v533) (k2_pay58 (k2_pay49 (r 6) v493 v497)) (k2_pay59 (k2_pay50 (r 7) v503 v507)) (k2_pay60 (r 8) v513 v517) (k2_pay61 (r 9) v523 v527) (k2_pay83 (k2_pay51 v533) (k2_pay52 (k2_pay43 (r 0) v433 v437)) (k2_pay53 (k2_pay44 (r 1) v443 v447)) (k2_pay54 (k2_pay45 (r 2) v453 v457)) (k2_pay55 (k2_pay46 (r 3) v463 v467)) (k2_pay56 (k2_pay47 (r 4) v473 v477)) (k2_pay57 (k2_pay48 (r 5) v483 v487))) v982)]

/-- The body: its loads of the features and the first weights, then the rest from the first layer on. -/
theorem body3_eq (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole) :
    cc2__final_kernel (F := F) i arg2 harg2 arg3 harg3 arg4 harg4 arg5 harg5 arg6 harg6 arg7 harg7 arg8 harg8 arg9 harg9 arg10 harg10 = (do
  let v0 : Vec F S1x1x8x256 .f32 ← Prog.lift (.load arg2 (Rect.unit (s := S1x10x8x256) ![0, 0, 0, 0] S1x1x8x256.size inb_S1x10x8x256_S1x1x8x256_0_0_0_0).toLoadRect (View.loadsAt_vmem h_S1x1x8x256))
  let v2 : Vec F S1x1x8x256 .f32 ← Prog.lift (.load arg2 (Rect.unit (s := S1x10x8x256) ![0, 1, 0, 0] S1x1x8x256.size inb_S1x10x8x256_S1x1x8x256_0_1_0_0).toLoadRect (View.loadsAt_vmem h_S1x1x8x256))
  let v4 : Vec F S1x1x8x256 .f32 ← Prog.lift (.load arg2 (Rect.unit (s := S1x10x8x256) ![0, 2, 0, 0] S1x1x8x256.size inb_S1x10x8x256_S1x1x8x256_0_2_0_0).toLoadRect (View.loadsAt_vmem h_S1x1x8x256))
  let v6 : Vec F S1x1x8x256 .f32 ← Prog.lift (.load arg2 (Rect.unit (s := S1x10x8x256) ![0, 3, 0, 0] S1x1x8x256.size inb_S1x10x8x256_S1x1x8x256_0_3_0_0).toLoadRect (View.loadsAt_vmem h_S1x1x8x256))
  let v8 : Vec F S1x1x8x256 .f32 ← Prog.lift (.load arg2 (Rect.unit (s := S1x10x8x256) ![0, 4, 0, 0] S1x1x8x256.size inb_S1x10x8x256_S1x1x8x256_0_4_0_0).toLoadRect (View.loadsAt_vmem h_S1x1x8x256))
  let v10 : Vec F S1x1x8x256 .f32 ← Prog.lift (.load arg2 (Rect.unit (s := S1x10x8x256) ![0, 5, 0, 0] S1x1x8x256.size inb_S1x10x8x256_S1x1x8x256_0_5_0_0).toLoadRect (View.loadsAt_vmem h_S1x1x8x256))
  let v12 : Vec F S1x1x8x256 .f32 ← Prog.lift (.load arg2 (Rect.unit (s := S1x10x8x256) ![0, 6, 0, 0] S1x1x8x256.size inb_S1x10x8x256_S1x1x8x256_0_6_0_0).toLoadRect (View.loadsAt_vmem h_S1x1x8x256))
  let v14 : Vec F S1x1x8x256 .f32 ← Prog.lift (.load arg2 (Rect.unit (s := S1x10x8x256) ![0, 7, 0, 0] S1x1x8x256.size inb_S1x10x8x256_S1x1x8x256_0_7_0_0).toLoadRect (View.loadsAt_vmem h_S1x1x8x256))
  let v16 : Vec F S1x1x8x256 .f32 ← Prog.lift (.load arg2 (Rect.unit (s := S1x10x8x256) ![0, 8, 0, 0] S1x1x8x256.size inb_S1x10x8x256_S1x1x8x256_0_8_0_0).toLoadRect (View.loadsAt_vmem h_S1x1x8x256))
  let v18 : Vec F S1x1x8x256 .f32 ← Prog.lift (.load arg2 (Rect.unit (s := S1x10x8x256) ![0, 9, 0, 0] S1x1x8x256.size inb_S1x10x8x256_S1x1x8x256_0_9_0_0).toLoadRect (View.loadsAt_vmem h_S1x1x8x256))
  let v20 : Vec F S10x10 .f32 ← Prog.lift (.load arg3 (Rect.unit (s := S10x10) ![0, 0] S10x10.size inb_S10x10_S10x10_0_0).toLoadRect (View.loadsAt_vmem h_S10x10))
  mid3 i arg2 harg2 arg3 harg3 arg4 harg4 arg5 harg5 arg6 harg6 arg7 harg7 arg8 harg8 arg9 harg9 arg10 harg10 ![(k2_pay26 (k2_pay13 v20) (k2_pay22 (k2_pay12 v16)) (k2_pay23 v18) (k2_pay24 (k2_pay4 v0) (k2_pay5 v2) (k2_pay6 v4) (k2_pay7 v6) (k2_pay8 v8) (k2_pay9 v10) (k2_pay10 v12) (k2_pay11 v14) v20) (k2_pay25 v20)), (k2_pay27 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16)) (k2_pay23 v18)), (k2_pay29 (k2_pay13 v20) (k2_pay18 (k2_pay8 v8)) (k2_pay19 (k2_pay9 v10)) (k2_pay20 (k2_pay10 v12)) (k2_pay21 (k2_pay11 v14)) (k2_pay22 (k2_pay12 v16)) (k2_pay23 v18) (k2_pay28 (k2_pay13 v20) (k2_pay14 (k2_pay4 v0)) (k2_pay15 (k2_pay5 v2)) (k2_pay16 (k2_pay6 v4)) (k2_pay17 (k2_pay7 v6)))), (k2_pay32 (k2_pay23 v18) (k2_pay30 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16))) (k2_pay31 (k2_pay13 v20))), (k2_pay33 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16)) (k2_pay23 v18)), (k2_pay36 (k2_pay13 v20) (k2_pay19 (k2_pay9 v10)) (k2_pay20 (k2_pay10 v12)) (k2_pay21 (k2_pay11 v14)) (k2_pay22 (k2_pay12 v16)) (k2_pay23 v18) (k2_pay34 (k2_pay13 v20) (k2_pay14 (k2_pay4 v0)) (k2_pay15 (k2_pay5 v2)) (k2_pay16 (k2_pay6 v4)) (k2_pay17 (k2_pay7 v6))) (k2_pay35 (k2_pay13 v20) (k2_pay18 (k2_pay8 v8)))), (k2_pay37 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16)) (k2_pay23 v18)), (k2_pay38 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16)) (k2_pay23 v18)), (k2_pay41 (k2_pay13 v20) (k2_pay19 (k2_pay9 v10)) (k2_pay20 (k2_pay10 v12)) (k2_pay21 (k2_pay11 v14)) (k2_pay22 (k2_pay12 v16)) (k2_pay23 v18) (k2_pay39 (k2_pay13 v20) (k2_pay14 (k2_pay4 v0)) (k2_pay15 (k2_pay5 v2)) (k2_pay16 (k2_pay6 v4)) (k2_pay17 (k2_pay7 v6)) (k2_pay18 (k2_pay8 v8))) (k2_pay40 (k2_pay13 v20))), (k2_pay42 (k2_pay13 v20) (k2_pay14 (k2_pay4 v0)) (k2_pay15 (k2_pay5 v2)) (k2_pay16 (k2_pay6 v4)) (k2_pay17 (k2_pay7 v6)) (k2_pay18 (k2_pay8 v8)) (k2_pay19 (k2_pay9 v10)) (k2_pay20 (k2_pay10 v12)) (k2_pay21 (k2_pay11 v14)) (k2_pay22 (k2_pay12 v16)) (k2_pay23 v18))] : Prog (TpuEff nD τ sig (Elt F) Λ₀ .tc) PUnit) := by
  rfl

/-- The first layer of a block of features. -/
theorem first3_eq (x0 : Vec F S1x10x8x256 .f32) (x1 : Vec F S10x10 .f32) :
    ![(k2_pay26 (k2_pay13 (View.ld x1 (Rect.unit (s := S10x10) ![0, 0] S10x10.size inb_S10x10_S10x10_0_0))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0))) (k2_pay24 (k2_pay4 (View.ld x0 (Rect.unit (s := S1x10x8x256) ![0, 0, 0, 0] S1x1x8x256.size inb_S1x10x8x256_S1x1x8x256_0_0_0_0))) (k2_pay5 (View.ld x0 (Rect.unit (s := S1x10x8x256) ![0, 1, 0, 0] S1x1x8x256.size inb_S1x10x8x256_S1x1x8x256_0_1_0_0))) (k2_pay6 (View.ld x0 (Rect.unit (s := S1x10x8x256) ![0, 2, 0, 0] S1x1x8x256.size inb_S1x10x8x256_S1x1x8x256_0_2_0_0))) (k2_pay7 (View.ld x0 (Rect.unit (s := S1x10x8x256) ![0, 3, 0, 0] S1x1x8x256.size inb_S1x10x8x256_S1x1x8x256_0_3_0_0))) (k2_pay8 (View.ld x0 (Rect.unit (s := S1x10x8x256) ![0, 4, 0, 0] S1x1x8x256.size inb_S1x10x8x256_S1x1x8x256_0_4_0_0))) (k2_pay9 (View.ld x0 (Rect.unit (s := S1x10x8x256) ![0, 5, 0, 0] S1x1x8x256.size inb_S1x10x8x256_S1x1x8x256_0_5_0_0))) (k2_pay10 (View.ld x0 (Rect.unit (s := S1x10x8x256) ![0, 6, 0, 0] S1x1x8x256.size inb_S1x10x8x256_S1x1x8x256_0_6_0_0))) (k2_pay11 (View.ld x0 (Rect.unit (s := S1x10x8x256) ![0, 7, 0, 0] S1x1x8x256.size inb_S1x10x8x256_S1x1x8x256_0_7_0_0))) (View.ld x1 (Rect.unit (s := S10x10) ![0, 0] S10x10.size inb_S10x10_S10x10_0_0))) (k2_pay25 (View.ld x1 (Rect.unit (s := S10x10) ![0, 0] S10x10.size inb_S10x10_S10x10_0_0)))), (k2_pay27 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0)))), (k2_pay29 (k2_pay13 (View.ld x1 (Rect.unit (s := S10x10) ![0, 0] S10x10.size inb_S10x10_S10x10_0_0))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0))) (k2_pay28 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))))), (k2_pay32 (k2_pay23 (View.ld x0 (Rect.unit (s := S1x10x8x256) ![0, 9, 0, 0] S1x1x8x256.size inb_S1x10x8x256_S1x1x8x256_0_9_0_0))) (k2_pay30 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0))))) (k2_pay31 (k2_pay13 (View.ld x1 (Rect.unit (s := S10x10) ![0, 0] S10x10.size inb_S10x10_S10x10_0_0))))), (k2_pay33 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0)))), (k2_pay36 (k2_pay13 (View.ld x1 (Rect.unit (s := S10x10) ![0, 0] S10x10.size inb_S10x10_S10x10_0_0))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0))) (k2_pay34 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0))))) (k2_pay35 (k2_pay13 (View.ld x1 (Rect.unit (s := S10x10) ![0, 0] S10x10.size inb_S10x10_S10x10_0_0))) (k2_pay18 (k2_pay8 (View.ld x0 (Rect.unit (s := S1x10x8x256) ![0, 4, 0, 0] S1x1x8x256.size inb_S1x10x8x256_S1x1x8x256_0_4_0_0)))))), (k2_pay37 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0)))), (k2_pay38 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0)))), (k2_pay41 (k2_pay13 (View.ld x1 (Rect.unit (s := S10x10) ![0, 0] S10x10.size inb_S10x10_S10x10_0_0))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0))) (k2_pay39 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0))))) (k2_pay40 (k2_pay13 (View.ld x1 (Rect.unit (s := S10x10) ![0, 0] S10x10.size inb_S10x10_S10x10_0_0))))), (k2_pay42 (k2_pay13 (View.ld x1 (Rect.unit (s := S10x10) ![0, 0] S10x10.size inb_S10x10_S10x10_0_0))) (k2_pay14 (k2_pay4 (View.ld x0 (Rect.unit (s := S1x10x8x256) ![0, 0, 0, 0] S1x1x8x256.size inb_S1x10x8x256_S1x1x8x256_0_0_0_0)))) (k2_pay15 (k2_pay5 (View.ld x0 (Rect.unit (s := S1x10x8x256) ![0, 1, 0, 0] S1x1x8x256.size inb_S1x10x8x256_S1x1x8x256_0_1_0_0)))) (k2_pay16 (k2_pay6 (View.ld x0 (Rect.unit (s := S1x10x8x256) ![0, 2, 0, 0] S1x1x8x256.size inb_S1x10x8x256_S1x1x8x256_0_2_0_0)))) (k2_pay17 (k2_pay7 (View.ld x0 (Rect.unit (s := S1x10x8x256) ![0, 3, 0, 0] S1x1x8x256.size inb_S1x10x8x256_S1x1x8x256_0_3_0_0)))) (k2_pay18 (k2_pay8 (View.ld x0 (Rect.unit (s := S1x10x8x256) ![0, 4, 0, 0] S1x1x8x256.size inb_S1x10x8x256_S1x1x8x256_0_4_0_0)))) (k2_pay19 (k2_pay9 (View.ld x0 (Rect.unit (s := S1x10x8x256) ![0, 5, 0, 0] S1x1x8x256.size inb_S1x10x8x256_S1x1x8x256_0_5_0_0)))) (k2_pay20 (k2_pay10 (View.ld x0 (Rect.unit (s := S1x10x8x256) ![0, 6, 0, 0] S1x1x8x256.size inb_S1x10x8x256_S1x1x8x256_0_6_0_0)))) (k2_pay21 (k2_pay11 (View.ld x0 (Rect.unit (s := S1x10x8x256) ![0, 7, 0, 0] S1x1x8x256.size inb_S1x10x8x256_S1x1x8x256_0_7_0_0)))) (k2_pay22 (k2_pay12 (View.ld x0 (Rect.unit (s := S1x10x8x256) ![0, 8, 0, 0] S1x1x8x256.size inb_S1x10x8x256_S1x1x8x256_0_8_0_0)))) (k2_pay23 (View.ld x0 (Rect.unit (s := S1x10x8x256) ![0, 9, 0, 0] S1x1x8x256.size inb_S1x10x8x256_S1x1x8x256_0_9_0_0))))] = layer (narrow (View.ld x1 (Rect.unit (s := S10x10) ![0, 0] S10x10.size inb_S10x10_S10x10_0_0))) (planesIn x0) := by
  funext d
  fin_cases d <;> rfl

/-- The second layer from the first. -/
theorem second3_eq (r : Fin 10 → FVec F S8x256 .f32) (x2 : Vec F S2x10 .f32) (x3 : Vec F S10x10 .f32) (x4 : Vec F S1x10 .f32) :
    ![(k2_pay64 (k2_pay51 (View.ld x3 (Rect.unit (s := S10x10) ![0, 0] S10x10.size inb_S10x10_S10x10_0_0))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay62 (k2_pay43 (r 0) (View.ld x2 (Rect.unit (s := S2x10) ![0, 0] S1x1.size inb_S2x10_S1x1_0_0)) (View.ld x2 (Rect.unit (s := S2x10) ![1, 0] S1x1.size inb_S2x10_S1x1_1_0))) (k2_pay44 (r 1) (View.ld x2 (Rect.unit (s := S2x10) ![0, 1] S1x1.size inb_S2x10_S1x1_0_1)) (View.ld x2 (Rect.unit (s := S2x10) ![1, 1] S1x1.size inb_S2x10_S1x1_1_1))) (View.ld x3 (Rect.unit (s := S10x10) ![0, 0] S10x10.size inb_S10x10_S10x10_0_0))) (k2_pay63 (View.ld x3 (Rect.unit (s := S10x10) ![0, 0] S10x10.size inb_S10x10_S10x10_0_0))) (View.ld x4 (Rect.unit (s := S1x10) ![0, 0] S1x1.size inb_S1x10_S1x1_0_0))), (k2_pay66 (k2_pay51 (View.ld x3 (Rect.unit (s := S10x10) ![0, 0] S10x10.size inb_S10x10_S10x10_0_0))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay65 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 1] S1x1.size inb_S1x10_S1x1_0_1))), (k2_pay69 (k2_pay67 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8)))) (k2_pay68 (k2_pay51 (View.ld x3 (Rect.unit (s := S10x10) ![0, 0] S10x10.size inb_S10x10_S10x10_0_0))) (k2_pay61 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 2] S1x1.size inb_S1x10_S1x1_0_2))), (k2_pay70 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (View.ld x4 (Rect.unit (s := S1x10) ![0, 3] S1x1.size inb_S1x10_S1x1_0_3))), (k2_pay73 (k2_pay51 (View.ld x3 (Rect.unit (s := S10x10) ![0, 0] S10x10.size inb_S10x10_S10x10_0_0))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay71 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1))))) (k2_pay72 (k2_pay51 (View.ld x3 (Rect.unit (s := S10x10) ![0, 0] S10x10.size inb_S10x10_S10x10_0_0)))) (View.ld x4 (Rect.unit (s := S1x10) ![0, 4] S1x1.size inb_S1x10_S1x1_0_4))), (k2_pay75 (k2_pay51 (View.ld x3 (Rect.unit (s := S10x10) ![0, 0] S10x10.size inb_S10x10_S10x10_0_0))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay74 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 5] S1x1.size inb_S1x10_S1x1_0_5))), (k2_pay78 (k2_pay76 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8)))) (k2_pay77 (k2_pay51 (View.ld x3 (Rect.unit (s := S10x10) ![0, 0] S10x10.size inb_S10x10_S10x10_0_0))) (k2_pay61 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 6] S1x1.size inb_S1x10_S1x1_0_6))), (k2_pay79 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (View.ld x4 (Rect.unit (s := S1x10) ![0, 7] S1x1.size inb_S1x10_S1x1_0_7))), (k2_pay82 (k2_pay51 (View.ld x3 (Rect.unit (s := S10x10) ![0, 0] S10x10.size inb_S10x10_S10x10_0_0))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5)))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay80 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1))))) (k2_pay81 (k2_pay51 (View.ld x3 (Rect.unit (s := S10x10) ![0, 0] S10x10.size inb_S10x10_S10x10_0_0)))) (View.ld x4 (Rect.unit (s := S1x10) ![0, 8] S1x1.size inb_S1x10_S1x1_0_8))), (k2_pay84 (k2_pay51 (View.ld x3 (Rect.unit (s := S10x10) ![0, 0] S10x10.size inb_S10x10_S10x10_0_0))) (k2_pay58 (k2_pay49 (r 6) (View.ld x2 (Rect.unit (s := S2x10) ![0, 6] S1x1.size inb_S2x10_S1x1_0_6)) (View.ld x2 (Rect.unit (s := S2x10) ![1, 6] S1x1.size inb_S2x10_S1x1_1_6)))) (k2_pay59 (k2_pay50 (r 7) (View.ld x2 (Rect.unit (s := S2x10) ![0, 7] S1x1.size inb_S2x10_S1x1_0_7)) (View.ld x2 (Rect.unit (s := S2x10) ![1, 7] S1x1.size inb_S2x10_S1x1_1_7)))) (k2_pay60 (r 8) (View.ld x2 (Rect.unit (s := S2x10) ![0, 8] S1x1.size inb_S2x10_S1x1_0_8)) (View.ld x2 (Rect.unit (s := S2x10) ![1, 8] S1x1.size inb_S2x10_S1x1_1_8))) (k2_pay61 (r 9) (View.ld x2 (Rect.unit (s := S2x10) ![0, 9] S1x1.size inb_S2x10_S1x1_0_9)) (View.ld x2 (Rect.unit (s := S2x10) ![1, 9] S1x1.size inb_S2x10_S1x1_1_9))) (k2_pay83 (k2_pay51 (View.ld x3 (Rect.unit (s := S10x10) ![0, 0] S10x10.size inb_S10x10_S10x10_0_0))) (k2_pay52 (k2_pay43 (r 0) (View.ld x2 (Rect.unit (s := S2x10) ![0, 0] S1x1.size inb_S2x10_S1x1_0_0)) (View.ld x2 (Rect.unit (s := S2x10) ![1, 0] S1x1.size inb_S2x10_S1x1_1_0)))) (k2_pay53 (k2_pay44 (r 1) (View.ld x2 (Rect.unit (s := S2x10) ![0, 1] S1x1.size inb_S2x10_S1x1_0_1)) (View.ld x2 (Rect.unit (s := S2x10) ![1, 1] S1x1.size inb_S2x10_S1x1_1_1)))) (k2_pay54 (k2_pay45 (r 2) (View.ld x2 (Rect.unit (s := S2x10) ![0, 2] S1x1.size inb_S2x10_S1x1_0_2)) (View.ld x2 (Rect.unit (s := S2x10) ![1, 2] S1x1.size inb_S2x10_S1x1_1_2)))) (k2_pay55 (k2_pay46 (r 3) (View.ld x2 (Rect.unit (s := S2x10) ![0, 3] S1x1.size inb_S2x10_S1x1_0_3)) (View.ld x2 (Rect.unit (s := S2x10) ![1, 3] S1x1.size inb_S2x10_S1x1_1_3)))) (k2_pay56 (k2_pay47 (r 4) (View.ld x2 (Rect.unit (s := S2x10) ![0, 4] S1x1.size inb_S2x10_S1x1_0_4)) (View.ld x2 (Rect.unit (s := S2x10) ![1, 4] S1x1.size inb_S2x10_S1x1_1_4)))) (k2_pay57 (k2_pay48 (r 5) (View.ld x2 (Rect.unit (s := S2x10) ![0, 5] S1x1.size inb_S2x10_S1x1_0_5)) (View.ld x2 (Rect.unit (s := S2x10) ![1, 5] S1x1.size inb_S2x10_S1x1_1_5))))) (View.ld x4 (Rect.unit (s := S1x10) ![0, 9] S1x1.size inb_S1x10_S1x1_0_9)))] = affine (View.ld x3 (Rect.unit (s := S10x10) ![0, 0] S10x10.size inb_S10x10_S10x10_0_0)) x4 (hidden x2 r) := by
  funext d
  fin_cases d <;> rfl

/-- The third layer from the second. -/
theorem third3_eq (r : Fin 10 → FVec F S8x256 .f32) (x2 : Vec F S2x10 .f32) (x3 : Vec F S10x10 .f32) (x4 : Vec F S1x10 .f32) :
    ![(k2_pay111 (k2_pay109 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2))) (k2_pay89 (r 3) (View.ld x2 (Rect.unit (s := S2x10) ![0, 3] S1x1.size inb_S2x10_S1x1_0_3)) (View.ld x2 (Rect.unit (s := S2x10) ![1, 3] S1x1.size inb_S2x10_S1x1_1_3))) (k2_pay90 (r 4) (View.ld x2 (Rect.unit (s := S2x10) ![0, 4] S1x1.size inb_S2x10_S1x1_0_4)) (View.ld x2 (Rect.unit (s := S2x10) ![1, 4] S1x1.size inb_S2x10_S1x1_1_4))) (k2_pay91 (r 5) (View.ld x2 (Rect.unit (s := S2x10) ![0, 5] S1x1.size inb_S2x10_S1x1_0_5)) (View.ld x2 (Rect.unit (s := S2x10) ![1, 5] S1x1.size inb_S2x10_S1x1_1_5))) (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6))) (k2_pay94 (r 7) (View.ld x2 (Rect.unit (s := S2x10) ![0, 7] S1x1.size inb_S2x10_S1x1_0_7)) (View.ld x2 (Rect.unit (s := S2x10) ![1, 7] S1x1.size inb_S2x10_S1x1_1_7))) (k2_pay95 (r 8) (View.ld x2 (Rect.unit (s := S2x10) ![0, 8] S1x1.size inb_S2x10_S1x1_0_8)) (View.ld x2 (Rect.unit (s := S2x10) ![1, 8] S1x1.size inb_S2x10_S1x1_1_8))) (k2_pay96 (r 9) (View.ld x2 (Rect.unit (s := S2x10) ![0, 9] S1x1.size inb_S2x10_S1x1_0_9)) (View.ld x2 (Rect.unit (s := S2x10) ![1, 9] S1x1.size inb_S2x10_S1x1_1_9))) (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay110 (View.ld x4 (Rect.unit (s := S1x10) ![0, 0] S1x1.size inb_S1x10_S1x1_0_0)))), (k2_pay112 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 1] S1x1.size inb_S1x10_S1x1_0_1))), (k2_pay115 (k2_pay97 (View.ld x3 (Rect.unit (s := S10x10) ![0, 0] S10x10.size inb_S10x10_S10x10_0_0))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (k2_pay113 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2))))) (k2_pay114 (k2_pay97 (View.ld x3 (Rect.unit (s := S10x10) ![0, 0] S10x10.size inb_S10x10_S10x10_0_0)))) (View.ld x4 (Rect.unit (s := S1x10) ![0, 2] S1x1.size inb_S1x10_S1x1_0_2))), (k2_pay118 (k2_pay97 (View.ld x3 (Rect.unit (s := S10x10) ![0, 0] S10x10.size inb_S10x10_S10x10_0_0))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (k2_pay116 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6))))) (k2_pay117 (k2_pay97 (View.ld x3 (Rect.unit (s := S10x10) ![0, 0] S10x10.size inb_S10x10_S10x10_0_0)))) (View.ld x4 (Rect.unit (s := S1x10) ![0, 3] S1x1.size inb_S1x10_S1x1_0_3))), (k2_pay121 (k2_pay119 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9))))) (k2_pay120 (View.ld x4 (Rect.unit (s := S1x10) ![0, 4] S1x1.size inb_S1x10_S1x1_0_4)))), (k2_pay122 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 5] S1x1.size inb_S1x10_S1x1_0_5))), (k2_pay125 (k2_pay97 (View.ld x3 (Rect.unit (s := S10x10) ![0, 0] S10x10.size inb_S10x10_S10x10_0_0))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (k2_pay123 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2))))) (k2_pay124 (k2_pay97 (View.ld x3 (Rect.unit (s := S10x10) ![0, 0] S10x10.size inb_S10x10_S10x10_0_0)))) (View.ld x4 (Rect.unit (s := S1x10) ![0, 6] S1x1.size inb_S1x10_S1x1_0_6))), (k2_pay128 (k2_pay97 (View.ld x3 (Rect.unit (s := S10x10) ![0, 0] S10x10.size inb_S10x10_S10x10_0_0))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (k2_pay126 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6))))) (k2_pay127 (k2_pay97 (View.ld x3 (Rect.unit (s := S10x10) ![0, 0] S10x10.size inb_S10x10_S10x10_0_0)))) (View.ld x4 (Rect.unit (s := S1x10) ![0, 7] S1x1.size inb_S1x10_S1x1_0_7))), (k2_pay131 (k2_pay129 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9))))) (k2_pay130 (View.ld x4 (Rect.unit (s := S1x10) ![0, 8] S1x1.size inb_S1x10_S1x1_0_8)))), (k2_pay132 (k2_pay97 (View.ld x3 (Rect.unit (s := S10x10) ![0, 0] S10x10.size inb_S10x10_S10x10_0_0))) (k2_pay98 (k2_pay85 (r 0) (View.ld x2 (Rect.unit (s := S2x10) ![0, 0] S1x1.size inb_S2x10_S1x1_0_0)) (View.ld x2 (Rect.unit (s := S2x10) ![1, 0] S1x1.size inb_S2x10_S1x1_1_0)))) (k2_pay100 (k2_pay99 (k2_pay86 (r 1) (View.ld x2 (Rect.unit (s := S2x10) ![0, 1] S1x1.size inb_S2x10_S1x1_0_1)) (View.ld x2 (Rect.unit (s := S2x10) ![1, 1] S1x1.size inb_S2x10_S1x1_1_1))))) (k2_pay101 (k2_pay88 (k2_pay87 (r 2) (View.ld x2 (Rect.unit (s := S2x10) ![0, 2] S1x1.size inb_S2x10_S1x1_0_2))) (View.ld x2 (Rect.unit (s := S2x10) ![1, 2] S1x1.size inb_S2x10_S1x1_1_2)))) (k2_pay102 (k2_pay89 (r 3) (View.ld x2 (Rect.unit (s := S2x10) ![0, 3] S1x1.size inb_S2x10_S1x1_0_3)) (View.ld x2 (Rect.unit (s := S2x10) ![1, 3] S1x1.size inb_S2x10_S1x1_1_3)))) (k2_pay103 (k2_pay90 (r 4) (View.ld x2 (Rect.unit (s := S2x10) ![0, 4] S1x1.size inb_S2x10_S1x1_0_4)) (View.ld x2 (Rect.unit (s := S2x10) ![1, 4] S1x1.size inb_S2x10_S1x1_1_4)))) (k2_pay104 (k2_pay91 (r 5) (View.ld x2 (Rect.unit (s := S2x10) ![0, 5] S1x1.size inb_S2x10_S1x1_0_5)) (View.ld x2 (Rect.unit (s := S2x10) ![1, 5] S1x1.size inb_S2x10_S1x1_1_5)))) (k2_pay105 (k2_pay93 (k2_pay92 (r 6) (View.ld x2 (Rect.unit (s := S2x10) ![0, 6] S1x1.size inb_S2x10_S1x1_0_6))) (View.ld x2 (Rect.unit (s := S2x10) ![1, 6] S1x1.size inb_S2x10_S1x1_1_6)))) (k2_pay106 (k2_pay94 (r 7) (View.ld x2 (Rect.unit (s := S2x10) ![0, 7] S1x1.size inb_S2x10_S1x1_0_7)) (View.ld x2 (Rect.unit (s := S2x10) ![1, 7] S1x1.size inb_S2x10_S1x1_1_7)))) (k2_pay107 (k2_pay95 (r 8) (View.ld x2 (Rect.unit (s := S2x10) ![0, 8] S1x1.size inb_S2x10_S1x1_0_8)) (View.ld x2 (Rect.unit (s := S2x10) ![1, 8] S1x1.size inb_S2x10_S1x1_1_8)))) (k2_pay108 (k2_pay96 (r 9) (View.ld x2 (Rect.unit (s := S2x10) ![0, 9] S1x1.size inb_S2x10_S1x1_0_9)) (View.ld x2 (Rect.unit (s := S2x10) ![1, 9] S1x1.size inb_S2x10_S1x1_1_9)))) (View.ld x4 (Rect.unit (s := S1x10) ![0, 9] S1x1.size inb_S1x10_S1x1_0_9)))] = affine (View.ld x3 (Rect.unit (s := S10x10) ![0, 0] S10x10.size inb_S10x10_S10x10_0_0)) x4 (hidden x2 r) := by
  funext d
  fin_cases d <;> rfl

end Cert.KernelIdeal.Knn

end
-- ==== Proof.MlpRun3.lean ====
/- The third body run on whole staging buffers. -/
module

public import proofs.«01_k».proof.Proof.Mlp3
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The columns of a block summed. -/
def colSum (v : FVec F S8x256 .f32) : FVec F S256 .f32 :=
  multiReduction .add [0] S256 v 0x00000000#32 reduces_S8x256_S256 (.inl rfl) rfl

/-- The block of ten rows of column sums. -/
def outBlock (f : Fin 10 → FVec F S8x256 .f32) : Vec F S1x10x256 .f32 := fun y => colSum (f (y 1)) (ix1 (y 2))

/-- Row `d` lies in the block. -/
theorem inb_row (d : Fin 10) : ∀ a, (![0, d.val, 0] : Fin 3 → ℕ) a + S1x1x256.size a ≤ S1x10x256.size a := by
  revert d; decide

/-- The stores of the ten rows, newest first, leave row `d` at its payload. -/
theorem read_rows {sp : Space} (v : View sig .tc sp S1x10x256 .f32) (f : v.ty.Contents (Elt F)) (P : Fin 10 → Vec F S1x1x256 .f32) :
    v.read (Elt F) (v.writes (Elt F) f (View.tilePieces (s := S1x10x256) S1x1x256.size (fun d : Fin 10 => ![0, d.val, 0]) inb_row P 10 le_rfl))
      = fun y => P (y 1) (ix3 0 0 (y 2)) := by
  funext y
  refine View.read_tilePieces v f _ _ inb_row P 10 le_rfl y (y 1) (y 1).isLt (ix3 0 0 (y 2)) (fun a => ?_) 1 fun i' hi' => ?_
  · have h0 : (y 0).val = 0 := Nat.lt_one_iff.mp (y 0).isLt
    fin_cases a <;> simp [h0]
  · have hne : i'.val ≠ (y 1).val := fun h => hi' (Fin.ext h)
    show (y 1).val < i'.val ∨ i'.val + 1 ≤ (y 1).val
    omega

/-- A row as it is stored. -/
def rowOut (v : FVec F S8x256 .f32) : FVec F S1x1x256 .f32 :=
  shapeCast S1x1x256 (shapeCast S1x256 (colSum v) shapeCasts_S256_S1x256) shapeCasts_S1x256_S1x1x256

/-- A stored row at an entry. -/
theorem rowOut_apply (v : FVec F S8x256 .f32) (b : Fin 256) : rowOut v (ix3 0 0 b) = colSum v (ix1 b) :=
  (shapeCast_apply _ _ _ (ix2 0 b) (by rw [Shape.rowMajor_val_two, Shape.rowMajor_val_three]; simp)).trans
    (shapeCast_apply _ _ _ (ix1 b) (by rw [Shape.rowMajor_val_one, Shape.rowMajor_val_two]; simp))

set_option maxHeartbeats 1000000 in
/-- The last part of the third body leaves the column sums. -/
theorem tail3_run (c : Dev nD) (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole)
    (f : Fin 10 → FVec F S8x256 .f32) :
    ∀ (E : Set ℕ) (K : PUnit → sProp 𝕄),
      iprop((∃ d, owns (c : Thread nD τ) arg10 fullShare d) ∗ (iprop(owns (c : Thread nD τ) arg10 fullShare (outBlock f)) -∗ K ⟨⟩))
        ⊢ wp frame (wpE (defs₀ (F := F)) Variants.none c none) E (tail3 i arg2 harg2 arg3 harg3 arg4 harg4 arg5 harg5 arg6 harg6 arg7 harg7 arg8 harg8 arg9 harg9 arg10 harg10 f) K := by
  intro E K
  unfold tail3 owns
  iintro ⟨⟨%d10, %f10, -, H10⟩, Hk⟩
  sl_exec
  sl_step
  iapply Hk
  iexists _; isplitr; swap; · iexact H10
  ipureintro
  exact (read_rows _ _ fun d => rowOut (f d)).trans (funext fun y => rowOut_apply _ _)

set_option maxHeartbeats 1000000 in
/-- The third body from its second layer on leaves the column sums of the third. -/
theorem last3_run (c : Dev nD) (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole)
    (r : Fin 10 → FVec F S8x256 .f32) (x5 : Vec F S2x10 .f32) (x6 : Vec F S10x10 .f32) (x7 : Vec F S1x10 .f32) :
    ∀ (E : Set ℕ) (K : PUnit → sProp 𝕄),
      iprop(owns (c : Thread nD τ) arg7 fullShare x5 ∗ owns (c : Thread nD τ) arg8 fullShare x6 ∗ owns (c : Thread nD τ) arg9 fullShare x7 ∗ (∃ d, owns (c : Thread nD τ) arg10 fullShare d) ∗ (iprop(owns (c : Thread nD τ) arg7 fullShare x5 ∗ owns (c : Thread nD τ) arg8 fullShare x6 ∗ owns (c : Thread nD τ) arg9 fullShare x7 ∗ owns (c : Thread nD τ) arg10 fullShare (outBlock (affine x6 x7 (hidden x5 r)))) -∗ K ⟨⟩))
        ⊢ wp frame (wpE (defs₀ (F := F)) Variants.none c none) E (last3 i arg2 harg2 arg3 harg3 arg4 harg4 arg5 harg5 arg6 harg6 arg7 harg7 arg8 harg8 arg9 harg9 arg10 harg10 r) K := by
  intro E K
  unfold last3
  have key := fun (q : Fin 10 → FVec F S8x256 .f32) (hq : q = affine x6 x7 (hidden x5 r)) =>
    (tail3_run c i arg2 harg2 arg3 harg3 arg4 harg4 arg5 harg5 arg6 harg6 arg7 harg7 arg8 harg8 arg9 harg9 arg10 harg10 (affine x6 x7 (hidden x5 r)) E K).trans
      (Entails.of_eq (congrArg (fun s => wp frame (wpE (defs₀ (F := F)) Variants.none c none) E (tail3 (F := F) i arg2 harg2 arg3 harg3 arg4 harg4 arg5 harg5 arg6 harg6 arg7 harg7 arg8 harg8 arg9 harg9 arg10 harg10 s) K) hq.symm))
  generalize tail3 (F := F) i arg2 harg2 arg3 harg3 arg4 harg4 arg5 harg5 arg6 harg6 arg7 harg7 arg8 harg8 arg9 harg9 arg10 harg10 = g at key ⊢
  unfold owns at key ⊢
  iintro ⟨⟨%f7, %hf7, H7⟩, ⟨%f8, %hf8, H8⟩, ⟨%f9, %hf9, H9⟩, H10, Hk⟩
  subst hf7; subst hf8; subst hf9
  sl_exec
  iapply (key _ ((third3_eq r _ _ _).trans (congrArg (fun w => affine w _ _) (View.ld_unit_lit _ _ (by decide)))))
  isplitl [H10]; · iexact H10
  iintro H10
  iapply Hk
  isplitl [H7]
  · iexists _; isplitr; · ipureintro; rfl
    iexact H7
  isplitl [H8]
  · iexists _; isplitr; · ipureintro; rfl
    iexact H8
  isplitl [H9]
  · iexists _; isplitr; · ipureintro; rfl
    iexact H9
  iexact H10

set_option maxHeartbeats 1000000 in
/-- The third body from its first layer on. -/
theorem mid3_run (c : Dev nD) (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole)
    (r : Fin 10 → FVec F S8x256 .f32) (x2 : Vec F S2x10 .f32) (x3 : Vec F S10x10 .f32) (x4 : Vec F S1x10 .f32) (x5 : Vec F S2x10 .f32) (x6 : Vec F S10x10 .f32) (x7 : Vec F S1x10 .f32) :
    ∀ (E : Set ℕ) (K : PUnit → sProp 𝕄),
      iprop(owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (iprop(owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlock (affine x6 x7 (hidden x5 (affine x3 x4 (hidden x2 r)))))) -∗ K ⟨⟩))
        ⊢ wp frame (wpE (defs₀ (F := F)) Variants.none c none) E (mid3 i arg2 harg2 arg3 harg3 arg4 harg4 arg5 harg5 arg6 harg6 arg7 harg7 arg8 harg8 arg9 harg9 arg10 harg10 r) K := by
  intro E K
  unfold mid3
  have key := fun (q : Fin 10 → FVec F S8x256 .f32) (hq : q = affine x3 x4 (hidden x2 r)) =>
    (last3_run c i arg2 harg2 arg3 harg3 arg4 harg4 arg5 harg5 arg6 harg6 arg7 harg7 arg8 harg8 arg9 harg9 arg10 harg10 (affine x3 x4 (hidden x2 r)) x5 x6 x7 E K).trans
      (Entails.of_eq (congrArg (fun s => wp frame (wpE (defs₀ (F := F)) Variants.none c none) E (last3 (F := F) i arg2 harg2 arg3 harg3 arg4 harg4 arg5 harg5 arg6 harg6 arg7 harg7 arg8 harg8 arg9 harg9 arg10 harg10 s) K) hq.symm))
  generalize last3 (F := F) i arg2 harg2 arg3 harg3 arg4 harg4 arg5 harg5 arg6 harg6 arg7 harg7 arg8 harg8 arg9 harg9 arg10 harg10 = g at key ⊢
  unfold owns at key ⊢
  iintro ⟨⟨%f4, %hf4, H4⟩, ⟨%f5, %hf5, H5⟩, ⟨%f6, %hf6, H6⟩, H7, H8, H9, H10, Hk⟩
  subst hf4; subst hf5; subst hf6
  sl_exec
  iapply (key _ ((second3_eq r _ _ _).trans (congrArg (fun w => affine w _ _) (View.ld_unit_lit _ _ (by decide)))))
  isplitl [H7]; · iexact H7
  isplitl [H8]; · iexact H8
  isplitl [H9]; · iexact H9
  isplitl [H10]; · iexact H10
  iintro ⟨H7, H8, H9, H10⟩
  iapply Hk
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]; · iexact H7
  isplitl [H8]; · iexact H8
  isplitl [H9]; · iexact H9
  iexact H10

set_option maxHeartbeats 1000000 in
/-- The third body leaves the column sums of the third layer of its block. -/
theorem run3 (c : Dev nD) (i : grid2.Coords) (arg2 : Memref sig .tc .vmem S1x10x8x256 .f32) (harg2 : arg2.IsWhole) (arg3 : Memref sig .tc .vmem S10x10 .f32) (harg3 : arg3.IsWhole) (arg4 : Memref sig .tc .vmem S2x10 .f32) (harg4 : arg4.IsWhole) (arg5 : Memref sig .tc .vmem S10x10 .f32) (harg5 : arg5.IsWhole) (arg6 : Memref sig .tc .vmem S1x10 .f32) (harg6 : arg6.IsWhole) (arg7 : Memref sig .tc .vmem S2x10 .f32) (harg7 : arg7.IsWhole) (arg8 : Memref sig .tc .vmem S10x10 .f32) (harg8 : arg8.IsWhole) (arg9 : Memref sig .tc .vmem S1x10 .f32) (harg9 : arg9.IsWhole) (arg10 : Memref sig .tc .vmem S1x10x256 .f32) (harg10 : arg10.IsWhole)
    (x0 : Vec F S1x10x8x256 .f32) (x1 : Vec F S10x10 .f32) (x2 : Vec F S2x10 .f32) (x3 : Vec F S10x10 .f32) (x4 : Vec F S1x10 .f32) (x5 : Vec F S2x10 .f32) (x6 : Vec F S10x10 .f32) (x7 : Vec F S1x10 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlock (affine x6 x7 (hidden x5 (affine x3 x4 (hidden x2 (layer (narrow x1) (planesIn x0)))))))) -∗ K ⟨⟩))
        ⊢ wp frame (wpE (defs₀ (F := F)) Variants.none c none) E (cc2__final_kernel i arg2 harg2 arg3 harg3 arg4 harg4 arg5 harg5 arg6 harg6 arg7 harg7 arg8 harg8 arg9 harg9 arg10 harg10) K := by
  intro E K
  rw [body3_eq]
  have key := fun (q : Fin 10 → FVec F S8x256 .f32) (hq : q = layer (narrow x1) (planesIn x0)) =>
    (mid3_run c i arg2 harg2 arg3 harg3 arg4 harg4 arg5 harg5 arg6 harg6 arg7 harg7 arg8 harg8 arg9 harg9 arg10 harg10 (layer (narrow x1) (planesIn x0)) x2 x3 x4 x5 x6 x7 E K).trans
      (Entails.of_eq (congrArg (fun s => wp frame (wpE (defs₀ (F := F)) Variants.none c none) E (mid3 (F := F) i arg2 harg2 arg3 harg3 arg4 harg4 arg5 harg5 arg6 harg6 arg7 harg7 arg8 harg8 arg9 harg9 arg10 harg10 s) K) hq.symm))
  generalize mid3 (F := F) i arg2 harg2 arg3 harg3 arg4 harg4 arg5 harg5 arg6 harg6 arg7 harg7 arg8 harg8 arg9 harg9 arg10 harg10 = g at key ⊢
  unfold owns at key ⊢
  iintro ⟨⟨%f2, %hf2, H2⟩, ⟨%f3, %hf3, H3⟩, H4, H5, H6, H7, H8, H9, H10, Hk⟩
  subst hf2; subst hf3
  sl_exec
  iapply (key _ ((first3_eq _ _).trans (congrArg (fun w => layer (narrow w) _) (View.ld_unit_lit _ _ (by decide)))))
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H4, H5, H6, H7, H8, H9, H10⟩
  iapply Hk
  isplitl [H2]
  · iexists _; isplitr; · ipureintro; rfl
    iexact H2
  isplitl [H3]
  · iexists _; isplitr; · ipureintro; rfl
    iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Knn

end
-- ==== Proof.Call2.lean ====
/- The third call: what its windows hold at every grid point. -/
module

public import proofs.«01_k».proof.Proof.Regs
public import proofs.«01_k».proof.Proof.MlpRun3
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Cert.KernelIdeal.Gen

variable {F : FTy → Type} [FloatOps F]

local notation "𝕄" => MT nD τ sig Unit (Elt F) ℕ (UR sig nD τ) ℕ

variable (V : Dev nD → Valuation τ sig (Elt F))

/-- A window's block at a grid point, out of what the call finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of results at a point. -/
def out2 (c : Dev nD) (t : Fin cfg2.N) : Vec F S1x10x256 .f32 :=
  outBlock (affine (blk2 V c 6 t) (blk2 V c 7 t) (hidden (blk2 V c 5 t)
    (affine (blk2 V c 3 t) (blk2 V c 4 t) (hidden (blk2 V c 2 t) (layer (narrow (blk2 V c 1 t)) (planesIn (blk2 V c 0 t)))))))

/-- What the call works on: its arrays as found, each input's block left in place, the outputs at what the body stores. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => out2 V c t
  Φ _ := Pipeline.scopedRest spec2 c
  q w := Pipeline.shareOf spec2 w
  owed _ := 0

theorem A2_eq (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = out2 V c t := by dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A2_eq]; try rfl) t d).trans
    (by unfold Dat.fetched Dat.blockOf blk2; rw [A2_eq]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A2_eq]; try rfl) t d).trans
    (by unfold Dat.fetched Dat.blockOf blk2; rw [A2_eq]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A2_eq]; try rfl) t d).trans
    (by unfold Dat.fetched Dat.blockOf blk2; rw [A2_eq]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A2_eq]; try rfl) t d).trans
    (by unfold Dat.fetched Dat.blockOf blk2; rw [A2_eq]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A2_eq]; try rfl) t d).trans
    (by unfold Dat.fetched Dat.blockOf blk2; rw [A2_eq]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [A2_eq]; try rfl) t d).trans
    (by unfold Dat.fetched Dat.blockOf blk2; rw [A2_eq]; try rfl)
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf blk2; rw [A2_eq]; try rfl) t d).trans
    (by unfold Dat.fetched Dat.blockOf blk2; rw [A2_eq]; try rfl)
theorem before2_7 (c : Dev nD) (t : Fin cfg2.N) (d) : (dat2 V c).before 7 t d = blk2 V c 7 t :=
  ((dat2 V c).before_in_eq_fetched 7 rfl (fun _ => rfl) (fun _ _ _ => rfl) (fun t => by rw [after2_7]; unfold Dat.blockOf blk2; rw [A2_eq]; try rfl) t d).trans
    (by unfold Dat.fetched Dat.blockOf blk2; rw [A2_eq]; try rfl)

/-- What the body is called with, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

set_option maxHeartbeats 1600000 in
/-- The body at any point turns the one into the other. -/
theorem body2_sound (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run3 c (grid2.coords t) _ _ _ _ _ _ _ _ _ _ _ _ _ _ _ _ _ _  (blk2 V c 0 t) (blk2 V c 1 t) (blk2 V c 2 t) (blk2 V c 3 t) (blk2 V c 4 t) (blk2 V c 5 t) (blk2 V c 6 t) (blk2 V c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row2 (t : Fin cfg2.N) : defs₀ (F := F) .tc cfg2.body (cfg2.bodyArgs t (cfg2.slots t)) = bodyAt2 t := by
  unfold defs₀; rw [Defs.onTc_tc]

/-- The obligation of the call's body, at every point. -/
theorem obligation2 (c : Dev nD) : BodyObligation (dat2 (F := F) V c) (defs₀ (F := F)) Variants.none () Set.univ := fun t => by
  rw [bigSep_W2, bigSep_W2, row2]
  exact triple_restated (body2_sound V c t) rfl .rfl fun _ => .rfl

end Cert.KernelIdeal.Knn

end
-- ==== Proof.Run.lean ====
/- The three calls and the host operations between them, run as one program. -/
module

public import proofs.«01_k».proof.Proof.Call0
public import proofs.«01_k».proof.Proof.Call1
public import proofs.«01_k».proof.Proof.Call2

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the first call: the features and the first sums. -/
def W2 (c : Dev nD) : Valuation τ sig (Elt F) :=
  Function.update (Function.update (V1 m c) main_v1_0 ((dat0 (V1 m) c).arrAt 4 cfg0.N)) main_v1_1 ((dat0 (V1 m) c).arrAt 5 cfg0.N)

/-- The buffers the second call finds. -/
def W3 (c : Dev nD) : Valuation τ sig (Elt F) := StableHlo.after hostOps1 (W2 m c)

/-- The buffers after the second call: the second sums. -/
def W4 (c : Dev nD) : Valuation τ sig (Elt F) := Function.update (W3 m c) main_v22 ((dat1 (W3 m) c).arrAt 5 cfg1.N)

/-- The buffers the third call finds. -/
def W5 (c : Dev nD) : Valuation τ sig (Elt F) := StableHlo.after hostOps2 (W4 m c)

/-- The buffers at the end: the result. -/
def W6 (c : Dev nD) : Valuation τ sig (Elt F) := Function.update (W5 m c) main_v44 ((dat2 (W5 m) c).arrAt 8 cfg2.N)

/-- What the calls leave, item by item. -/
def outs : Outs (F := F) := fun k r c => if k = 2 then W2 m c r else if k = 4 then W4 m c r else W6 m c r

theorem V2_eq (c : Dev nD) : V2 m (outs m) c = W2 m c := by
  show Function.update (Function.update (V1 m c) main_v1_0 (W2 m c main_v1_0)) main_v1_1 (W2 m c main_v1_1) = W2 m c
  unfold W2
  rw [Function.update_self, Function.update_of_ne (by decide), Function.update_self]

theorem V3_eq (c : Dev nD) : V3 m (outs m) c = W3 m c := congrArg (StableHlo.after hostOps1) (V2_eq m c)

theorem V4_eq (c : Dev nD) : V4 m (outs m) c = W4 m c := by
  show Function.update (V3 m (outs m) c) main_v22 (W4 m c main_v22) = W4 m c
  rw [V3_eq]
  unfold W4
  rw [Function.update_self]

theorem V5_eq (c : Dev nD) : V5 m (outs m) c = W5 m c := congrArg (StableHlo.after hostOps2) (V4_eq m c)

theorem V6_eq (c : Dev nD) : V6 m (outs m) c = W6 m c := by
  show Function.update (V5 m (outs m) c) main_v44 (W6 m c main_v44) = W6 m c
  rw [V5_eq]
  unfold W6
  rw [Function.update_self]

/-- The proof data of the three calls, each over the buffers it finds. -/
def pdats : (p : Fin 3) → (c : Dev nD) → Dat τ (Elt F) Unit ℕ (UR sig nD τ) ℕ (cfgs p) c
  | 0 => dat0 (V1 m)
  | 1 => dat1 (W3 m)
  | 2 => dat2 (W5 m)

/-- A buffer outside the arrays of a call is not one of its windows' arrays. -/
theorem ne_of_not_mem {gr W : ℕ} (win : Fin W → Pipeline.WinSpec sig gr) (w : Fin W) (b : DevRef τ sig) (hb : b ∉ Pipeline.arrRefs (τ := τ) win) :
    b ≠ Proc.devRef (τ := τ) .tc (Pipeline.arrRef win w) := fun h => hb (by
  rw [h]
  exact Finset.mem_map.mpr ⟨Pipeline.arrRef win w, Finset.mem_image.mpr ⟨w, Finset.mem_univ _, rfl⟩, rfl⟩)

set_option maxHeartbeats 1000000 in
/-- The first call as a segment. -/
def call0 : Pipeline.RegionSeg (pcfgs (F := F)) adm (pdats m) () defs₀ Variants.none levels levelOf 0 :=
  callSeg ρ 0 (pdats m) launch₀0 (V1 m) (W2 m) (fun c => (obligation0 (V1 m) c).loose) (fun _ _ => rfl) (fun _ _ => rfl) (fun _ _ => rfl)
    (fun _ _ _ => rfl) (fun _ _ => rfl)
    (fun c w => by
      have hin : ∀ w : Fin 6, (spec0 w).isOut = false → Proc.devRef (τ := τ) .tc (Pipeline.arrRef spec0 w) ≠ main_v1_0 ∧ Proc.devRef (τ := τ) .tc (Pipeline.arrRef spec0 w) ≠ main_v1_1 := by decide
      have key : ∀ w : Fin 6, (spec0 w).isOut = false → (dat0 (V1 m) c).arrAt w cfg0.N = W2 m c (Pipeline.arrRef spec0 w) := fun w hw => by
        unfold W2
        rw [Function.update_of_ne (hin w hw).2, Function.update_of_ne (hin w hw).1]
        exact (dat0 (V1 m) c).arrAt_in w hw _
      match w with
      | ⟨0, _⟩ => exact key 0 rfl
      | ⟨1, _⟩ => exact key 1 rfl
      | ⟨2, _⟩ => exact key 2 rfl
      | ⟨3, _⟩ => exact key 3 rfl
      | ⟨4, _⟩ =>
        show (dat0 (V1 m) c).arrAt 4 cfg0.N = W2 m c main_v1_0
        unfold W2
        rw [Function.update_of_ne (by decide), Function.update_self]
      | ⟨5, _⟩ =>
        show (dat0 (V1 m) c).arrAt 5 cfg0.N = W2 m c main_v1_1
        unfold W2
        rw [Function.update_self])
    (fun c b hb => by
      unfold W2
      rw [Function.update_of_ne (ne_of_not_mem spec0 5 b hb), Function.update_of_ne (ne_of_not_mem spec0 4 b hb)])

set_option maxHeartbeats 1000000 in
/-- The second call as a segment. -/
def call1 : Pipeline.RegionSeg (pcfgs (F := F)) adm (pdats m) () defs₀ Variants.none levels levelOf 1 :=
  callSeg ρ 1 (pdats m) launch1.to₀ (W3 m) (W4 m) (fun c => (obligation1 (W3 m) c).loose) (fun _ _ => rfl) (fun _ _ => rfl) (fun _ _ => rfl)
    (fun _ _ _ => rfl) (fun _ _ => rfl)
    (fun c w => by
      have hin : ∀ w : Fin 6, (spec1 w).isOut = false → Proc.devRef (τ := τ) .tc (Pipeline.arrRef spec1 w) ≠ main_v22 := by decide
      have key : ∀ w : Fin 6, (spec1 w).isOut = false → (dat1 (W3 m) c).arrAt w cfg1.N = W4 m c (Pipeline.arrRef spec1 w) := fun w hw => by
        unfold W4
        rw [Function.update_of_ne (hin w hw)]
        exact (dat1 (W3 m) c).arrAt_in w hw _
      match w with
      | ⟨0, _⟩ => exact key 0 rfl
      | ⟨1, _⟩ => exact key 1 rfl
      | ⟨2, _⟩ => exact key 2 rfl
      | ⟨3, _⟩ => exact key 3 rfl
      | ⟨4, _⟩ => exact key 4 rfl
      | ⟨5, _⟩ =>
        show (dat1 (W3 m) c).arrAt 5 cfg1.N = W4 m c main_v22
        unfold W4
        rw [Function.update_self])
    (fun c b hb => (Function.update_of_ne (ne_of_not_mem spec1 5 b hb) _ _).symm)

set_option maxHeartbeats 1000000 in
/-- The third call as a segment. -/
def call2 : Pipeline.RegionSeg (pcfgs (F := F)) adm (pdats m) () defs₀ Variants.none levels levelOf 2 :=
  callSeg ρ 2 (pdats m) launch2.to₀ (W5 m) (W6 m) (fun c => (obligation2 (W5 m) c).loose) (fun _ _ => rfl) (fun _ _ => rfl) (fun _ _ => rfl)
    (fun _ _ _ => rfl) (fun _ _ => rfl)
    (fun c w => by
      have hin : ∀ w : Fin 9, (spec2 w).isOut = false → Proc.devRef (τ := τ) .tc (Pipeline.arrRef spec2 w) ≠ main_v44 := by decide
      have key : ∀ w : Fin 9, (spec2 w).isOut = false → (dat2 (W5 m) c).arrAt w cfg2.N = W6 m c (Pipeline.arrRef spec2 w) := fun w hw => by
        unfold W6
        rw [Function.update_of_ne (hin w hw)]
        exact (dat2 (W5 m) c).arrAt_in w hw _
      match w with
      | ⟨0, _⟩ => exact key 0 rfl
      | ⟨1, _⟩ => exact key 1 rfl
      | ⟨2, _⟩ => exact key 2 rfl
      | ⟨3, _⟩ => exact key 3 rfl
      | ⟨4, _⟩ => exact key 4 rfl
      | ⟨5, _⟩ => exact key 5 rfl
      | ⟨6, _⟩ => exact key 6 rfl
      | ⟨7, _⟩ => exact key 7 rfl
      | ⟨8, _⟩ =>
        show (dat2 (W5 m) c).arrAt 8 cfg2.N = W6 m c main_v44
        unfold W6
        rw [Function.update_self])
    (fun c b hb => (Function.update_of_ne (ne_of_not_mem spec2 8 b hb) _ _).symm)

/-- What a final state holds: the arguments as launched, the result as computed. -/
def Ends (mem : (ℓ : Loc nD τ sig) → Buf (Elt F) ℓ) (c : Dev nD) : Prop :=
  (mem ((c.tc : Thread nD τ).loc main_arg0) = m ((c.tc : Thread nD τ).loc main_arg0) ∧ mem ((c.tc : Thread nD τ).loc main_arg1) = m ((c.tc : Thread nD τ).loc main_arg1) ∧ mem ((c.tc : Thread nD τ).loc main_arg2) = m ((c.tc : Thread nD τ).loc main_arg2) ∧ mem ((c.tc : Thread nD τ).loc main_arg3) = m ((c.tc : Thread nD τ).loc main_arg3) ∧ mem ((c.tc : Thread nD τ).loc main_arg4) = m ((c.tc : Thread nD τ).loc main_arg4) ∧ mem ((c.tc : Thread nD τ).loc main_arg5) = m ((c.tc : Thread nD τ).loc main_arg5) ∧ mem ((c.tc : Thread nD τ).loc main_arg6) = m ((c.tc : Thread nD τ).loc main_arg6) ∧ mem ((c.tc : Thread nD τ).loc main_arg7) = m ((c.tc : Thread nD τ).loc main_arg7) ∧ mem ((c.tc : Thread nD τ).loc main_arg8) = m ((c.tc : Thread nD τ).loc main_arg8) ∧ mem ((c.tc : Thread nD τ).loc main_arg9) = m ((c.tc : Thread nD τ).loc main_arg9))
    ∧ mem ((c.tc : Thread nD τ).loc main_v44) = (dat2 (W5 m) c).arrAt 8 cfg2.N

set_option backward.isDefEq.respectTransparency.types false in
/-- The whole program: every run of it ends, the arguments unchanged, the result as computed, every counter at zero. -/
theorem run_main : θ_run defs (onTc (τ := τ) (main (F := F))) ⟨m, fun _ => 0, ρ⟩ (fun r => (∀ c : Dev nD, Ends m r.2.mem c) ∧ r.2.sem = fun _ => 0) := by
  refine Pipeline.θ_run_regions_kit_dev_sems (pcfgs (F := F)) adm (pdats m) () cellOf_inj emb₁ defs₀ Variants.none levels levelOf m ρ main
    (segs m (outs m) Variants.none levels levelOf (fun _ => side ρ) () (pdats m) (call0 m ρ) (call1 m ρ) (call2 m ρ))
    (fun c Q => by
      rewrite [main_chain c, Pipeline.Seg.run_eq_chain,
        show (segs m (outs m) Variants.none levels levelOf (fun _ => side ρ) () (pdats m) (call0 m ρ) (call1 m ρ) (call2 m ρ) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) 0 (fun _ _ => rfl)
    (fun _ => iprop(emp)) (initOf (Pipeline.cells cfgs cellOf_inj) (Pipeline.launchToks cfgs cellOf_inj)) ?hu
    (T₀ := fun c => iprop(StableHlo.held (c : Thread nD τ) (Pipeline.ucRefs τ sig) (V0 m c) ∗ side ρ c))
    (Tₙ := fun c => iprop(StableHlo.held (c : Thread nD τ) (Pipeline.ucRefs τ sig) (V6 m (outs m) c) ∗ prngReg c (ρ c)))
    (hch := fun c => ⟨.rfl, .rfl, ?h2, ?h3, ?h4, ?h5, ?h6⟩)
    (hinit := ?hi) (QY := fun c s => Ends m s.mem c)
    (hfin := fun c s' => ?hf) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case h2 => exact Entails.of_eq (congrArg (fun W => iprop(StableHlo.held (c : Thread nD τ) (Pipeline.ucRefs τ sig) W ∗ side ρ c)) (V2_eq m c).symm)
  case h3 => exact Entails.of_eq (congrArg (fun W => iprop(StableHlo.held (c : Thread nD τ) (Pipeline.ucRefs τ sig) W ∗ side ρ c)) (V3_eq m c))
  case h4 => exact Entails.of_eq (congrArg (fun W => iprop(StableHlo.held (c : Thread nD τ) (Pipeline.ucRefs τ sig) W ∗ side ρ c)) (V4_eq m c).symm)
  case h5 => exact Entails.of_eq (congrArg (fun W => iprop(StableHlo.held (c : Thread nD τ) (Pipeline.ucRefs τ sig) W ∗ side ρ c)) (V5_eq m c))
  case h6 =>
    refine (Entails.of_eq (congrArg (fun W => iprop(StableHlo.held (c : Thread nD τ) (Pipeline.ucRefs τ sig) W ∗ side ρ c)) (V6_eq m c).symm)).trans ?_
    unfold side
    iintro ⟨Hh, Hp, HO⟩
    isplitl [Hh Hp]
    · isplitl [Hh] <;> iassumption
    iexact HO
  case hi =>
    refine Pipeline.initEach levels levelOf fun c => ?_
    rw [show unscopedBufs c (fun b => m ((c : Thread nD τ).loc b)) = StableHlo.held (c : Thread nD τ) (Pipeline.ucRefs τ sig) (V0 m c) from Pipeline.unscopedBufs_held c (V0 m c)]
    unfold side
    iintro ⟨⟨Hh, -, HO, -, Hp, -⟩, -⟩
    imodintro
    isplitl [Hh]; · iexact Hh
    isplitl [Hp]; · iexact Hp
    iexists ∅; iexact HO
  case hf =>
    unfold StableHlo.held
    iintro ⟨⟨Hh, -⟩, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      have hr : ∀ r : Ref sig .tc, ¬ r.isScoped → s'.mem.mem ((c.tc : Thread nD τ).loc r) = V6 m (outs m) c r := fun r hr =>
        h (Proc.devRef .tc r) (Finset.mem_filter.mpr ⟨StableHlo.devRef_mem_tcRefs r, hr⟩)
      exact ⟨⟨(hr main_arg0 (by decide)).trans (V6_main_arg0 m (outs m) c), (hr main_arg1 (by decide)).trans (V6_main_arg1 m (outs m) c), (hr main_arg2 (by decide)).trans (V6_main_arg2 m (outs m) c), (hr main_arg3 (by decide)).trans (V6_main_arg3 m (outs m) c), (hr main_arg4 (by decide)).trans (V6_main_arg4 m (outs m) c), (hr main_arg5 (by decide)).trans (V6_main_arg5 m (outs m) c), (hr main_arg6 (by decide)).trans (V6_main_arg6 m (outs m) c), (hr main_arg7 (by decide)).trans (V6_main_arg7 m (outs m) c), (hr main_arg8 (by decide)).trans (V6_main_arg8 m (outs m) c), (hr main_arg9 (by decide)).trans (V6_main_arg9 m (outs m) c)⟩,
        (hr main_v44 (by decide)).trans ((congrFun (V6_eq m c) _).trans (Function.update_self _ _ _))⟩
    · iexact HSI

end Cert.KernelIdeal.Knn

end
-- ==== Proof.Same.lean ====
/- The kernel and its idealization are the same text: their bodies, their table of bodies and their main programs are
   equal, so what is proved of one at the floats as words is proved of the other. -/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem

set_option maxHeartbeats 8000000

/-- The first body is the same. -/
theorem body0_eq : @Cert.Kernel.cc0__lambda_ Bits _ Cert.Kernel.Gen.facts = @Cert.KernelIdeal.cc0__lambda_ Bits _ Cert.KernelIdeal.Gen.facts := rfl

/-- The second body is the same. -/
theorem body1_eq : @Cert.Kernel.cc1__stats2_kernel Bits _ Cert.Kernel.Gen.facts = @Cert.KernelIdeal.cc1__stats2_kernel Bits _ Cert.KernelIdeal.Gen.facts := rfl

/-- The third body is the same. -/
theorem body2_eq : @Cert.Kernel.cc2__final_kernel Bits _ Cert.Kernel.Gen.facts = @Cert.KernelIdeal.cc2__final_kernel Bits _ Cert.KernelIdeal.Gen.facts := rfl

/-- The tables of bodies are the same. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => exact (congrFun (congrFun (congrFun (congrFun (congrFun (congrFun (congrFun (congrFun (congrFun (congrFun (congrFun (congrFun (congrFun body0_eq _) _) _) _) _) _) _) _) _) _) _) _) _)
  | 1, (t, s) => rfl
  | 2, (t, s) => rfl
  | ⟨n + 3, h⟩, _ => exact absurd h (Nat.not_lt.2 (Nat.le_add_left _ _))

/-- So are the programs' tables of calls, -/
theorem defs_eq : @Cert.Kernel.defs Bits _ Cert.Kernel.Gen.facts = @Cert.KernelIdeal.defs Bits _ Cert.KernelIdeal.Gen.facts :=
  congrArg (Pipeline.defs (@Cert.KernelIdeal.pcfgs Bits Cert.KernelIdeal.Gen.facts)) bodies_eq

/-- and the main programs. -/
theorem main_eq : @Cert.Kernel.main Bits _ Cert.Kernel.Gen.facts = @Cert.KernelIdeal.main Bits _ Cert.KernelIdeal.Gen.facts := rfl

/-- A run under one table of calls and main program is a run under equal ones. -/
theorem run_of_eq {nD : Nat} {τ : Topo} {sig : RefSig} {V : EltTy → Type} {Λ : Labels} {D D' : Defs nD τ sig V Λ} (h : D = D')
    {M M' : Dev nD → Prog (TpuEff nD τ sig V Λ .tc) PUnit} (h' : M = M') (s) (post) (H : θ_run D (onTc (τ := τ) M) s post) :
    θ_run D' (onTc (τ := τ) M') s post := by
  subst h; subst h'; exact H

end Cert.Same

end
-- ==== Proof.Order.lean ====
/- Orders of finitely many extended reals, ties in the order of their places: the sorting permutation, what it leaves
   when its first places are taken out, and the number of those before a given one. -/
module

public import Idealize.ShloMosaic.Lib.SortFacts
public import Mathlib.Data.EReal.Basic
public import Mathlib.Data.Fintype.Card
public import Mathlib.Order.Interval.Finset.Fin

@[expose] public section

noncomputable section

namespace Cert.Order

open Idealize.ShloMosaic

variable {n : ℕ}

/-- `a` is before `b`: the lesser, or as great and of lesser place. -/
def Before (d : Fin n → EReal) (a b : Fin n) : Prop := d a < d b ∨ (d a = d b ∧ a < b)

/-- The sorting permutation: who stands at place `k`. -/
def at_ (d : Fin n → EReal) : Fin n → Fin n := sortedFrom fun a b => decide (d a < d b)

/-- Inserting under two relations that agree where they are asked. -/
theorem insert_agree {ι : Type} (R R' : ι → ι → Bool) (a : ι) (l : List ι) (h : ∀ b ∈ l, R b a = R' b a) :
    insertBefore R a l = insertBefore R' a l := insertBefore_congr R R' a l h

/-- Sorting a list is sorting it with ties in the list's order. -/
theorem sort_ties {ι : Type} (S R R' : ι → ι → Bool) (l : List ι) (hl : l.Pairwise fun a b => S a b = true)
    (h : ∀ a b, S a b = true → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

open Classical in
/-- The sorting permutation is the one of the order with ties by place. -/
theorem at_eq (d : Fin n → EReal) : at_ d = sortedFrom fun a b => decide (Before d a b) := by
  funext k
  unfold at_ sortedFrom
  have : sortPositions n (fun a b => decide (d a < d b)) = sortPositions n fun a b => decide (Before d a b) := by
    unfold sortPositions
    refine sort_ties (fun a b => decide (a < b)) _ _ _ ?_ ?_
    · exact (List.pairwise_lt_finRange n).imp fun h => by simpa using h
    · intro a b hab
      have hab : a < b := by simpa using hab
      rw [Bool.eq_iff_iff, decide_eq_true_eq, decide_eq_true_eq]
      constructor
      · exact Or.inl
      · rintro (h | ⟨_, h⟩)
        · exact h
        · exact absurd h (not_lt.mpr hab.le)
  rw [List.get_of_eq this]
  rfl

theorem at_injective (d : Fin n → EReal) : Function.Injective (at_ d) := sortedFrom_injective _
theorem at_surjective (d : Fin n → EReal) : Function.Surjective (at_ d) := sortedFrom_surjective _

theorem before_asymm (d : Fin n → EReal) (a b : Fin n) (h : Before d a b) : ¬ Before d b a := by
  rintro (h' | ⟨h', h''⟩) <;> rcases h with h | ⟨h1, h2⟩
  · exact lt_asymm h h'
  · exact absurd h' (by rw [h1]; exact lt_irrefl _)
  · exact absurd h (by rw [h']; exact lt_irrefl _)
  · exact lt_asymm h2 h''

theorem before_total (d : Fin n → EReal) (a b : Fin n) (h : a ≠ b) : Before d a b ∨ Before d b a := by
  unfold Before
  rcases lt_trichotomy (d a) (d b) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem before_trans (d : Fin n → EReal) (a b c : Fin n) (h : Before d a b) (h' : Before d b c) : Before d a c := by
  rcases h with h | ⟨h1, h2⟩ <;> rcases h' with h' | ⟨h3, h4⟩
  · exact .inl (h.trans h')
  · exact .inl (h3 ▸ h)
  · exact .inl (h1 ▸ h')
  · exact .inr ⟨h1.trans h3, h2.trans h4⟩

/-- Places are in order. -/
theorem at_before (d : Fin n → EReal) (i j : Fin n) (hij : i < j) : Before d (at_ d i) (at_ d j) := by
  classical
  have h := sortedFrom_noInversion (fun a b => decide (Before d a b)) (fun a b => decide (Before d a b))
    (fun a b h => by simpa using before_asymm d a b (by simpa using h)) (fun _ _ h => h)
    (fun a b c h h' => by
      simp only [decide_eq_false_iff_not] at h h' ⊢
      intro hc
      by_cases hab : a = b
      · subst hab; exact h' hc
      · rcases before_total d a b hab with h1 | h1
        · exact h h1
        · exact h' (before_trans d b a c h1 hc)) i j hij
  rw [at_eq d]
  have hne : sortedFrom (fun a b => decide (Before d a b)) i ≠ sortedFrom (fun a b => decide (Before d a b)) j :=
    fun he => (ne_of_lt hij) (sortedFrom_injective _ he)
  rcases before_total d _ _ hne with h1 | h1
  · exact h1
  · exact absurd h1 (by simpa using h)

theorem at_before_iff (d : Fin n → EReal) (i j : Fin n) : Before d (at_ d i) (at_ d j) ↔ i < j := by
  refine ⟨fun h => ?_, at_before d i j⟩
  rcases lt_trichotomy i j with h1 | h1 | h1
  · exact h1
  · subst h1; exact absurd h (before_asymm d _ _ h)
  · exact absurd (at_before d j i h1) (before_asymm d _ _ h)

/-- As many stand before the one at place `t` as `t` says. -/
theorem card_before (d : Fin n → EReal) (t : Fin n) [DecidablePred fun i => Before d i (at_ d t)] : (Finset.univ.filter fun i => Before d i (at_ d t)).card = t.val := by
  have : (Finset.univ.filter fun i => Before d i (at_ d t)) = (Finset.Iio t).image (at_ d) := by
    ext i
    simp only [Finset.mem_filter, Finset.mem_univ, true_and, Finset.mem_image, Finset.mem_Iio]
    constructor
    · intro h
      obtain ⟨s, rfl⟩ := at_surjective d i
      exact ⟨s, (at_before_iff d s t).mp h, rfl⟩
    · rintro ⟨s, hs, rfl⟩
      exact at_before d s t hs
  rw [this, Finset.card_image_of_injective _ (at_injective d), Fin.card_Iio]

open Classical in
/-- What is left of `d` when its first `t` places are taken out. -/
def left (d : Fin n → EReal) (t : ℕ) (k : Fin n) : EReal := if ∃ s : Fin n, s.val < t ∧ at_ d s = k then ⊤ else d k

theorem left_zero (d : Fin n → EReal) : left d 0 = d := by
  funext k; unfold left; rw [if_neg]; rintro ⟨s, h, _⟩; exact absurd h (Nat.not_lt_zero _)

theorem left_succ (d : Fin n → EReal) (t : Fin n) (k : Fin n) :
    left d (t.val + 1) k = if k = at_ d t then ⊤ else left d t.val k := by
  unfold left
  by_cases hk : k = at_ d t
  · rw [if_pos hk, if_pos ⟨t, Nat.lt_succ_self _, hk.symm⟩]
  · rw [if_neg hk]
    congr 1
    refine propext ⟨?_, ?_⟩
    · rintro ⟨s, hs, h⟩
      refine ⟨s, lt_of_le_of_ne (Nat.lt_succ_iff.mp hs) fun he => hk ?_, h⟩
      rw [← h, Fin.ext he]
    · rintro ⟨s, hs, h⟩; exact ⟨s, Nat.lt_succ_of_lt hs, h⟩

theorem left_at (d : Fin n → EReal) (t : Fin n) : left d t.val (at_ d t) = d (at_ d t) := by
  unfold left
  rw [if_neg]
  rintro ⟨s, hs, h⟩
  exact absurd (congrArg Fin.val (at_injective d h)) (Nat.ne_of_lt hs)

/-- The one at place `t` is the least of what is left, … -/
theorem le_left (d : Fin n → EReal) (t k : Fin n) : d (at_ d t) ≤ left d t.val k := by
  unfold left
  split
  · exact le_top
  · next h =>
    obtain ⟨s, rfl⟩ := at_surjective d k
    have hs : t ≤ s := by
      by_contra hc
      exact h ⟨s, not_le.mp hc, rfl⟩
    rcases hs.eq_or_lt with rfl | hlt
    · exact le_rfl
    · rcases at_before d t s hlt with h1 | ⟨h1, _⟩
      · exact h1.le
      · exact h1.le

/-- … and the first of those as great. -/
theorem first_left (d : Fin n → EReal) (hd : ∀ k, d k ≠ ⊤) (t k : Fin n) (h : left d t.val k = d (at_ d t)) : at_ d t ≤ k := by
  unfold left at h
  split at h
  · exact absurd h.symm (hd _)
  · next h' =>
    obtain ⟨s, rfl⟩ := at_surjective d k
    have hs : t ≤ s := by
      by_contra hc
      exact h' ⟨s, not_le.mp hc, rfl⟩
    rcases hs.eq_or_lt with rfl | hlt
    · exact le_rfl
    · rcases at_before d t s hlt with h1 | ⟨_, h2⟩
      · exact absurd h (ne_of_gt h1)
      · exact h2.le

end Cert.Order

end
-- ==== Proof.Umb.lean ====
/- The umbrella's features as functions of numbers: eight offsets put in the order of their angles, each with the next
   one after it, and the ten features of the triangle the two make with the query. -/
module

public import proofs.«01_k».proof.Proof.Order
public import Idealize.ShloMosaic.PureOps.Ideal.Laws

@[expose] public section

noncomputable section

namespace Cert.Umb

open Idealize.ShloMosaic

/-- The number of a word. -/
abbrev w (b : BitVec 32) : EReal := Ideal.ofBits .f32 b

/-- A number near zero moved off it. -/
def off0 (v : EReal) : EReal := if FloatOps.absf (F := Ideal) (φ := .f32) v < w 0x2EDBE6FF#32 then v + w 0x2EDBE6FF#32 else v

/-- The angle of a point of the plane, as a share of the full turn from the negative axis. -/
def turn (x y : EReal) : EReal := Ideal.div (Ideal.atan2 (off0 y) (off0 x)) (w 0x40C90FDB#32) + w 0x3F000000#32

/-- The cross product. -/
def cross (s r : Fin 3 → EReal) : Fin 3 → EReal := ![s 1 * r 2 - s 2 * r 1, s 2 * r 0 - s 0 * r 2, s 0 * r 1 - s 1 * r 0]

/-- The length of a vector. -/
def len (v : Fin 3 → EReal) : EReal := Ideal.sqrt (v 0 * v 0 + v 1 * v 1 + v 2 * v 2)

/-- A length to divide by: one where it is next to nothing. -/
def safe (n : EReal) : EReal := if n < w 0x358637BD#32 then 1 else n

/-- The unit normal of a triangle. -/
def normal (s r : Fin 3 → EReal) (l : Fin 3) : EReal := Ideal.div (cross s r l) (safe (len (cross s r)))

/-- The sign that makes a number positive. -/
def sign (u : EReal) : EReal := if 0 < u then 1 else w 0xBF800000#32

/-- A triangle's centre, the query being the origin. -/
def centre (s r : Fin 3 → EReal) (l : Fin 3) : EReal := Ideal.div (s l + r l) (w 0x40400000#32)

/-- The centre's distance from the query. -/
def rho (c : Fin 3 → EReal) : EReal := Ideal.sqrt (c 0 * c 0 + c 1 * c 1 + c 2 * c 2 + w 0x2EDBE6FF#32)

/-- The cosine of the centre's inclination, kept within [-1, 1]. -/
def cosInc (c : Fin 3 → EReal) : EReal := min 1 (max (w 0xBF800000#32) (Ideal.div (c 2) (max (rho c) (w 0x2EDBE6FF#32))))

/-- The inclination, by the two-argument arctangent. -/
def theta (c : Fin 3 → EReal) : EReal := Ideal.div (Ideal.atan2 (Ideal.sqrt (1 - cosInc c * cosInc c)) (cosInc c)) (w 0x40490FDB#32)

/-- A coordinate kept within a million. -/
def clipM (v : EReal) : EReal := min (w 0x49742400#32) (max (w 0xC9742400#32) v)

/-- A component of the normal over its length, a fixed one where the length is next to nothing. -/
def unitOr (b : EReal) (n u : EReal) : EReal := if n < w 0x358637BD#32 then b else Ideal.div u (max n (w 0x358637BD#32))

/-- The plane's offset: the normal times the centre, over a constant. -/
def plane (u c : Fin 3 → EReal) : EReal :=
  Ideal.div (unitOr 1 (len u) (u 0) * clipM (c 0) + unitOr 0 (len u) (u 1) * clipM (c 1) + unitOr 0 (len u) (u 2) * clipM (c 2)) (w 0x3FDDB3E0#32)

/-- The ten features, from a triangle's normal and centre. -/
def ten (u c : Fin 3 → EReal) : Fin 10 → EReal :=
  ![rho c, theta c, turn (c 0) (c 1), u 0, u 1, u 2, plane u c, c 0, c 1, c 2]

/-- The offsets' angles. -/
def angle (g : Fin 8 → Fin 3 → EReal) (i : Fin 8) : EReal := turn (g i 0) (g i 1)

/-- The offset of place `t` in the order of the angles. -/
def corner (g : Fin 8 → Fin 3 → EReal) (t : Fin 8) : Fin 3 → EReal := g (Order.at_ (angle g) t)

/-- The normal of triangle `t`, all turned with the first. -/
def up (g : Fin 8 → Fin 3 → EReal) (t : Fin 8) (l : Fin 3) : EReal :=
  normal (corner g t) (corner g (t + 1)) l * sign (normal (corner g 0) (corner g 1) 0)

/-- Feature `j` of triangle `t` of eight offsets. -/
def feature (g : Fin 8 → Fin 3 → EReal) (t : Fin 8) (j : Fin 10) : EReal :=
  ten (up g t) (centre (corner g t) (corner g (t + 1))) j

end Cert.Umb

end
-- ==== Proof.Real.lean ====
/- Numbers that are neither infinity. -/
module

public import proofs.«01_k».proof.Proof.Umb

@[expose] public section

noncomputable section

namespace Cert.Umb

open Idealize.ShloMosaic

/-- A number that is neither infinity. -/
def Re (x : EReal) : Prop := ∃ r : ℝ, x = r
/-- A positive one. -/
def Pos (x : EReal) : Prop := ∃ r : ℝ, 0 < r ∧ x = r

theorem Pos.re {x : EReal} (h : Pos x) : Re x := let ⟨r, _, h⟩ := h; ⟨r, h⟩

theorem pos_eps : Pos (w 0x3727C5AC#32) := by
  refine ⟨_, ?_, by simp [Ideal.ofBits, Ideal.ieee]; exact (EReal.coe_mul _ _).symm⟩
  positivity

end Cert.Umb

end
-- ==== Proof.NetReal.lean ====
/- Means and variances of a channel of real numbers, and what the divisions and the root are on reals. -/
module

public import proofs.«01_k».proof.Proof.Real

@[expose] public section

noncomputable section

namespace Cert.NetReal

open Idealize.ShloMosaic
open scoped BigOperators

/-- A channel's numbers: per batch, neighbour and point. -/
abbrev Chan := Fin 4 → Fin 8 → Fin 4096 → ℝ

/-- Their sum. -/
def S (x : Chan) : ℝ := ∑ b, ∑ t, ∑ q, x b t q

/-- Their mean. -/
def mean (x : Chan) : ℝ := S x / 131072

/-- Their variance. -/
def var (x : Chan) : ℝ := S (fun b t q => (x b t q - mean x) * (x b t q - mean x)) / 131072

/-- What is added to a variance. -/
def eps : ℝ := (Umb.w 0x3727C5AC#32).toReal

theorem S_add (x y : Chan) : S (fun b t q => x b t q + y b t q) = S x + S y := by
  simp only [S, Finset.sum_add_distrib]
theorem S_mul (a : ℝ) (x : Chan) : S (fun b t q => a * x b t q) = a * S x := by
  simp only [S, Finset.mul_sum]
theorem S_const (a : ℝ) : S (fun _ _ _ => a) = 131072 * a := by
  simp only [S, Finset.sum_const, Finset.card_univ, Fintype.card_fin, nsmul_eq_mul]
  push_cast; ring

/-- The variance is the mean of the squares less the square of the mean. -/
theorem var_eq (x : Chan) : var x = S (fun b t q => x b t q * x b t q) / 131072 - mean x * mean x := by
  have h : S (fun b t q => (x b t q - mean x) * (x b t q - mean x)) = S (fun b t q => x b t q * x b t q) + ((-2 * mean x) * S x + 131072 * (mean x * mean x)) := by
    rw [← S_mul, ← S_const, ← S_add, ← S_add]
    congr 1; funext b t q; ring
  have hm : S x = 131072 * mean x := by unfold mean; ring
  unfold var
  rw [h, hm]; ring

theorem S_nonneg (x : Chan) (h : ∀ b t q, 0 ≤ x b t q) : 0 ≤ S x :=
  Finset.sum_nonneg fun b _ => Finset.sum_nonneg fun t _ => Finset.sum_nonneg fun q _ => h b t q

theorem var_nonneg (x : Chan) : 0 ≤ var x :=
  div_nonneg (S_nonneg _ fun _ _ _ => mul_self_nonneg _) (by norm_num)

/-- A sum of reals among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem word_m : Umb.w 0x48000000#32 = ((131072 : ℝ) : EReal) := by
  simp [Ideal.ofBits, Ideal.ieee]
  rw [← EReal.coe_mul]; norm_num

theorem word_eps : Umb.w 0x3727C5AC#32 = (eps : EReal) ∧ 0 < eps := by
  obtain ⟨r, hr, h⟩ := Umb.pos_eps
  have : eps = r := by unfold eps; rw [h]; rfl
  rw [this]; exact ⟨h, hr⟩

theorem coe_div (a b : ℝ) (h : b ≠ 0) : Ideal.div (a : EReal) (b : EReal) = ((a / b : ℝ) : EReal) := by
  rw [Ideal.div_coe h, ← EReal.coe_mul]; congr 1; ring

/-- The root of a variance and a little is a positive real. -/
theorem root (v : ℝ) (h : 0 ≤ v) : Ideal.sqrt ((v : EReal) + Umb.w 0x3727C5AC#32) = ((√(v + eps) : ℝ) : EReal) ∧ √(v + eps) ≠ 0 := by
  obtain ⟨he, hp⟩ := word_eps
  rw [he, ← EReal.coe_add, Ideal.sqrt_coe, if_neg (not_lt.2 (by linarith))]
  exact ⟨rfl, (Real.sqrt_pos.2 (by linarith)).ne'⟩

end Cert.NetReal

end
-- ==== Proof.Net.lean ====
/- The three layers over the extended reals: what a channel's numbers become, and the two ways to normalise them, which
   agree for a finite scale whatever the channel's numbers and the shift are. -/
module

public import proofs.«01_k».proof.Proof.NetReal

@[expose] public section

noncomputable section

namespace Cert.Net

open Idealize.ShloMosaic
open scoped BigOperators

/-- A channel's numbers: per batch, neighbour and point. -/
abbrev Chan := Fin 4 → Fin 8 → Fin 4096 → EReal

/-- Their sum. -/
def S (x : Chan) : EReal := ∑ b, ∑ t, ∑ q, x b t q

/-- How many they are, -/
def count : EReal := Umb.w 0x48000000#32
/-- and what is added to a variance. -/
def eps : EReal := Umb.w 0x3727C5AC#32

/-- Their mean. -/
def mean (x : Chan) : EReal := Ideal.div (S x) count

/-- Their variance. -/
def var (x : Chan) : EReal := Ideal.div (S (fun b t q => (x b t q - mean x) * (x b t q - mean x))) count

/-- A channel normalised, scaled, shifted and cut off below. -/
def norm (g be : EReal) (x : Chan) : Chan := fun b t q => max (Ideal.div (x b t q - mean x) (Ideal.sqrt (var x + eps)) * g + be) 0

/-- The factor of the folded form, out of a channel's sums, -/
def factor (g s0 s1 : EReal) : EReal := Ideal.div g (Ideal.sqrt (Ideal.div s1 count - Ideal.div s0 count * Ideal.div s0 count + eps))
/-- of a channel, -/
def scale (g : EReal) (x : Chan) : EReal := factor g (S x) (S (fun b t q => x b t q * x b t q))
/-- and its shift. -/
def shift (g be : EReal) (x : Chan) : EReal := be - mean x * scale g x

/-- A layer without its bias. -/
def lin (W : Fin 10 → Fin 10 → EReal) (x : Fin 10 → Chan) (d : Fin 10) : Chan := fun b t q => ∑ c, W d c * x c b t q

/-- The layers' parameters. -/
structure Par where
  W1 : Fin 10 → Fin 10 → EReal
  g1 : Fin 10 → EReal
  be1 : Fin 10 → EReal
  W2 : Fin 10 → Fin 10 → EReal
  cb2 : Fin 10 → EReal
  g2 : Fin 10 → EReal
  be2 : Fin 10 → EReal
  W3 : Fin 10 → Fin 10 → EReal
  cb3 : Fin 10 → EReal

variable (P : Par) (f : Fin 10 → Chan)

/-- The first layer, -/
def l1 : Fin 10 → Chan := lin P.W1 f
/-- normalised; -/
def h1 (c : Fin 10) : Chan := norm (P.g1 c) (P.be1 c) (l1 P f c)
/-- the second, -/
def l2 (d : Fin 10) : Chan := fun b t q => lin P.W2 (h1 P f) d b t q + P.cb2 d
/-- normalised; -/
def h2 (c : Fin 10) : Chan := norm (P.g2 c) (P.be2 c) (l2 P f c)
/-- and the third. -/
def l3 (d : Fin 10) : Chan := fun b t q => lin P.W3 (h2 P f) d b t q + P.cb3 d
/-- The sum over the eight neighbours. -/
def out (b : Fin 4) (d : Fin 10) (q : Fin 4096) : EReal := ∑ t, l3 P f d b t q

/-- The sum of a channel of reals. -/
theorem S_coe (r : NetReal.Chan) : S (fun b t q => (r b t q : EReal)) = (NetReal.S r : EReal) := by
  unfold S NetReal.S
  simp only [NetReal.coe_sum]

theorem mean_coe (r : NetReal.Chan) : mean (fun b t q => (r b t q : EReal)) = (NetReal.mean r : EReal) := by
  unfold mean count
  rw [S_coe, NetReal.word_m]; exact NetReal.coe_div _ _ (by norm_num)

theorem var_coe (r : NetReal.Chan) : var (fun b t q => (r b t q : EReal)) = (NetReal.var r : EReal) := by
  unfold var count
  rw [mean_coe, NetReal.word_m]
  simp only [← EReal.coe_sub, ← EReal.coe_mul]
  rw [S_coe]; exact NetReal.coe_div _ _ (by norm_num)

theorem scale_coe (g : ℝ) (r : NetReal.Chan) :
    scale (g : EReal) (fun b t q => (r b t q : EReal)) = ((g / √(NetReal.var r + NetReal.eps) : ℝ) : EReal) := by
  have hm : (131072 : ℝ) ≠ 0 := by norm_num
  obtain ⟨h, h0⟩ := NetReal.root (NetReal.var r) (NetReal.var_nonneg r)
  unfold scale factor count eps
  simp only [← EReal.coe_mul]
  rw [S_coe, S_coe, NetReal.word_m, NetReal.coe_div _ _ hm, NetReal.coe_div _ _ hm, ← EReal.coe_mul, ← EReal.coe_sub]
  show Ideal.div (g : EReal) (Ideal.sqrt (((NetReal.S (fun b t q => r b t q * r b t q) / 131072 - NetReal.mean r * NetReal.mean r : ℝ) : EReal) + _)) = _
  rw [← NetReal.var_eq, h, NetReal.coe_div _ _ h0]

/-- On a channel of reals the two forms agree. -/
theorem norm_eq_coe (g : ℝ) (be : EReal) (r : NetReal.Chan) (b : Fin 4) (t : Fin 8) (q : Fin 4096) :
    norm (g : EReal) be (fun b t q => (r b t q : EReal)) b t q
      = max ((r b t q : EReal) * scale (g : EReal) (fun b t q => (r b t q : EReal)) + shift (g : EReal) be (fun b t q => (r b t q : EReal))) 0 := by
  obtain ⟨h, h0⟩ := NetReal.root (NetReal.var r) (NetReal.var_nonneg r)
  unfold norm shift
  rw [mean_coe, var_coe, scale_coe]
  unfold eps
  rw [h, ← EReal.coe_sub, NetReal.coe_div _ _ h0, ← EReal.coe_mul, ← EReal.coe_mul, ← EReal.coe_mul]
  congr 1
  induction be with
  | bot => rw [EReal.add_bot, EReal.bot_sub, EReal.add_bot]
  | top => rw [EReal.coe_add_top, EReal.top_sub_coe, EReal.coe_add_top]
  | coe be =>
    rw [← EReal.coe_sub, ← EReal.coe_add, ← EReal.coe_add]
    congr 1; ring

/-- An infinite number. -/
def Inf (x : EReal) : Prop := x = ⊤ ∨ x = ⊥

theorem inf_or_re (x : EReal) : Inf x ∨ Umb.Re x := by
  induction x with
  | bot => exact .inl (.inr rfl)
  | top => exact .inl (.inl rfl)
  | coe r => exact .inr ⟨r, rfl⟩

theorem inf_add {x : EReal} (h : Inf x) (y : EReal) : Inf (x + y) := by
  rcases h with rfl | rfl
  · induction y with
    | bot => exact .inr rfl
    | top => exact .inl rfl
    | coe r => exact .inl rfl
  · exact .inr (EReal.bot_add _)

theorem inf_sum {ι : Type} [Fintype ι] (x : ι → EReal) (i : ι) (h : Inf (x i)) : Inf (∑ i, x i) := by
  classical
  rw [← Finset.add_sum_erase Finset.univ x (Finset.mem_univ i)]
  exact inf_add h _

/-- A sum one of whose terms is infinite is infinite. -/
theorem inf_S (x : Chan) (b : Fin 4) (t : Fin 8) (q : Fin 4096) (h : Inf (x b t q)) : Inf (S x) :=
  inf_sum _ b (inf_sum _ t (inf_sum _ q h))

theorem sq_inf {x : EReal} (h : Inf x) : x * x = ⊤ := by rcases h with rfl | rfl <;> rfl

theorem sq_nonneg (x : EReal) : 0 ≤ x * x := by
  induction x with
  | bot => exact le_top
  | top => exact le_top
  | coe r => rw [← EReal.coe_mul]; exact EReal.coe_nonneg.2 (mul_self_nonneg r)

/-- A sum of squares one of which is infinite. -/
theorem S_sq (x : Chan) (b : Fin 4) (t : Fin 8) (q : Fin 4096) (h : Inf (x b t q)) : S (fun b t q => x b t q * x b t q) = ⊤ := by
  have hi := inf_S (fun b t q => x b t q * x b t q) b t q (.inl (sq_inf h))
  refine hi.resolve_right fun e => ?_
  have h0 : (0 : EReal) ≤ S (fun b t q => x b t q * x b t q) :=
    Finset.sum_nonneg fun b _ => Finset.sum_nonneg fun t _ => Finset.sum_nonneg fun q _ => sq_nonneg _
  rw [e] at h0
  exact absurd h0 (by simp)

theorem div_count_top : Ideal.div ⊤ count = ⊤ := by
  unfold count
  rw [NetReal.word_m, Ideal.div_coe (by norm_num)]
  exact EReal.top_mul_coe_of_pos (by norm_num)
theorem div_count_bot : Ideal.div ⊥ count = ⊥ := by
  unfold count
  rw [NetReal.word_m, Ideal.div_coe (by norm_num)]
  exact EReal.bot_mul_coe_of_pos (by norm_num)
theorem inf_div {x : EReal} (h : Inf x) : Inf (Ideal.div x count) := by
  rcases h with rfl | rfl
  · exact .inl div_count_top
  · exact .inr div_count_bot
theorem inf_sub (x : EReal) {y : EReal} (h : Inf y) : Inf (x - y) := by
  rw [sub_eq_add_neg, add_comm]
  refine inf_add ?_ x
  rcases h with rfl | rfl
  · exact .inr rfl
  · exact .inl rfl
theorem eps_re : Umb.Re eps := Umb.pos_eps.re
theorem div_top (x : EReal) : Ideal.div x ⊤ = 0 := by
  unfold Ideal.div
  rw [if_neg (by simp), EReal.inv_top, mul_zero]
theorem div_bot (x : EReal) : Ideal.div x ⊥ = 0 := by
  unfold Ideal.div
  rw [if_neg (by simp), EReal.inv_bot, mul_zero]

/-- With an infinite number in the channel both forms leave the shift alone. -/
theorem norm_eq_inf (g be : EReal) (x : Chan) (b₀ : Fin 4) (t₀ : Fin 8) (q₀ : Fin 4096) (h : Inf (x b₀ t₀ q₀)) (b : Fin 4) (t : Fin 8) (q : Fin 4096) :
    norm g be x b t q = max (x b t q * scale g x + shift g be x) 0 := by
  have hm : Inf (mean x) := inf_div (inf_S x b₀ t₀ q₀ h)
  have hv : var x = ⊤ := by
    unfold var
    rw [S_sq (fun b t q => x b t q - mean x) b₀ t₀ q₀ (inf_sub _ hm), div_count_top]
  have hr : Ideal.sqrt (var x + eps) = ⊤ := by
    obtain ⟨e, he⟩ := eps_re
    rw [hv, he]; rfl
  have hs : scale g x = 0 := by
    unfold scale factor
    rw [S_sq x b₀ t₀ q₀ h, div_count_top]
    show Ideal.div g (Ideal.sqrt (⊤ - mean x * mean x + eps)) = 0
    rw [sq_inf hm]
    exact (congrArg (fun v => Ideal.div g (Ideal.sqrt v)) (EReal.bot_add eps)).trans (div_bot g)
  unfold norm shift
  rw [hr, hs, div_top, zero_mul, mul_zero, mul_zero, sub_zero]

/-- For a finite scale, normalising is the folded scaling and shifting. -/
theorem norm_eq {g : EReal} (hg : Umb.Re g) (be : EReal) (x : Chan) (b : Fin 4) (t : Fin 8) (q : Fin 4096) :
    norm g be x b t q = max (x b t q * scale g x + shift g be x) 0 := by
  by_cases h : ∃ b t q, Inf (x b t q)
  · obtain ⟨b₀, t₀, q₀, h⟩ := h
    exact norm_eq_inf g be x b₀ t₀ q₀ h b t q
  · have hx : ∀ b t q, Umb.Re (x b t q) := fun b t q => (inf_or_re _).resolve_left fun e => h ⟨b, t, q, e⟩
    choose r hr using hx
    obtain rfl : x = fun b t q => (r b t q : EReal) := funext fun b => funext fun t => funext fun q => hr b t q
    obtain ⟨g, rfl⟩ := hg
    exact norm_eq_coe g be r b t q

end Cert.Net

end
-- ==== Proof.KerSum.lean ====
/- The kernel's layers and sums over the extended reals. -/
module

public import proofs.«01_k».proof.Proof.Mlp
public import proofs.«01_k».proof.Proof.MlpRun3
public import proofs.«01_k».proof.Proof.Net
public import Idealize.ShloMosaic.Lib.Pointwise
public import Idealize.ShloMosaic.Lib.IdealHost

@[expose] public section

set_option maxRecDepth 16384

noncomputable section

namespace Cert.KernelIdeal.Knn

open Idealize.ShloMosaic Idealize.SL.Sem
open Cert.KernelIdeal.Gen
open Cert.Net (Chan)
open scoped BigOperators

theorem narrow_eq {s : Shape} (w : FVec Ideal s .f32) : narrow w = w := by
  funext i
  rfl

theorem term_at (w : FVec Ideal S10x10 .f32) (f : Fin 10 → FVec Ideal S8x256 .f32) (d c : Fin 10) (u : Fin 8) (s : Fin 256) :
    term w f d c (ix2 u s) = w (ix2 d c) * f c (ix2 u s) := by
  refine Eq.trans ?_ (mul_comm (G := EReal) _ _)
  unfold term
  rw [narrow_eq]
  pointwise

theorem layer_at (w : FVec Ideal S10x10 .f32) (f : Fin 10 → FVec Ideal S8x256 .f32) (d : Fin 10) (u : Fin 8) (s : Fin 256) :
    layer w f d (ix2 u s) = ∑ c, w (ix2 d c) * f c (ix2 u s) := by
  rw [Fin.sum_univ_castSucc, Fin.sum_univ_castSucc, Fin.sum_univ_eight]
  have h := fun c => term_at w f d c u s
  show term w f d 0 (ix2 u s) + term w f d 1 (ix2 u s) + term w f d 2 (ix2 u s) + term w f d 3 (ix2 u s) + term w f d 4 (ix2 u s) + term w f d 5 (ix2 u s)
    + term w f d 6 (ix2 u s) + term w f d 7 (ix2 u s) + term w f d 8 (ix2 u s) + term w f d 9 (ix2 u s) = _
  simp only [h]
  rfl

/-- A block's entries. -/
def entry : Fin 8 × Fin 256 ≃ S1x8x256.Idx where
  toFun p := ix3 0 p.1 p.2
  invFun i := (i 1, i 2)
  left_inv _ := rfl
  right_inv i := by
    funext a
    match a with
    | ⟨0, _⟩ => exact Subsingleton.elim (α := Fin 1) _ _
    | ⟨1, _⟩ => rfl
    | ⟨2, _⟩ => rfl

theorem total_at (v : FVec Ideal S8x256 .f32) : total v one11 = ∑ u, ∑ s, v (ix2 u s) := by
  have hM := Ideal.multiReduction_add_total (shapeCast S1x8x256 v shapeCasts_S8x256_S1x8x256) 0x00000000#32 reduces_S1x8x256_S1 (fun b => by revert b; decide) (.inl rfl) rfl
  have hs : (∑ i : S1x8x256.Idx, shapeCast S1x8x256 v shapeCasts_S8x256_S1x8x256 i) = ∑ u, ∑ s, (v (ix2 u s) : EReal) := by
    rw [← entry.sum_comp, Fintype.sum_prod_type]
    refine Finset.sum_congr rfl fun u _ => Finset.sum_congr rfl fun s _ => ?_
    exact shapeCast_apply v shapeCasts_S8x256_S1x8x256 (ix3 0 u s) (ix2 u s) (by rw [Shape.rowMajor_val_two, Shape.rowMajor_val_three]; simp)
  exact (hM _).trans hs

theorem planesIn_at (x : Vec Ideal S1x10x8x256 .f32) (c : Fin 10) (u : Fin 8) (s : Fin 256) : planesIn x c (ix2 u s) = x (ix4 0 c u s) := by
  refine (shapeCast_apply _ shapeCasts_S1x1x8x256_S8x256 (ix2 u s) (ix4 0 0 u s) (by rw [Shape.rowMajor_val_two, Shape.rowMajor_val_four]; simp)).trans ?_
  pointwise

theorem spread_at (st : Vec Ideal S2x10 .f32) (l : Fin 2) (d : Fin 10) (u : Fin 8) (s : Fin 256) :
    spread (View.ld st (Rect.unit (s := S2x10) ![l.val, d.val] S1x1.size (inb_stat l d))) (ix2 u s) = st (ix2 l d) := by
  pointwise [spread]

theorem bias_at (st : Vec Ideal S1x10 .f32) (d : Fin 10) (u : Fin 8) (s : Fin 256) :
    spread (View.ld st (Rect.unit (s := S1x10) ![0, d.val] S1x1.size (inb_bias d))) (ix2 u s) = st (ix2 0 d) := by
  pointwise [spread]

theorem hidden_at (st : Vec Ideal S2x10 .f32) (r : Fin 10 → FVec Ideal S8x256 .f32) (d : Fin 10) (u : Fin 8) (s : Fin 256) :
    hidden st r d (ix2 u s) = max (r d (ix2 u s) * st (ix2 0 d) + st (ix2 1 d)) 0 := by
  rw [← spread_at st 0 d u s, ← spread_at st 1 d u s]
  show max _ _ = max _ _
  congr 1
  show Ideal.ofBits .f32 0x00000000#32 = 0
  simp [Ideal.ofBits, Ideal.ieee]

theorem affine_at (w : Vec Ideal S10x10 .f32) (b : Vec Ideal S1x10 .f32) (h : Fin 10 → FVec Ideal S8x256 .f32) (d : Fin 10) (u : Fin 8) (s : Fin 256) :
    affine w b h d (ix2 u s) = (∑ c, w (ix2 d c) * h c (ix2 u s)) + b (ix2 0 d) := by
  rw [← bias_at b d u s, ← layer_at]
  unfold affine
  rw [narrow_eq]
  rfl

theorem outBlock_at (f : Fin 10 → FVec Ideal S8x256 .f32) (d : Fin 10) (s : Fin 256) : outBlock f (ix3 0 d s) = ∑ u, f d (ix2 u s) := by
  show colSum (f d) (ix1 s) = _
  pointwise [colSum]

/-- The batch of a grid point. -/
def bt (n : ℕ) : Fin 4 := ⟨n / 16 % 4, Nat.mod_lt _ (by decide)⟩
/-- The point of a tile's column. -/
def qt (n : ℕ) (s : Fin 256) : Fin 4096 := ⟨n % 16 * 256 + s.val, by have := Nat.mod_lt n (show 0 < 16 by decide); have := s.isLt; omega⟩

/-- The sum over the tiles. -/
theorem S_tiles (x : Chan) : Net.S x = ∑ n ∈ Finset.range 64, ∑ u, ∑ s, x (bt n) u (qt n s) := by
  have hq : ∀ b u, ∑ q, x b u q = ∑ j : Fin 16, ∑ s : Fin 256, x b u (qt j.val s) := by
    intro b u
    rw [← Fintype.sum_prod_type', ← (finProdFinEquiv (m := 16) (n := 256)).sum_comp]
    refine Finset.sum_congr rfl fun p _ => congrArg _ (Fin.ext ?_)
    have := p.1.isLt
    show p.2.val + 256 * p.1.val = p.1.val % 16 * 256 + p.2.val
    omega
  rw [Finset.sum_range, ← (finProdFinEquiv (m := 4) (n := 16)).sum_comp, Fintype.sum_prod_type]
  unfold Net.S
  refine Finset.sum_congr rfl fun b _ => ?_
  simp only [hq]
  rw [Finset.sum_comm]
  refine Finset.sum_congr rfl fun j _ => Finset.sum_congr rfl fun u _ => Finset.sum_congr rfl fun s _ => ?_
  have h1 : bt (finProdFinEquiv (b, j)).val = b := Fin.ext (by
    show (j.val + 16 * b.val) / 16 % 4 = b.val
    have := b.isLt; have := j.isLt; omega)
  have h2 : qt (finProdFinEquiv (b, j)).val s = qt j.val s := Fin.ext (by
    show (j.val + 16 * b.val) % 16 * 256 + s.val = j.val % 16 * 256 + s.val
    omega)
  rw [h1, h2]

/-- A tile's sum, of a channel's numbers or of their squares. -/
theorem gain_at (f : Fin 10 → FVec Ideal S8x256 .f32) (d : Fin 10) (l : Fin 2) (n : ℕ) (y : Chan) (h : ∀ u s, f d (ix2 u s) = (y (bt n) u (qt n s) : EReal)) :
    gain f d l one11 = ((∑ u, ∑ s, ![y, fun b u q => y b u q * y b u q] l (bt n) u (qt n s)) : EReal) := by
  match l with
  | 0 =>
    refine (total_at (f d)).trans ?_
    simp only [h]; rfl
  | 1 =>
    refine (total_at (mulf (f d) (f d))).trans ?_
    refine Finset.sum_congr rfl fun u _ => Finset.sum_congr rfl fun s _ => ?_
    exact congrArg₂ (fun a b : EReal => a * b) (h u s) (h u s)

/-- The place of a channel's sums. -/
def row (d : Fin 10) (l : Fin 2) : S16x128.Idx := ix2 ⟨d.val, d.isLt.trans (by decide)⟩ ⟨l.val, l.isLt.trans (by decide)⟩

theorem accBlock_at (f : Fin 10 → FVec Ideal S8x256 .f32) (x : Vec Ideal S16x128 .f32) (d : Fin 10) (l : Fin 2) :
    accBlock f x (row d l) = x (row d l) + gain f d l one11 := by
  unfold accBlock
  rw [dif_pos (show ((row d l) 0).val < 10 from d.isLt), dif_pos (show ((row d l) 1).val < 2 from l.isLt)]
  rfl

/-- Sums gathered tile after tile are the sums over all. -/
theorem sums_all (A : ℕ → Vec Ideal S16x128 .f32) (v : ℕ → Fin 10 → FVec Ideal S8x256 .f32) (z : Vec Ideal S16x128 .f32) (hz : ∀ d l, z (row d l) = 0)
    (h0 : A 0 = accBlock (v 0) z) (hs : ∀ n, A (n + 1) = accBlock (v (n + 1)) (A n)) (y : Fin 10 → Chan)
    (hv : ∀ n d u s, n < 64 → v n d (ix2 u s) = (y d (bt n) u (qt n s) : EReal)) (d : Fin 10) (l : Fin 2) :
    A 63 (row d l) = (Net.S (![y d, fun b u q => y d b u q * y d b u q] l) : EReal) := by
  have key : ∀ n, n < 64 → A n (row d l) = ((∑ k ∈ Finset.range (n + 1), ∑ u, ∑ s, ![y d, fun b u q => y d b u q * y d b u q] l (bt k) u (qt k s)) : EReal) := by
    intro n
    induction n with
    | zero =>
      intro _
      rw [h0, accBlock_at, hz, gain_at _ d l 0 (y d) (fun u s => hv 0 d u s (by decide)), zero_add]
      simp
    | succ n ih =>
      intro hn
      rw [hs, accBlock_at, ih (by omega), gain_at _ d l (n + 1) (y d) (fun u s => hv (n + 1) d u s hn), Finset.sum_range_succ _ (n + 1)]
  rw [key 63 (by decide), S_tiles]

end Cert.KernelIdeal.Knn

end
-- ==== Proof.KerHost.lean ====
/- What the host computes between the calls: the scales and shifts out of the sums. -/
module

public import proofs.«01_k».proof.Proof.KerSum
public import proofs.«01_k».proof.Proof.Net
public import proofs.«01_k».proof.Proof.Gen.KernelIdeal.Regions

@[expose] public section

set_option maxRecDepth 16384

noncomputable section

namespace Cert.KernelIdeal.Knn

open Idealize.ShloMosaic Idealize.ShloMosaic.TcCoe Idealize.SL.Sem Idealize.ShloMosaic.StableHlo
open Cert.KernelIdeal.Gen
open Cert.Net (factor)

variable (W : Valuation τ sig (Elt Ideal)) (d : Fin 10)

theorem host0_at (b : Fin 4) (l : Fin 3) (k : Fin 4096) : after hostOps0 W main_v0 (ix3 b l k) = W main_arg0 (ix3 b k l) := by
  simp only [hostOps0]
  after_results_simp
  pointwise

theorem host1_scale : after hostOps1 W main_v20 (ix2 0 d) = factor (W main_arg2 (ix1 d)) (W main_v1_1 (row d 0)) (W main_v1_1 (row d 1)) := by
  simp only [hostOps1]
  after_results_simp
  pointwise
  rfl

theorem host1_shift : after hostOps1 W main_v20 (ix2 1 d) = (show EReal from W main_arg3 (ix1 d)) - Ideal.div (W main_v1_1 (row d 0)) Net.count * factor (W main_arg2 (ix1 d)) (W main_v1_1 (row d 0)) (W main_v1_1 (row d 1)) := by
  simp only [hostOps1]
  after_results_simp
  pointwise
  rfl

theorem host1_bias : after hostOps1 W main_v21 (ix2 0 d) = W main_arg5 (ix1 d) := by
  simp only [hostOps1]
  after_results_simp
  pointwise

theorem host2_scale : after hostOps2 W main_v41 (ix2 0 d) = factor (W main_arg6 (ix1 d)) (W main_v22 (row d 0)) (W main_v22 (row d 1)) := by
  simp only [hostOps2]
  after_results_simp
  pointwise
  rfl

theorem host2_shift : after hostOps2 W main_v41 (ix2 1 d) = (show EReal from W main_arg7 (ix1 d)) - Ideal.div (W main_v22 (row d 0)) Net.count * factor (W main_arg6 (ix1 d)) (W main_v22 (row d 0)) (W main_v22 (row d 1)) := by
  simp only [hostOps2]
  after_results_simp
  pointwise
  rfl

theorem host2_bias2 : after hostOps2 W main_v42 (ix2 0 d) = W main_arg5 (ix1 d) := by
  simp only [hostOps2]
  after_results_simp
  pointwise

theorem host2_bias3 : after hostOps2 W main_v43 (ix2 0 d) = W main_arg9 (ix1 d) := by
  simp only [hostOps2]
  after_results_simp
  pointwise

end Cert.KernelIdeal.Knn

end
-- ==== Proof.KerWin.lean ====
/- What the calls' windows read of their arrays. -/
module

public import proofs.«01_k».proof.Proof.Call0
public import proofs.«01_k».proof.Proof.Call1
public import proofs.«01_k».proof.Proof.Call2
public import proofs.«01_k».proof.Proof.KerSum
public import Idealize.ShloMosaic.Lib.Pipeline.ValueKit

@[expose] public section

set_option maxRecDepth 16384

noncomputable section

namespace Cert.KernelIdeal.Knn

open Idealize.ShloMosaic Idealize.ShloMosaic.TcCoe Idealize.SL.Sem
open Idealize.ShloMosaic.Pipeline (Dat)
open Cert.KernelIdeal.Gen

/-- Where the first call's windows stand at each point. -/
theorem place0 : ∀ t : Fin cfg0.N, win0_0.index t = ![t.val / 16 % 4, 0, 0] ∧ win0_1.index t = ![t.val / 16 % 4, 0, 0] ∧ win0_2.index t = ![t.val / 16 % 4, 0, t.val % 16]
    ∧ win0_3.index t = ![0, 0] ∧ win0_4.index t = ![t.val / 16 % 4, 0, 0, t.val % 16] ∧ win0_5.index t = ![0, 0] :=
  (by decide +kernel : ∀ t : Fin grid0.N, _)

/-- Where the second call's windows stand. -/
theorem place1 : ∀ t : Fin cfg1.N, win1_0.index t = ![t.val / 16 % 4, 0, 0, t.val % 16] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

/-- Where the third call's windows stand. -/
theorem place2 : ∀ t : Fin cfg2.N, win2_0.index t = ![t.val / 16 % 4, 0, 0, t.val % 16] ∧ win2_1.index t = ![0, 0] ∧ win2_2.index t = ![0, 0]
    ∧ win2_3.index t = ![0, 0] ∧ win2_4.index t = ![0, 0] ∧ win2_5.index t = ![0, 0] ∧ win2_6.index t = ![0, 0] ∧ win2_7.index t = ![0, 0]
    ∧ win2_8.index t = ![t.val / 16 % 4, 0, t.val % 16] :=
  (by decide +kernel : ∀ t : Fin grid2.N, _)

variable (V : Dev nD → Valuation τ sig (Elt Ideal)) (c : Dev nD)

theorem blk0_0_at (t : Fin cfg0.N) (k : Fin 4096) (l : Fin 3) : blk0 V c 0 t (ix3 0 k l) = V c main_arg0 (ix3 (bt t.val) k l) := by
  unfold blk0
  blk_ext [place0 t, bt]
theorem blk0_1_at (t : Fin cfg0.N) (k : Fin 4096) (l : Fin 3) : blk0 V c 1 t (ix3 0 l k) = V c main_v0 (ix3 (bt t.val) l k) := by
  unfold blk0
  blk_ext [place0 t, bt]
theorem blk0_2_at (t : Fin cfg0.N) (s : Fin 256) (l : Fin 3) : blk0 V c 2 t (ix3 0 l s) = V c main_v0 (ix3 (bt t.val) l (qt t.val s)) := by
  unfold blk0
  blk_ext [place0 t, bt, qt]
theorem blk0_3_at (t : Fin cfg0.N) (d e : Fin 10) : blk0 V c 3 t (ix2 d e) = V c main_arg1 (ix2 d e) := by
  unfold blk0
  blk_ext [place0 t]

theorem blk1_0_at (t : Fin cfg1.N) (d : Fin 10) (u : Fin 8) (s : Fin 256) : blk1 V c 0 t (ix4 0 d u s) = V c main_v1_0 (ix4 (bt t.val) d u (qt t.val s)) := by
  unfold blk1
  blk_ext [place1 t, bt, qt]
theorem blk1_1_at (t : Fin cfg1.N) (d e : Fin 10) : blk1 V c 1 t (ix2 d e) = V c main_arg1 (ix2 d e) := by
  unfold blk1
  blk_ext [place1 t]
theorem blk1_2_at (t : Fin cfg1.N) (l : Fin 2) (e : Fin 10) : blk1 V c 2 t (ix2 l e) = V c main_v20 (ix2 l e) := by
  unfold blk1
  blk_ext [place1 t]
theorem blk1_3_at (t : Fin cfg1.N) (d e : Fin 10) : blk1 V c 3 t (ix2 d e) = V c main_arg4 (ix2 d e) := by
  unfold blk1
  blk_ext [place1 t]
theorem blk1_4_at (t : Fin cfg1.N) (e : Fin 10) : blk1 V c 4 t (ix2 0 e) = V c main_v21 (ix2 0 e) := by
  unfold blk1
  blk_ext [place1 t]

theorem blk2_0_at (t : Fin cfg2.N) (d : Fin 10) (u : Fin 8) (s : Fin 256) : blk2 V c 0 t (ix4 0 d u s) = V c main_v1_0 (ix4 (bt t.val) d u (qt t.val s)) := by
  unfold blk2
  blk_ext [place2 t, bt, qt]
theorem blk2_1_at (t : Fin cfg2.N) (d e : Fin 10) : blk2 V c 1 t (ix2 d e) = V c main_arg1 (ix2 d e) := by
  unfold blk2
  blk_ext [place2 t]
theorem blk2_2_at (t : Fin cfg2.N) (l : Fin 2) (e : Fin 10) : blk2 V c 2 t (ix2 l e) = V c main_v20 (ix2 l e) := by
  unfold blk2
  blk_ext [place2 t]
theorem blk2_3_at (t : Fin cfg2.N) (d e : Fin 10) : blk2 V c 3 t (ix2 d e) = V c main_arg4 (ix2 d e) := by
  unfold blk2
  blk_ext [place2 t]
theorem blk2_4_at (t : Fin cfg2.N) (e : Fin 10) : blk2 V c 4 t (ix2 0 e) = V c main_v42 (ix2 0 e) := by
  unfold blk2
  blk_ext [place2 t]
theorem blk2_5_at (t : Fin cfg2.N) (l : Fin 2) (e : Fin 10) : blk2 V c 5 t (ix2 l e) = V c main_v41 (ix2 l e) := by
  unfold blk2
  blk_ext [place2 t]
theorem blk2_6_at (t : Fin cfg2.N) (d e : Fin 10) : blk2 V c 6 t (ix2 d e) = V c main_arg8 (ix2 d e) := by
  unfold blk2
  blk_ext [place2 t]
theorem blk2_7_at (t : Fin cfg2.N) (e : Fin 10) : blk2 V c 7 t (ix2 0 e) = V c main_v43 (ix2 0 e) := by
  unfold blk2
  blk_ext [place2 t]

/-- The features the first call leaves. -/
theorem arr0_4 (G : S4x10x8x4096.Idx → EReal) (h : ∀ (t : Fin cfg0.N) d u s, feat0 V c t (ix4 0 d u s) = G (ix4 (bt t.val) d u (qt t.val s))) :
    (dat0 V c).arrAt 4 cfg0.N = G := by
  refine (dat0 V c).arrAt_eq_of_covers 4 G (by decide +kernel) fun t _ y => ?_
  blk_simp
  rw [after0_4]
  obtain ⟨d, u, s, rfl⟩ : ∃ (d : Fin 10) (u : Fin 8) (s : Fin 256), y = ix4 0 d u s := by
    refine ⟨y 1, y 2, y 3, ?_⟩
    funext a
    match a with
    | ⟨0, _⟩ => exact Subsingleton.elim (α := Fin 1) _ _
    | ⟨1, _⟩ => rfl
    | ⟨2, _⟩ => rfl
    | ⟨3, _⟩ => rfl
  refine (h t d u s).trans ?_
  blk_ext [place0 t, bt, qt]

/-- The sums the first call leaves. -/
theorem arr0_5 : (dat0 V c).arrAt 5 cfg0.N = acc0 V c 63 := by
  refine (dat0 V c).arrAt_eq_of_after_last 5 (pt0 63) (by decide +kernel) _ fun y => ?_
  blk_simp
  rw [after0_5]
  rfl

/-- The sums the second call leaves. -/
theorem arr1_5 : (dat1 V c).arrAt 5 cfg1.N = acc1 V c 63 := by
  refine (dat1 V c).arrAt_eq_of_after_last 5 (pt1 63) (by decide +kernel) _ fun y => ?_
  blk_simp
  rw [after1_5]
  rfl

/-- The result the third call leaves. -/
theorem arr2_8 (G : S4x10x4096.Idx → EReal) (h : ∀ (t : Fin cfg2.N) d s, out2 V c t (ix3 0 d s) = G (ix3 (bt t.val) d (qt t.val s))) :
    (dat2 V c).arrAt 8 cfg2.N = G := by
  refine (dat2 V c).arrAt_eq_of_covers 8 G (by decide +kernel) fun t _ y => ?_
  blk_simp
  rw [after2_8]
  obtain ⟨d, s, rfl⟩ : ∃ (d : Fin 10) (s : Fin 256), y = ix3 0 d s := by
    refine ⟨y 1, y 2, ?_⟩
    funext a
    match a with
    | ⟨0, _⟩ => exact Subsingleton.elim (α := Fin 1) _ _
    | ⟨1, _⟩ => rfl
    | ⟨2, _⟩ => rfl
  refine (h t d s).trans ?_
  blk_ext [place2 t, bt, qt]

end Cert.KernelIdeal.Knn

end
-- ==== Proof.Pick.lean ====
/- The rounds of the search read at one query column, over the extended reals: a round picks the nearest key left,
   the first of several as near, whichever way its branches go. -/
module

public import proofs.«01_k».proof.Proof.KnnFeat
public import proofs.«01_k».proof.Proof.Order
public import Idealize.ShloMosaic.Lib.ValueIdx
public import Idealize.ShloMosaic.Lib.Pipeline.ValueKit
public import Idealize.ShloMosaic.Lib.SortNet.Extract
public import Idealize.ShloMosaic.PureOps.Ideal.Laws

@[expose] public section

set_option maxRecDepth 16384

noncomputable section

namespace Cert.KernelIdeal.Knn

open Idealize.ShloMosaic Idealize.SL.Sem
open Cert.KernelIdeal.Gen
open scoped BigOperators

/-- A reduction over the keys inserts the key's number before the column's. -/
theorem lift_key (k : Fin 4096) (q : Fin 256) : reduces_S4096x256_S256.lift (ix1 q) k = ix2 k q := by
  funext a
  match a with
  | ⟨0, _⟩ => rfl
  | ⟨1, _⟩ => rfl

/-- A row of one read as a vector. -/
theorem cast_row {α : Type} (x : S256.Idx → α) (q : Fin 256) : shapeCast S1x256 x shapeCasts_S256_S1x256 (ix2 0 q) = x (ix1 q) := by
  pointwise

/-- A fold of minima, known to be least and met. -/
theorem fold_min_eq {ι α : Type} [LinearOrder α] (s : Finset ι) (b m : α) (f : ι → α) (hb : m ≤ b) (h1 : ∀ k ∈ s, m ≤ f k)
    (k0 : ι) (hk : k0 ∈ s) (h2 : f k0 = m) : s.fold min b f = m :=
  le_antisymm ((Finset.fold_min_le _).mpr (.inr ⟨k0, hk, h2.le⟩)) ((Finset.le_fold_min _).mpr ⟨hb, h1⟩)

/-- The word of plus infinity. -/
theorem word_top : Ideal.ofBits .f32 0x7F800000#32 = ⊤ := by simp [Ideal.ofBits, Ideal.ieee]
/-- The word of minus infinity. -/
theorem word_bot : Ideal.ofBits .f32 0xFF800000#32 = ⊥ := by simp [Ideal.ofBits, Ideal.ieee]

/-- A column's least distance, known to be least and met. -/
theorem colMin_at (D : FVec Ideal S4096x256 .f32) (q : Fin 256) (m : EReal) (h1 : ∀ k : Fin 4096, m ≤ D (ix2 k q))
    (k0 : Fin 4096) (h2 : D (ix2 k0 q) = m) : colMin D (ix2 0 q) = m := by
  unfold colMin
  rw [cast_row]
  refine (congrFun (multiReduction_minimumf_eq_reduceFold D _ _ _ _) _).trans ?_
  rw [reduceFold_eq_fold, Shape.Reduces.fold_filter_drop_single]
  refine fold_min_eq (α := EReal) _ _ m _ ?_ (fun k _ => ?_) k0 (Finset.mem_univ _) ?_
  · exact le_of_le_of_eq le_top word_top.symm
  · exact (h1 k).trans_eq (congrArg D (lift_key k q).symm)
  · exact (congrArg D (lift_key k0 q)).trans h2

/-- A column's hits. -/
theorem hit_at (D : FVec Ideal S4096x256 .f32) (M : FVec Ideal S1x256 .f32) (k : Fin 4096) (q : Fin 256) :
    hit D M (ix2 k q) = if D (ix2 k q) = M (ix2 0 q) then 1#1 else 0#1 := by
  pointwise [hit]
  by_cases h : D (ix2 k q) = M (ix2 0 q)
  · rw [if_pos h, decide_eq_true h]; rfl
  · rw [if_neg h, decide_eq_false h]; rfl

/-- A mask at an index. -/
theorem mask_at (h : IVec S4096x256 1) (i : S4096x256.Idx) : mask (F := Ideal) h i = if h i = 1#1 then 1 else 0 := by
  pointwise [mask]
  generalize h i = b
  have hb : b = 0#1 ∨ b = 1#1 := by revert b; decide
  rcases hb with rfl | rfl
  · rw [if_neg (by decide)]
    show (((BitVec.setWidth 32 0#1).toInt : ℝ) : EReal) = 0
    norm_num
  · rw [if_pos rfl]
    show (((BitVec.setWidth 32 1#1).toInt : ℝ) : EReal) = 1
    have : (BitVec.setWidth 32 1#1).toInt = 1 := by decide
    rw [this]; norm_num

/-- The product with a mask, at an index. -/
theorem gat_at (km : FVec Ideal S12x4096 .bf16) (b : FVec Ideal S4096x256 .bf16) (r : Fin 12) (q : Fin 256) :
    gat km b zacc (ix2 r q) = ∑ k : Fin 4096, km (ix2 r k) * b (ix2 k q) := by
  pointwise [gat, zacc]

/-- The keys' numbers at an index. -/
theorem keys_at (k : Fin 4096) (q : Fin 256) : keys (ix2 k q) = BitVec.ofNat 32 k.val := by
  pointwise [keys]

theorem ofNat_inj (a b : Fin 4096) : BitVec.ofNat 32 a.val = BitVec.ofNat 32 b.val ↔ a = b := by
  constructor
  · intro h
    have := congrArg BitVec.toNat h
    simp only [BitVec.toNat_ofNat] at this
    exact Fin.ext (by omega)
  · rintro rfl; rfl

theorem toInt_num (a : Fin 4096) : (BitVec.ofNat 32 a.val).toInt = (a.val : ℤ) := by
  rw [BitVec.toInt_eq_toNat_cond, BitVec.toNat_ofNat]
  have := a.isLt
  rw [Nat.mod_eq_of_lt (by omega), if_pos (by omega)]

/-- The first hit of a column. -/
theorem slowIdx_at (h : IVec S4096x256 1) (q : Fin 256) (k0 : Fin 4096) (h0 : h (ix2 k0 q) = 1#1)
    (h1 : ∀ k : Fin 4096, h (ix2 k q) = 1#1 → k0 ≤ k) : slowIdx keys h (ix2 0 q) = BitVec.ofNat 32 k0.val := by
  unfold slowIdx
  rw [cast_row]
  refine (congrFun (multiReductionI_eq_reduceFold _ _ _ _ _) _).trans ?_
  show reduceFold reduces_S4096x256_S256 IntOp.minsi _ _ _ = _
  rw [reduceFold_eq_fold, Shape.Reduces.fold_filter_drop_single]
  refine BitVec.eq_of_toInt_eq ?_
  rw [← Finset.fold_hom (op := IntOp.minsi) (op' := min) (m := BitVec.toInt) (fun x y => SortNet.toInt_minsi x y)]
  rw [toInt_num]
  have key : ∀ k : Fin 4096, ((select h keys (broadcast S4096x256 4096#32)) (ix2 k q)).toInt = if h (ix2 k q) = 1#1 then (k.val : ℤ) else 4096 := by
    intro k
    show (Scalar.select (h (ix2 k q)) (keys (ix2 k q)) 4096#32).toInt = _
    unfold Scalar.select
    rw [keys_at]
    by_cases hk : h (ix2 k q) = 1#1
    · exact (congrArg BitVec.toInt (if_pos hk)).trans ((toInt_num k).trans (if_pos hk).symm)
    · exact (congrArg BitVec.toInt (if_neg hk)).trans (Eq.trans (by decide) (if_neg hk).symm)
  refine fold_min_eq (α := ℤ) _ _ _ _ ?_ (fun k _ => ?_) k0 (Finset.mem_univ _) ?_
  · have := k0.isLt
    refine le_of_lt (lt_of_lt_of_le (Int.ofNat_lt.mpr this) (by decide))
  · refine le_of_le_of_eq ?_ ((congrArg (fun i => (select h keys (broadcast S4096x256 4096#32) i).toInt) (lift_key k q)).trans (key k)).symm
    split
    · next hk => exact Int.ofNat_le.mpr (h1 k hk)
    · exact le_of_lt (Int.ofNat_lt.mpr k0.isLt)
  · refine ((congrArg (fun i => (select h keys (broadcast S4096x256 4096#32) i).toInt) (lift_key k0 q)).trans (key k0)).trans (if_pos h0)

/-- A coordinate of the first hit of a column. -/
theorem slowVal_at (v : FVec Ideal S4096x1 .f32) (h : IVec S4096x256 1) (q : Fin 256) (k0 : Fin 4096)
    (hi : slowIdx keys h (ix2 0 q) = BitVec.ofNat 32 k0.val) : slowVal keys v h (ix2 0 q) = v (ix2 k0 0) := by
  have e : slowVal keys v h (ix2 0 q) = ∑ k : Fin 4096, if keys (ix2 k q) = slowIdx keys h (ix2 0 q) then v (ix2 k 0) else 0 := by
    pointwise [slowVal]
    refine Finset.sum_congr rfl fun k _ => ?_
    unfold Scalar.select IntOp.cmpi
    by_cases hk : keys (ix2 k q) = slowIdx keys h (ix2 0 q)
    · rw [if_pos hk]; simp [hk]
    · rw [if_neg hk, beq_eq_false_iff_ne.mpr hk]; rfl
  rw [e, Finset.sum_eq_single k0]
  · rw [keys_at, hi, if_pos rfl]
  · intro k _ hk
    rw [keys_at, hi, if_neg (fun h' => hk ((ofNat_inj _ _).mp h'))]
  · intro h; exact absurd (Finset.mem_univ _) h

/-- Where no column ties, a column's count is at most one and a half. -/
theorem tie_le (g : FVec Ideal S12x256 .f32) (h : tie (most g) ≠ 1#1) (q : Fin 256) : g (ix2 9 q) ≤ Ideal.ofBits .f32 0x3FC00000#32 := by
  by_contra hc
  refine h ?_
  have hm : g (ix2 9 q) ≤ extractAt ![0, 0, 0] (most g) inpos_S1x1x1_p0_0_0 := by
    unfold most
    have e : ∀ (x : FVec Ideal S1 .f32), extractAt ![0, 0, 0] (shapeCast S1x1x1 x shapeCasts_S1_S1x1x1) inpos_S1x1x1_p0_0_0 = x (ix1 0) := by
      intro x; pointwise
    rw [e]
    refine le_of_le_of_eq ?_ (congrFun (multiReduction_maximumf_eq_reduceFold _ _ _ _ _) _).symm
    rw [reduceFold_eq_fold]
    refine (Finset.le_fold_max (β := EReal) _).mpr (.inr ⟨(ix3 0 0 q : S1x1x256.Idx), ?_, ?_⟩)
    · rw [Finset.mem_filter]
      refine ⟨Finset.mem_univ _, funext fun b => ?_⟩
      match b with
      | ⟨0, _⟩ => exact Subsingleton.elim (α := Fin 1) _ _
    · refine le_of_eq ?_
      pointwise
  unfold tie
  have hc' : Ideal.ofBits .f32 0x3FC00000#32 < extractAt ![0, 0, 0] (most g) inpos_S1x1x1_p0_0_0 := lt_of_lt_of_le (not_le.mp hc) hm
  have : Scalar.cmpf (F := Ideal) (φ := .f32) .ogt (extractAt ![0, 0, 0] (most g) inpos_S1x1x1_p0_0_0) (Scalar.ofBits .f32 0x3FC00000#32) = 1#1 := by
    show BitVec.ofBool (decide (Ideal.ofBits .f32 0x3FC00000#32 < extractAt ![0, 0, 0] (most g) inpos_S1x1x1_p0_0_0)) = 1#1
    rw [decide_eq_true hc']; rfl
  rw [this]; decide

/-- The word of one and a half. -/
theorem word_three_halves : Ideal.ofBits .f32 0x3FC00000#32 = ((3 / 2 : ℝ) : EReal) := by
  simp [Ideal.ofBits, Ideal.ieee]
  rw [← EReal.coe_mul]; norm_num

/-- A sum of zeros and ones that is at most one and a half has one one at most. -/
theorem one_of_le (p : Fin 4096 → Prop) [DecidablePred p] (h : (∑ k : Fin 4096, if p k then (1 : EReal) else 0) ≤ Ideal.ofBits .f32 0x3FC00000#32)
    (a b : Fin 4096) (ha : p a) (hb : p b) : a = b := by
  by_contra hab
  have h2 : (2 : EReal) ≤ ∑ k : Fin 4096, if p k then (1 : EReal) else 0 := by
    have hs : ∑ k ∈ ({a, b} : Finset (Fin 4096)), (if p k then (1 : EReal) else 0) = 2 := by
      rw [Finset.sum_pair hab, if_pos ha, if_pos hb]; exact one_add_one_eq_two
    rw [← hs]
    refine Finset.sum_le_sum_of_subset_of_nonneg (Finset.subset_univ _) fun k _ _ => ?_
    split
    · exact zero_le_one
    · exact le_rfl
  have h3 := h2.trans h
  rw [word_three_halves] at h3
  have : ((2 : ℝ) : EReal) ≤ ((3 / 2 : ℝ) : EReal) := h3
  rw [EReal.coe_le_coe_iff] at this
  norm_num at this

/-- What a round uses of the table of keys: a row of ones, two rows that add up to the key's number, and three rows for
    each coordinate that add up to it. -/
structure Tab (km : FVec Ideal S12x4096 .bf16) (c : Fin 3 → Fin 4096 → EReal) : Prop where
  ones : ∀ k, km (ix2 9 k) = (1 : EReal)
  num : ∀ k : Fin 4096, Ideal.fptosi 32 ((km (ix2 10 k) : EReal) + km (ix2 11 k)) = BitVec.ofNat 32 k.val
  x : ∀ k, ((km (ix2 0 k) : EReal) + km (ix2 1 k)) + km (ix2 2 k) = c 0 k
  y : ∀ k, ((km (ix2 3 k) : EReal) + km (ix2 4 k)) + km (ix2 5 k) = c 1 k
  z : ∀ k, ((km (ix2 6 k) : EReal) + km (ix2 7 k)) + km (ix2 8 k) = c 2 k

/-- Where a column has one hit, the product with the table is the table's column. -/
theorem gatD_at (km : FVec Ideal S12x4096 .bf16) (D : FVec Ideal S4096x256 .f32) (q : Fin 256) (k0 : Fin 4096)
    (h : ∀ k, hitD D (ix2 k q) = 1#1 ↔ k = k0) (r : Fin 12) : gatD km D (ix2 r q) = km (ix2 r k0) := by
  unfold gatD
  rw [gat_at, Finset.sum_eq_single k0]
  · rw [mask_at, if_pos ((h k0).mpr rfl)]; exact mul_one (M := EReal) _
  · intro k _ hk
    rw [mask_at, if_neg (fun h' => hk ((h k).mp h'))]; exact mul_zero (M₀ := EReal) _
  · intro h; exact absurd (Finset.mem_univ _) h

theorem fastX_at (g : FVec Ideal S12x256 .f32) (q : Fin 256) : fastX g (ix2 0 q) = ((g (ix2 0 q) : EReal) + g (ix2 1 q)) + g (ix2 2 q) := by pointwise [fastX]
theorem fastY_at (g : FVec Ideal S12x256 .f32) (q : Fin 256) : fastY g (ix2 0 q) = ((g (ix2 3 q) : EReal) + g (ix2 4 q)) + g (ix2 5 q) := by pointwise [fastY]
theorem fastZ_at (g : FVec Ideal S12x256 .f32) (q : Fin 256) : fastZ g (ix2 0 q) = ((g (ix2 6 q) : EReal) + g (ix2 7 q)) + g (ix2 8 q) := by pointwise [fastZ]
theorem fastIdx_at (g : FVec Ideal S12x256 .f32) (q : Fin 256) : fastIdx g (ix2 0 q) = Ideal.fptosi 32 ((g (ix2 10 q) : EReal) + g (ix2 11 q)) := by
  pointwise [fastIdx]
  rfl

/-- A round on a column whose distances are those left after `t` picks: its hits begin at the next pick. -/
theorem hitD_at (D : FVec Ideal S4096x256 .f32) (q : Fin 256) (d : Fin 4096 → EReal) (t : Fin 4096)
    (hD : ∀ k, D (ix2 k q) = Order.left d t.val k) (k : Fin 4096) :
    hitD D (ix2 k q) = 1#1 ↔ Order.left d t.val k = d (Order.at_ d t) := by
  have hm : colMin D (ix2 0 q) = d (Order.at_ d t) :=
    colMin_at D q _ (fun k => (Order.le_left d t k).trans_eq (hD k).symm) (Order.at_ d t) ((hD _).trans (Order.left_at d t))
  unfold hitD
  rw [hit_at, hm, hD]
  split <;> simp_all

/-- The same round's index and coordinates are the next pick's. -/
theorem pick_at (km : FVec Ideal S12x4096 .bf16) (c : Fin 3 → Fin 4096 → EReal) (hT : Tab km c) (kv : Fin 3 → FVec Ideal S4096x1 .f32)
    (hk : ∀ l k, kv l (ix2 k 0) = c l k) (D : FVec Ideal S4096x256 .f32) (q : Fin 256) (d : Fin 4096 → EReal) (hd : ∀ k, d k ≠ ⊤) (t : Fin 4096)
    (hD : ∀ k, D (ix2 k q) = Order.left d t.val k) :
    idxD keys km D (ix2 0 q) = BitVec.ofNat 32 (Order.at_ d t).val ∧
      ∀ l, selV (tieD km D) keys (kv l) (hitD D) (fast l (gatD km D)) (ix2 0 q) = c l (Order.at_ d t) := by
  have hh := hitD_at D q d t hD
  by_cases ht : tieD km D = 1#1
  · have hs : slowIdx keys (hitD D) (ix2 0 q) = BitVec.ofNat 32 (Order.at_ d t).val :=
      slowIdx_at _ q _ ((hh _).mpr (Order.left_at d t)) fun k h => Order.first_left d hd t k ((hh k).mp h)
    unfold idxD selI selV
    rw [if_pos ht]
    refine ⟨hs, fun l => ?_⟩
    rw [if_pos ht, slowVal_at _ _ q _ hs, hk]
  · have hu : ∀ k, hitD D (ix2 k q) = 1#1 ↔ k = Order.at_ d t := by
      intro k
      refine ⟨fun h => ?_, fun h => h ▸ (hh _).mpr (Order.left_at d t)⟩
      refine one_of_le (fun k => hitD D (ix2 k q) = 1#1) ?_ k _ h ((hh _).mpr (Order.left_at d t))
      refine le_of_eq_of_le ?_ (tie_le (gatD km D) ht q)
      unfold gatD
      rw [gat_at]
      refine Finset.sum_congr rfl fun k _ => ?_
      rw [hT.ones, mask_at]
      exact (one_mul (M := EReal) (if hitD D (ix2 k q) = 1#1 then 1 else 0)).symm
    have hg := gatD_at km D q _ hu
    unfold idxD selI selV
    rw [if_neg ht]
    refine ⟨?_, fun l => ?_⟩
    · rw [fastIdx_at, hg, hg, hT.num]
    · rw [if_neg ht]
      match l with
      | 0 => exact (fastX_at _ q).trans (by rw [hg, hg, hg, hT.x])
      | 1 => exact (fastY_at _ q).trans (by rw [hg, hg, hg, hT.y])
      | 2 => exact (fastZ_at _ q).trans (by rw [hg, hg, hg, hT.z])

/-- The distances with a column's pick taken out. -/
theorem next_at (D : FVec Ideal S4096x256 .f32) (i : IVec S1x256 32) (k : Fin 4096) (q : Fin 256) :
    next keys D i (ix2 k q) = if BitVec.ofNat 32 k.val = i (ix2 0 q) then ⊤ else D (ix2 k q) := by
  have e : next keys D i (ix2 k q) = Scalar.select (IntOp.cmpi .eq (keys (ix2 k q)) (i (ix2 0 q))) (Ideal.ofBits .f32 0x7F800000#32) (D (ix2 k q)) := by
    pointwise [next]
  rw [e, keys_at, word_top]
  unfold Scalar.select IntOp.cmpi
  by_cases h : BitVec.ofNat 32 k.val = i (ix2 0 q)
  · rw [if_pos h, beq_iff_eq.mpr h]; rfl
  · rw [if_neg h, beq_eq_false_iff_ne.mpr h]; rfl

/-- The distances of every round are those left after its picks. -/
theorem distG_at (km : FVec Ideal S12x4096 .bf16) (c : Fin 3 → Fin 4096 → EReal) (hT : Tab km c)
    (D : FVec Ideal S4096x256 .f32) (q : Fin 256) (hd : ∀ k, D (ix2 k q) ≠ (⊤ : EReal)) (r : ℕ) (hr : r < 4096) :
    ∀ k, distG km D r (ix2 k q) = Order.left (fun k => D (ix2 k q)) r k := by
  induction r with
  | zero => intro k; exact (congrFun (Order.left_zero fun k => (D (ix2 k q) : EReal)) k).symm
  | succ r ih =>
    intro k
    have hD := ih (by omega)
    have hi := (pick_at km c hT (fun l i => c l (i 0)) (fun _ _ => rfl) (distG km D r) q _ hd ⟨r, by omega⟩ hD).1
    show next keys (distG km D r) (idxD keys km (distG km D r)) (ix2 k q) = _
    rw [next_at, hi, Order.left_succ (fun k => D (ix2 k q)) ⟨r, by omega⟩ k, hD k]
    exact if_congr (ofNat_inj _ _) rfl rfl

/-- A coordinate of a round's pick is that of the key of its place in the order of distance. -/
theorem pickG_at (km : FVec Ideal S12x4096 .bf16) (c : Fin 3 → Fin 4096 → EReal) (hT : Tab km c) (kv : Fin 3 → FVec Ideal S4096x1 .f32)
    (hk : ∀ l k, kv l (ix2 k 0) = c l k) (D : FVec Ideal S4096x256 .f32) (q : Fin 256) (hd : ∀ k, D (ix2 k q) ≠ (⊤ : EReal)) (t : Fin 4096) (l : Fin 3) :
    pickG kv km D t.val l (ix2 0 q) = c l (Order.at_ (fun k => (D (ix2 k q) : EReal)) t) :=
  (pick_at km c hT kv hk _ q _ hd t (distG_at km c hT D q hd t.val t.isLt)).2 l

end Cert.KernelIdeal.Knn

end
-- ==== Proof.Tab.lean ====
/- The table of keys, the keys' columns and the distances, at one element, over the extended reals. -/
module

public import proofs.«01_k».proof.Proof.Pick

@[expose] public section

set_option maxRecDepth 16384

noncomputable section

namespace Cert.KernelIdeal.Knn

open Idealize.ShloMosaic Idealize.SL.Sem
open Cert.KernelIdeal.Gen
open scoped BigOperators

/-- The keys' coordinates. -/
theorem kcol_at (x0 : Vec Ideal S1x4096x3 .f32) (l : Fin 3) (k : Fin 4096) : kcol x0 l (ix2 k 0) = x0 (ix3 0 k l) := by
  match l with
  | 0 => pointwise [kcol]
  | 1 => pointwise [kcol]
  | 2 => pointwise [kcol]

theorem krow_at (x1 : Vec Ideal S1x3x4096 .f32) (l : Fin 3) (k : Fin 4096) : krow x1 l (ix2 0 k) = x1 (ix3 0 l k) := by
  match l with
  | 0 => pointwise [krow]
  | 1 => pointwise [krow]
  | 2 => pointwise [krow]

theorem qrow_at (x2 : Vec Ideal S1x3x256 .f32) (l : Fin 3) (q : Fin 256) : qrow x2 l (ix2 0 q) = x2 (ix3 0 l q) := by
  match l with
  | 0 => pointwise [qrow]
  | 1 => pointwise [qrow]
  | 2 => pointwise [qrow]

theorem table_9 (x1 : Vec Ideal S1x3x4096 .f32) (k : Fin 4096) : table x1 (ix2 9 k) = Ideal.ofBits .bf16 0x3F80#16 := by
  pointwise [table]
theorem table_10 (x1 : Vec Ideal S1x3x4096 .f32) (k : Fin 4096) : table x1 (ix2 10 k) = numHi (F := Ideal) (ix2 0 k) := by
  pointwise [table]
theorem table_11 (x1 : Vec Ideal S1x3x4096 .f32) (k : Fin 4096) : table x1 (ix2 11 k) = numLo (F := Ideal) (ix2 0 k) := by
  pointwise [table]
theorem table_0 (x1 : Vec Ideal S1x3x4096 .f32) (k : Fin 4096) : table x1 (ix2 0 k) = x1 (ix3 0 0 k) := by
  pointwise [table, hi, krow]
theorem table_1 (x1 : Vec Ideal S1x3x4096 .f32) (k : Fin 4096) : table x1 (ix2 1 k) = (x1 (ix3 0 0 k) : EReal) - x1 (ix3 0 0 k) := by
  pointwise [table, hi, lo, krow]
theorem table_2 (x1 : Vec Ideal S1x3x4096 .f32) (k : Fin 4096) : table x1 (ix2 2 k) = ((x1 (ix3 0 0 k) : EReal) - x1 (ix3 0 0 k)) - (x1 (ix3 0 0 k) - x1 (ix3 0 0 k)) := by
  pointwise [table, hi, lo, krow]
theorem table_3 (x1 : Vec Ideal S1x3x4096 .f32) (k : Fin 4096) : table x1 (ix2 3 k) = x1 (ix3 0 1 k) := by
  pointwise [table, hi, krow]
theorem table_4 (x1 : Vec Ideal S1x3x4096 .f32) (k : Fin 4096) : table x1 (ix2 4 k) = (x1 (ix3 0 1 k) : EReal) - x1 (ix3 0 1 k) := by
  pointwise [table, hi, lo, krow]
theorem table_5 (x1 : Vec Ideal S1x3x4096 .f32) (k : Fin 4096) : table x1 (ix2 5 k) = ((x1 (ix3 0 1 k) : EReal) - x1 (ix3 0 1 k)) - (x1 (ix3 0 1 k) - x1 (ix3 0 1 k)) := by
  pointwise [table, hi, lo, krow]
theorem table_6 (x1 : Vec Ideal S1x3x4096 .f32) (k : Fin 4096) : table x1 (ix2 6 k) = x1 (ix3 0 2 k) := by
  pointwise [table, hi, krow]
theorem table_7 (x1 : Vec Ideal S1x3x4096 .f32) (k : Fin 4096) : table x1 (ix2 7 k) = (x1 (ix3 0 2 k) : EReal) - x1 (ix3 0 2 k) := by
  pointwise [table, hi, lo, krow]
theorem table_8 (x1 : Vec Ideal S1x3x4096 .f32) (k : Fin 4096) : table x1 (ix2 8 k) = ((x1 (ix3 0 2 k) : EReal) - x1 (ix3 0 2 k)) - (x1 (ix3 0 2 k) - x1 (ix3 0 2 k)) := by
  pointwise [table, hi, lo, krow]

/-- A key's number is its steps of 64 and the rest. -/
theorem num_parts : ∀ k : Fin 4096, (BitVec.ofNat 32 k.val).sshiftRight 6 <<< 6 = BitVec.ofNat 32 (k.val / 64 * 64) ∧ BitVec.ofNat 32 k.val &&& 63#32 = BitVec.ofNat 32 (k.val % 64) := by
  decide +kernel

theorem numHi_at (k : Fin 4096) : numHi (F := Ideal) (ix2 0 k) = (((k.val / 64 * 64 : ℕ) : ℝ) : EReal) := by
  have e : numHi (F := Ideal) (ix2 0 k) = FloatOps.sitofp (F := Ideal) FTy.f32 ((BitVec.ofNat 32 k.val).sshiftRight 6 <<< 6) := by
    pointwise [numHi]
    rfl
  rw [e, (num_parts k).1]
  show (((BitVec.ofNat 32 (k.val / 64 * 64)).toInt : ℝ) : EReal) = _
  have := toInt_num ⟨k.val / 64 * 64, by omega⟩
  simp only at this
  rw [this, Int.cast_natCast]

theorem numLo_at (k : Fin 4096) : numLo (F := Ideal) (ix2 0 k) = (((k.val % 64 : ℕ) : ℝ) : EReal) := by
  have e : numLo (F := Ideal) (ix2 0 k) = FloatOps.sitofp (F := Ideal) FTy.f32 (BitVec.ofNat 32 k.val &&& 63#32) := by
    pointwise [numLo]
    rfl
  rw [e, (num_parts k).2]
  show (((BitVec.ofNat 32 (k.val % 64)).toInt : ℝ) : EReal) = _
  have := toInt_num ⟨k.val % 64, by omega⟩
  simp only at this
  rw [this, Int.cast_natCast]

theorem word_one_bf16 : Ideal.ofBits .bf16 0x3F80#16 = 1 := by
  simp [Ideal.ofBits, Ideal.ieee]
  rw [← EReal.coe_mul]; norm_num

/-- A finite number, and the two remainders taken from it. -/
theorem parts (a : EReal) (h : ∃ x : ℝ, a = x) : (a + (a - a)) + ((a - a) - (a - a)) = a := by
  obtain ⟨x, rfl⟩ := h
  have h0 : (x : EReal) - x = 0 := by rw [← EReal.coe_sub]; simp
  rw [h0]; simp

/-- The table of finite keys is what the rounds use. -/
theorem tab (x1 : Vec Ideal S1x3x4096 .f32) (c : Fin 3 → Fin 4096 → EReal) (hc : ∀ l k, x1 (ix3 0 l k) = c l k) (hf : ∀ l k, ∃ x : ℝ, c l k = x) :
    Tab (table x1) c where
  ones k := (table_9 x1 k).trans word_one_bf16
  num k := by
    rw [table_10, table_11, numHi_at, numLo_at, ← EReal.coe_add]
    have : ((k.val / 64 * 64 : ℕ) : ℝ) + ((k.val % 64 : ℕ) : ℝ) = ((k.val : ℤ) : ℝ) := by
      rw [← Nat.cast_add, Nat.div_add_mod' k.val 64]; norm_num
    rw [this]
    unfold Ideal.fptosi
    rw [Ideal.toIntClamped_coe]
    have := k.isLt
    rw [if_pos (by positivity), Int.floor_intCast, min_eq_right (by norm_num; omega), max_eq_right (by norm_num)]
    exact BitVec.ofInt_natCast 32 k.val
  x k := by rw [table_0, table_1, table_2, hc]; exact parts _ (hf 0 k)
  y k := by rw [table_3, table_4, table_5, hc]; exact parts _ (hf 1 k)
  z k := by rw [table_6, table_7, table_8, hc]; exact parts _ (hf 2 k)

/-- The squared distance of a key from a query. -/
theorem dist0_at (x0 : Vec Ideal S1x4096x3 .f32) (x2 : Vec Ideal S1x3x256 .f32) (k : Fin 4096) (q : Fin 256) :
    dist0 x0 x2 (ix2 k q) = (Ideal.ofBits FTy.f32 3221225472#32 * ∑ l : Fin 3, (x0 (ix3 0 k l) : EReal) * x2 (ix3 0 l q)
        + ((x2 (ix3 0 0 q) : EReal) * x2 (ix3 0 0 q) + (x2 (ix3 0 1 q) : EReal) * x2 (ix3 0 1 q) + (x2 (ix3 0 2 q) : EReal) * x2 (ix3 0 2 q)))
        + ((x0 (ix3 0 k 0) : EReal) * x0 (ix3 0 k 0) + (x0 (ix3 0 k 1) : EReal) * x0 (ix3 0 k 1) + (x0 (ix3 0 k 2) : EReal) * x0 (ix3 0 k 2)) := by
  pointwise [dist0, cross, sumSq, kcol, qrow]

/-- Eight rows stacked, at an element. -/
theorem cat8_at (f : Fin 8 → FVec Ideal S1x256 .f32) (t : Fin 8) (q : Fin 256) : cat8 f (ix2 t q) = f t (ix2 0 q) := by
  match t with
  | 0 => pointwise [cat8]
  | 1 => pointwise [cat8]
  | 2 => pointwise [cat8]
  | 3 => pointwise [cat8]
  | 4 => pointwise [cat8]
  | 5 => pointwise [cat8]
  | 6 => pointwise [cat8]
  | 7 => pointwise [cat8]

/-- The offsets: the picks after the first, from the query. -/
theorem offs_at (k : Fin 3 → FVec Ideal S4096x1 .f32) (q : Fin 3 → FVec Ideal S1x256 .f32) (km : FVec Ideal S12x4096 .bf16) (D : FVec Ideal S4096x256 .f32)
    (l : Fin 3) (t : Fin 8) (r : Fin 256) : offsG k q km D l (ix2 t r) = (pickG k km D (t.val + 1) l (ix2 0 r) : EReal) - q l (ix2 0 r) := by
  unfold offsG
  rw [cat8_at]
  match t with
  | 0 => rfl
  | 1 => rfl
  | 2 => rfl
  | 3 => rfl
  | 4 => rfl
  | 5 => rfl
  | 6 => rfl
  | 7 => rfl

end Cert.KernelIdeal.Knn

end
-- ==== Proof.Rank.lean ====
/- The order of the eight neighbours about the query, over the extended reals: a row's place counts the rows before it. -/
module

public import proofs.«01_k».proof.Proof.Tab

@[expose] public section

set_option maxRecDepth 16384

noncomputable section

namespace Cert.KernelIdeal.Knn

open Idealize.ShloMosaic Idealize.SL.Sem
open Cert.KernelIdeal.Gen
open scoped BigOperators

theorem rowAll_at (j : Fin 8) (v : FVec Ideal S8x256 .f32) (i : Fin 8) (q : Fin 256) : rowAll j v (ix2 i q) = v (ix2 j q) := by
  match j with
  | 0 => pointwise [rowAll]
  | 1 => pointwise [rowAll]
  | 2 => pointwise [rowAll]
  | 3 => pointwise [rowAll]
  | 4 => pointwise [rowAll]
  | 5 => pointwise [rowAll]
  | 6 => pointwise [rowAll]
  | 7 => pointwise [rowAll]

theorem rows8_at (i : Fin 8) (q : Fin 256) : rows8 (ix2 i q) = BitVec.ofNat 32 i.val := by pointwise [rows8]

theorem sgt_rows : ∀ i j : Fin 8, IntOp.cmpi .sgt (BitVec.ofNat 32 i.val) (BitVec.ofNat 32 j.val) = BitVec.ofBool (decide (j < i)) := by
  decide +kernel

instance (d : Fin 8 → EReal) (j i : Fin 8) : Decidable (Order.Before d j i) := by unfold Order.Before; infer_instance

/-- One row's gain: one if row `j` comes before it. -/
theorem count_at (p : FVec Ideal S8x256 .f32) (j : Fin 8) (r : IVec S8x256 32) (i : Fin 8) (q : Fin 256) :
    count p j r (ix2 i q) = r (ix2 i q) + if Order.Before (fun i => (p (ix2 i q) : EReal)) j i then 1#32 else 0#32 := by
  have e : count p j r (ix2 i q) = (r (ix2 i q) + BitVec.setWidth 32 (BitVec.ofBool (decide ((p (ix2 j q) : EReal) < p (ix2 i q)))))
      + BitVec.setWidth 32 (BitVec.ofBool (decide ((p (ix2 i q) : EReal) = p (ix2 j q))) &&& BitVec.ofBool (decide (j < i))) := by
    rw [← sgt_rows, ← rows8_at i q, ← rowAll_at j p i q]
    rfl
  rw [e]
  by_cases h1 : (p (ix2 j q) : EReal) < p (ix2 i q)
  · have h2 : ¬ (p (ix2 i q) : EReal) = p (ix2 j q) := fun h => (ne_of_gt h1) h
    have hb : Order.Before (fun i => (p (ix2 i q) : EReal)) j i := .inl h1
    rw [decide_eq_true h1, decide_eq_false h2, if_pos hb]
    generalize decide (j < i) = b
    cases b <;> simp
  · by_cases h2 : (p (ix2 i q) : EReal) = p (ix2 j q)
    · by_cases h3 : j < i
      · have hb : Order.Before (fun i => (p (ix2 i q) : EReal)) j i := .inr ⟨h2.symm, h3⟩
        rw [decide_eq_false h1, decide_eq_true h2, decide_eq_true h3, if_pos hb]; simp
      · have hb : ¬ Order.Before (fun i => (p (ix2 i q) : EReal)) j i := by rintro (h | h); exact h1 h; exact h3 h.2
        rw [decide_eq_false h1, decide_eq_true h2, decide_eq_false h3, if_neg hb]; simp
    · have hb : ¬ Order.Before (fun i => (p (ix2 i q) : EReal)) j i := by rintro (h | h); exact h1 h; exact h2 h.1.symm
      rw [decide_eq_false h1, decide_eq_false h2, if_neg hb]; simp

/-- A row's place is the number of rows before it. -/
theorem rank_at (p : FVec Ideal S8x256 .f32) (i : Fin 8) (q : Fin 256) :
    rank p (ix2 i q) = BitVec.ofNat 32 (Finset.univ.filter fun j => Order.Before (fun i => (p (ix2 i q) : EReal)) j i).card := by
  rw [Finset.card_filter]
  have h : ∀ j, (if Order.Before (fun i => (p (ix2 i q) : EReal)) j i then 1#32 else 0#32) = BitVec.ofNat 32 (if Order.Before (fun i => (p (ix2 i q) : EReal)) j i then 1 else 0) := by
    intro j; split <;> rfl
  unfold rank
  simp only [count_at, h, Fin.sum_univ_eight, BitVec.ofNat_add]
  show 0#32 + _ + _ + _ + _ + _ + _ + _ + _ = _
  rw [BitVec.zero_add]

theorem eq_words : ∀ (s t : Fin 8) (a : EReal), Scalar.select (IntOp.cmpi .eq (BitVec.ofNat 32 s.val) (BitVec.ofNat 32 t.val)) a 0 = if s = t then a else 0 := by
  intro s t a
  have h : ∀ s t : Fin 8, IntOp.cmpi .eq (BitVec.ofNat 32 s.val) (BitVec.ofNat 32 t.val) = BitVec.ofBool (decide (s = t)) := by decide +kernel
  rw [h]
  by_cases e : s = t
  · rw [decide_eq_true e, if_pos e]; rfl
  · rw [decide_eq_false e, if_neg e]; rfl

/-- The row of a place is the row of that place in the order of the angles. -/
theorem placed_at (p v : FVec Ideal S8x256 .f32) (t : Fin 8) (q : Fin 256) :
    placed (rank p) v t (ix2 0 q) = v (ix2 (Order.at_ (fun i => (p (ix2 i q) : EReal)) t) q) := by
  have e : placed (rank p) v t (ix2 0 q) = ∑ i : Fin 8, Scalar.select (IntOp.cmpi .eq (rank p (ix2 i q)) (BitVec.ofNat 32 t.val)) (v (ix2 i q) : EReal) 0 := by
    pointwise [placed]
  rw [e, Finset.sum_eq_single (Order.at_ (fun i => (p (ix2 i q) : EReal)) t)]
  · rw [rank_at, Order.card_before (fun i => (p (ix2 i q) : EReal)) t, eq_words, if_pos rfl]
  · intro i _ hi
    obtain ⟨s, rfl⟩ := Order.at_surjective (fun i => (p (ix2 i q) : EReal)) i
    rw [rank_at, Order.card_before (fun i => (p (ix2 i q) : EReal)) s, eq_words, if_neg (fun h : s = t => hi (congrArg _ h))]
  · intro h; exact absurd (Finset.mem_univ _) h

end Cert.KernelIdeal.Knn

end
-- ==== Proof.Feat.lean ====
/- The ten features of the first kernel at one element, over the extended reals, as those of the eight offsets. -/
module

public import proofs.«01_k».proof.Proof.Rank
public import proofs.«01_k».proof.Proof.Umb

@[expose] public section

set_option maxRecDepth 16384

noncomputable section

namespace Cert.KernelIdeal.Knn

open Idealize.ShloMosaic Idealize.SL.Sem
open Cert.KernelIdeal.Gen
open scoped BigOperators

theorem turn_at (x y : FVec Ideal S8x256 .f32) (i : S8x256.Idx) : turn x y i = Umb.turn (x i) (y i) := by
  pointwise [turn, off0]
  rfl

/-- The features of two corners. -/
theorem feats_at (sx sy sz rx ry rz : FVec Ideal S8x256 .f32) (t : Fin 8) (q : Fin 256) (s r : Fin 8 → Fin 3 → EReal)
    (hs0 : ∀ t, sx (ix2 t q) = s t 0) (hs1 : ∀ t, sy (ix2 t q) = s t 1) (hs2 : ∀ t, sz (ix2 t q) = s t 2)
    (hr0 : ∀ t, rx (ix2 t q) = r t 0) (hr1 : ∀ t, ry (ix2 t q) = r t 1) (hr2 : ∀ t, rz (ix2 t q) = r t 2) (j : Fin 10) :
    feats sx sy sz rx ry rz j (ix2 t q) =
      Umb.ten (fun l => Umb.normal (s t) (r t) l * Umb.sign (Umb.normal (s 0) (r 0) 0)) (Umb.centre (s t) (r t)) j := by
  match j with
  | 0 =>
    pointwise [feats, rho, third, sumSq]
    simp only [hs0, hs1, hs2, hr0, hr1, hr2]
    rfl
  | 1 =>
    pointwise [feats, rho, third, sumSq, theta, cosInc]
    simp only [hs0, hs1, hs2, hr0, hr1, hr2]
    rfl
  | 2 =>
    pointwise [feats, third, turn, off0]
    simp only [hs0, hs1, hs2, hr0, hr1, hr2]
    rfl
  | 3 =>
    pointwise [feats, sign, signRow, len, safe, crossP, sumSq]
    simp only [hs0, hs1, hs2, hr0, hr1, hr2]
    rfl
  | 4 =>
    pointwise [feats, sign, signRow, len, safe, crossP, sumSq]
    simp only [hs0, hs1, hs2, hr0, hr1, hr2]
    rfl
  | 5 =>
    pointwise [feats, sign, signRow, len, safe, crossP, sumSq]
    simp only [hs0, hs1, hs2, hr0, hr1, hr2]
    rfl
  | 6 =>
    pointwise [feats, sign, signRow, len, safe, crossP, sumSq, plane, unitOr, clipM, third]
    simp only [hs0, hs1, hs2, hr0, hr1, hr2]
    rfl
  | 7 =>
    pointwise [feats, third]
    simp only [hs0, hs1, hs2, hr0, hr1, hr2]
    rfl
  | 8 =>
    pointwise [feats, third]
    simp only [hs0, hs1, hs2, hr0, hr1, hr2]
    rfl
  | 9 =>
    pointwise [feats, third]
    simp only [hs0, hs1, hs2, hr0, hr1, hr2]
    rfl

theorem ordered_at (p v : FVec Ideal S8x256 .f32) (t : Fin 8) (q : Fin 256) :
    ordered (rank p) v (ix2 t q) = v (ix2 (Order.at_ (fun i => (p (ix2 i q) : EReal)) t) q) := by
  unfold ordered
  rw [cat8_at, ← placed_at p v t q]
  match t with
  | 0 => rfl
  | 1 => rfl
  | 2 => rfl
  | 3 => rfl
  | 4 => rfl
  | 5 => rfl
  | 6 => rfl
  | 7 => rfl

theorem orderedNext_at (p v : FVec Ideal S8x256 .f32) (t : Fin 8) (q : Fin 256) :
    orderedNext (rank p) v (ix2 t q) = v (ix2 (Order.at_ (fun i => (p (ix2 i q) : EReal)) (t + 1)) q) := by
  unfold orderedNext
  rw [cat8_at, ← placed_at p v (t + 1) q]
  match t with
  | 0 => rfl
  | 1 => rfl
  | 2 => rfl
  | 3 => rfl
  | 4 => rfl
  | 5 => rfl
  | 6 => rfl
  | 7 => rfl

/-- The features of eight offsets. -/
theorem featO_at (gx gy gz : FVec Ideal S8x256 .f32) (t : Fin 8) (q : Fin 256) (g : Fin 8 → Fin 3 → EReal)
    (h0 : ∀ t, gx (ix2 t q) = g t 0) (h1 : ∀ t, gy (ix2 t q) = g t 1) (h2 : ∀ t, gz (ix2 t q) = g t 2) (j : Fin 10) :
    featO gx gy gz j (ix2 t q) = Umb.feature g t j := by
  have ha : (fun i => (turn gx gy (ix2 i q) : EReal)) = Umb.angle g := by
    funext i; rw [turn_at, h0, h1]; rfl
  unfold featO
  refine (feats_at _ _ _ _ _ _ t q (Umb.corner g) (fun t => Umb.corner g (t + 1)) ?_ ?_ ?_ ?_ ?_ ?_ j).trans rfl
  · intro t; rw [ordered_at, ha, h0]; rfl
  · intro t; rw [ordered_at, ha, h1]; rfl
  · intro t; rw [ordered_at, ha, h2]; rfl
  · intro t; rw [orderedNext_at, ha, h0]; rfl
  · intro t; rw [orderedNext_at, ha, h1]; rfl
  · intro t; rw [orderedNext_at, ha, h2]; rfl

/-- A query's squared distances, as the kernel adds them up. -/
def distOf (x : Fin 4096 → Fin 3 → EReal) (y : Fin 3 → EReal) (k : Fin 4096) : EReal :=
  (Umb.w 0xC0000000#32 * ∑ l : Fin 3, x k l * y l + (y 0 * y 0 + y 1 * y 1 + y 2 * y 2)) + (x k 0 * x k 0 + x k 1 * x k 1 + x k 2 * x k 2)

/-- A query's eight neighbours, as offsets from it: the second nearest key to the ninth. -/
def near (x : Fin 4096 → Fin 3 → EReal) (y : Fin 3 → EReal) (t : Fin 8) (l : Fin 3) : EReal :=
  x (Order.at_ (distOf x y) ⟨t.val + 1, by omega⟩) l - y l

/-- The word of minus two. -/
theorem word_minus_two : Umb.w 0xC0000000#32 = ((-2 : ℝ) : EReal) := by
  simp [Ideal.ofBits, Ideal.ieee]
  rw [← EReal.coe_mul]; norm_num

/-- The distances of finite points are finite. -/
theorem distOf_ne_top (x : Fin 4096 → Fin 3 → EReal) (y : Fin 3 → EReal) (hx : ∀ k l, ∃ a : ℝ, x k l = a) (hy : ∀ l, ∃ a : ℝ, y l = a) (k : Fin 4096) :
    distOf x y k ≠ ⊤ := by
  choose X hX using hx
  choose Y hY using hy
  unfold distOf
  simp only [hX, hY, word_minus_two, Fin.sum_univ_three, ← EReal.coe_mul, ← EReal.coe_add]
  exact EReal.coe_ne_top _

/-- The first kernel's features are the umbrella's. -/
theorem feat_at (x0 : Vec Ideal S1x4096x3 .f32) (x1 : Vec Ideal S1x3x4096 .f32) (x2 : Vec Ideal S1x3x256 .f32)
    (x : Fin 4096 → Fin 3 → EReal) (y : Fin 3 → EReal) (q : Fin 256) (h0 : ∀ k l, x0 (ix3 0 k l) = x k l) (h1 : ∀ k l, x1 (ix3 0 l k) = x k l)
    (h2 : ∀ l, x2 (ix3 0 l q) = y l) (hx : ∀ k l, ∃ a : ℝ, x k l = a) (hy : ∀ l, ∃ a : ℝ, y l = a) (t : Fin 8) (j : Fin 10) :
    feat x0 x1 x2 j (ix2 t q) = Umb.feature (near x y) t j := by
  have hd : (fun k => (dist0 x0 x2 (ix2 k q) : EReal)) = distOf x y := by
    funext k; rw [dist0_at]; simp only [h0, h2]; rfl
  have hT := tab x1 (fun l k => x k l) (fun l k => h1 k l) (fun l k => hx k l)
  have key : ∀ l t, offsG (kcol x0) (qrow x2) (table x1) (dist0 x0 x2) l (ix2 t q) = near x y t l := by
    intro l t
    have hp := pickG_at (table x1) _ hT (kcol x0) (fun l k => (kcol_at x0 l k).trans (h0 k l)) (dist0 x0 x2) q
      (fun k => (congrFun hd k).trans_ne (distOf_ne_top x y hx hy k)) ⟨t.val + 1, by omega⟩ l
    rw [hd] at hp
    rw [offs_at, qrow_at, h2]
    exact congrArg (· - y l) hp
  exact featO_at _ _ _ t q (near x y) (key 0) (key 1) (key 2) j

end Cert.KernelIdeal.Knn

end
-- ==== Proof.RefNear.lean ====
/- The reference's search read at one query, over the extended reals: its nine nearest keys are those of the places in
   the order of distance, and its offsets are the eight after the first. -/
module

public import proofs.«01_k».proof.Proof.Gen.ReferenceIdeal.Run
public import proofs.«01_k».proof.Proof.Feat

@[expose] public section

set_option maxRecDepth 16384

noncomputable section

namespace Cert.RefVal

open Idealize.ShloMosaic Idealize.SL.Sem
open Cert.ReferenceIdeal Cert.ReferenceIdeal.Gen Cert.ReferenceIdeal.Value
open Cert.KernelIdeal.Knn (distOf near)
open scoped BigOperators

/-- The points. -/
def pts (V0 : Valuation τ sig (Elt Ideal)) (b : Fin 4) (k : Fin 4096) (l : Fin 3) : EReal :=
  (V0 (Proc.devRef .tc main_arg0) : Vec Ideal S4x4096x3 .f32) (ix3 b k l)

/-- The comparator puts a lesser number before a greater one and nothing else. -/
theorem before_eq (l r : EReal) (i j : BitVec 32) : (comparator_f32_i32_d2 (F := Ideal) (l, i) (r, j) == 1#1) = decide (l < r) := by
  have e0 : Ideal.ofBits .f32 0x00000000#32 = 0 := by simp [Ideal.ofBits, Ideal.ieee]
  have hz : ∀ a : EReal, Scalar.select (BitVec.ofBool (decide (a ≠ a))) (Ideal.ofBits .f32 0x7FC00000#32)
      (Scalar.select (BitVec.ofBool (decide (a = Ideal.ofBits .f32 0x00000000#32))) (Ideal.ofBits .f32 0x00000000#32) a) = a := by
    intro a
    rw [decide_eq_false (fun h => h rfl), e0]
    by_cases h : a = 0
    · rw [decide_eq_true h, h]; rfl
    · rw [decide_eq_false h]; rfl
  have e : comparator_f32_i32_d2 (F := Ideal) (l, i) (r, j) = BitVec.ofBool (decide (l < r)) := by
    conv_rhs => rw [← hz l, ← hz r]
    rfl
  rw [e]
  cases decide (l < r) <;> rfl

/-- A line of the third axis. -/
theorem along_key (n : ℕ) (b : Fin 4) (q : Fin 4096) (t : Fin n) (h : 2 < (⟨3, ![4, 4096, n]⟩ : Shape).rank) (k : Fin n) :
    Shape.Idx.along (s := ⟨3, ![4, 4096, n]⟩) (ix3 b q t) ⟨2, h⟩ k = ix3 b q k := by
  funext a
  match a with
  | ⟨0, _⟩ => rfl
  | ⟨1, _⟩ => rfl
  | ⟨2, _⟩ => rfl

/-- The positions a sort of a line leaves: the places' own. -/
theorem sort_line (n : ℕ) (x : FVec Ideal ⟨3, ![4, 4096, n]⟩ .f32) (b : Fin 4) (q : Fin 4096) (t : Fin n) :
    (Host.sort2 ⟨3, ![4, 4096, n]⟩ 2 (comparator_f32_i32_d2 (F := Ideal)) x (iotaInDim ⟨3, ![4, 4096, n]⟩ 32 2)).2 (ix3 b q t)
      = BitVec.ofNat 32 (Order.at_ (fun k => (x (ix3 b q k) : EReal)) t).val := by
  unfold Host.sort2
  rw [dif_pos (show 2 < 3 by decide)]
  simp only [before_eq]
  exact congrArg (fun f : Fin n → Fin n → Bool => BitVec.ofNat 32 (sortedFrom f t).val)
    (funext fun k => funext fun k' => congrArg₂ (fun a b : EReal => decide (a < b)) (congrArg x (along_key n b q t _ k)) (congrArg x (along_key n b q t _ k')))

theorem sort_keys (x : FVec Ideal S4x4096x4096 .f32) (b : Fin 4) (q t : Fin 4096) :
    (Host.sort2 S4x4096x4096 2 (comparator_f32_i32_d2 (F := Ideal)) x (iotaInDim S4x4096x4096 32 2)).2 (ix3 b q t)
      = BitVec.ofNat 32 (Order.at_ (fun k => (x (ix3 b q k) : EReal)) t).val := sort_line 4096 x b q t

theorem sort_eight (x : FVec Ideal S4x4096x8 .f32) (b : Fin 4) (q : Fin 4096) (t : Fin 8) :
    (Host.sort2 S4x4096x8 2 (comparator_f32_i32_d2 (F := Ideal)) x (iotaInDim S4x4096x8 32 2)).2 (ix3 b q t)
      = BitVec.ofNat 32 (Order.at_ (fun k => (x (ix3 b q k) : EReal)) t).val := sort_line 8 x b q t

/-- The reference's squared distances. -/
theorem v13_at (V0 : Valuation τ sig (Elt Ideal)) (b : Fin 4) (q k : Fin 4096) :
    res_main_v13 V0 (ix3 b q k) = distOf (pts V0 b) (pts V0 b q) k := by
  unfold res_main_v13
  pointwise
  unfold distOf
  rw [Fin.sum_univ_three, Fin.sum_univ_three, Fin.sum_univ_three, Fin.sum_univ_three]
  show (_ * (pts V0 b q 0 * pts V0 b k 0 + pts V0 b q 1 * pts V0 b k 1 + pts V0 b q 2 * pts V0 b k 2)) + _ + _ = _
  rw [mul_comm (pts V0 b q 0), mul_comm (pts V0 b q 1), mul_comm (pts V0 b q 2)]
  rfl

theorem gather1_at (x : FVec Ideal S4x4096x3 .f32) (i : IVec S4x4096x9x1 32) (b : Fin 4) (q : Fin 4096) (r : Fin 9) (l : Fin 3) (k : Fin 4096)
    (hk : i (ix4 b q r 0) = BitVec.ofNat 32 k.val) :
    Host.gather gather_S4x4096x3_S4x4096x9x1_S4x4096x9x3_3_1_0_0_1_3_113 x i (ix4 b q r l) = x (ix3 b k l) := by
  have e : gather_S4x4096x3_S4x4096x9x1_S4x4096x9x3_3_1_0_0_1_3_113.siIdx (ix4 b q r l) ⟨0, by decide⟩ = ix4 b q r 0 := by
    funext a
    match a with
    | ⟨0, _⟩ => rfl
    | ⟨1, _⟩ => rfl
    | ⟨2, _⟩ => rfl
    | ⟨3, _⟩ => rfl
  unfold Host.gather
  congr 1
  funext a
  match a with
  | ⟨0, _⟩ => exact Fin.ext (show 0 + b.val + 0 = b.val by omega)
  | ⟨1, _⟩ =>
    have := Cert.KernelIdeal.Knn.toInt_num k
    rw [← hk, ← e] at this
    refine Fin.ext ?_
    show min (i (gather_S4x4096x3_S4x4096x9x1_S4x4096x9x3_3_1_0_0_1_3_113.siIdx (ix4 b q r l) ⟨0, by decide⟩)).toInt.toNat 4095 + 0 + 0 = k.val
    omega
  | ⟨2, _⟩ => exact Fin.ext (show 0 + 0 + l.val = l.val by omega)

/-- A place's key, as the reference's nine nearest hold it. -/
theorem v15_at (V0 : Valuation τ sig (Elt Ideal)) (b : Fin 4) (q : Fin 4096) (t : Fin 9) :
    res_main_v15 V0 (ix3 b q t) = BitVec.ofNat 32 (Order.at_ (distOf (pts V0 b) (pts V0 b q)) ⟨t.val, by omega⟩).val := by
  have hd : (fun k => (res_main_v13 V0 (ix3 b q k) : EReal)) = distOf (pts V0 b) (pts V0 b q) := funext fun k => v13_at V0 b q k
  rw [← hd, ← sort_keys]
  unfold res_main_v15 res_main_call0_v0
  generalize (Host.sort2 S4x4096x4096 2 (comparator_f32_i32_d2 (F := Ideal)) (res_main_v13 V0) (iotaInDim S4x4096x4096 32 2)).2 = y
  pointwise

/-- A number of a key is not negative, so it is not wrapped. -/
theorem nonneg : ∀ k : Fin 4096, IntOp.cmpi .slt (BitVec.ofNat 32 k.val) 0#32 = 0#1 := by decide +kernel

/-- The reference's offsets. -/
theorem v26_at (V0 : Valuation τ sig (Elt Ideal)) (b : Fin 4) (q : Fin 4096) (t : Fin 8) (l : Fin 3) :
    res_main_v26 V0 (ix4 b q t l) = near (pts V0 b) (pts V0 b q) t l := by
  have hi : (broadcastInDim S4x4096x9x1 ![0, 1, 2] bcast_S4x4096x9_S4x4096x9x1_0_1_2 (select (cmpi .slt (res_main_v15 V0) (broadcastInDim S4x4096x9 ![] bcast_S_S4x4096x9 (constantI S_ 32 0#32))) (addi (res_main_v15 V0) (broadcastInDim S4x4096x9 ![] bcast_S_S4x4096x9 (constantI S_ 32 4096#32))) (res_main_v15 V0)))
      (ix4 b q ⟨t.val + 1, by omega⟩ 0) = BitVec.ofNat 32 (Order.at_ (distOf (pts V0 b) (pts V0 b q)) ⟨t.val + 1, by omega⟩).val := by
    rw [← v15_at V0 b q ⟨t.val + 1, by omega⟩]
    pointwise
    rw [v15_at, nonneg]
    rfl
  have hg := gather1_at (V0 (Proc.devRef .tc main_arg0)) _ b q ⟨t.val + 1, by omega⟩ l _ hi
  unfold res_main_v26
  generalize Host.gather gather_S4x4096x3_S4x4096x9x1_S4x4096x9x3_3_1_0_0_1_3_113 _ _ = G at hg ⊢
  pointwise
  rw [show (⟨1 + t.val, by omega⟩ : Fin 9) = ⟨t.val + 1, by omega⟩ from Fin.ext (Nat.add_comm _ _), hg]
  rfl

end Cert.RefVal

end
-- ==== Proof.RefTurn.lean ====
/- The reference's angles, its order of the eight, and the corners of its triangles, over the extended reals. -/
module

public import proofs.«01_k».proof.Proof.RefNear

@[expose] public section

set_option maxRecDepth 16384

noncomputable section

namespace Cert.RefVal

open Idealize.ShloMosaic Idealize.SL.Sem
open Cert.ReferenceIdeal Cert.ReferenceIdeal.Gen Cert.ReferenceIdeal.Value
open Cert.KernelIdeal.Knn (distOf near)
open scoped BigOperators

/-- A number plus a small one times the flag of its being near zero is the number moved off zero. -/
theorem off0_eq (v : EReal) : v + Umb.w 0x2EDBE6FF#32 * FloatOps.uitofp (F := Ideal) .f32 (BitVec.ofBool (decide (FloatOps.absf (F := Ideal) (φ := .f32) v < Umb.w 0x2EDBE6FF#32))) = Umb.off0 v := by
  unfold Umb.off0
  by_cases h : FloatOps.absf (F := Ideal) (φ := .f32) v < Umb.w 0x2EDBE6FF#32
  · rw [if_pos h, decide_eq_true h]
    have : FloatOps.uitofp (F := Ideal) .f32 (BitVec.ofBool true) = (1 : EReal) := by
      show (((1#1).toNat : ℝ) : EReal) = 1
      simp
    rw [this, mul_one]
  · rw [if_neg h, decide_eq_false h]
    have : FloatOps.uitofp (F := Ideal) .f32 (BitVec.ofBool false) = (0 : EReal) := by
      show (((BitVec.ofBool false).toNat : ℝ) : EReal) = 0
      norm_num
    rw [this, mul_zero, add_zero]

/-- The offsets of a query. -/
abbrev nb (V0 : Valuation τ sig (Elt Ideal)) (b : Fin 4) (q : Fin 4096) : Fin 8 → Fin 3 → EReal := near (pts V0 b) (pts V0 b q)

/-- The reference's angles. -/
theorem v68_at (V0 : Valuation τ sig (Elt Ideal)) (b : Fin 4) (q : Fin 4096) (i : Fin 8) :
    res_main_v68 V0 (ix3 b q i) = Umb.angle (nb V0 b q) i := by
  have h := v26_at V0 b q i
  unfold res_main_v68
  generalize res_main_v26 V0 = X at h ⊢
  generalize res_main_v32 V0 = Y
  simp only [id_eq]
  pointwise
  rw [h 0, h 1, off0_eq, off0_eq]
  rfl

/-- The order of the eight. -/
theorem v70_at (V0 : Valuation τ sig (Elt Ideal)) (b : Fin 4) (q : Fin 4096) (t : Fin 8) :
    res_main_v70 V0 (ix4 b q t 0) = BitVec.ofNat 32 (Order.at_ (Umb.angle (nb V0 b q)) t).val := by
  have hd : (fun k => (res_main_v68 V0 (ix3 b q k) : EReal)) = Umb.angle (nb V0 b q) := funext fun k => v68_at V0 b q k
  rw [← hd, ← sort_eight]
  unfold res_main_v70 res_main_call2_v0
  generalize (Host.sort2 S4x4096x8 2 (comparator_f32_i32_d2 (F := Ideal)) (res_main_v68 V0) (iotaInDim S4x4096x8 32 2)).2 = y
  pointwise

theorem nonneg8 : ∀ k : Fin 8, IntOp.cmpi .slt (BitVec.ofNat 32 k.val) 0#32 = 0#1 ∧ IntOp.cmpi .sge (BitVec.ofNat 32 k.val) 0#32 = 1#1
    ∧ IntOp.cmpi .sle (BitVec.ofNat 32 k.val) 7#32 = 1#1 ∧ (BitVec.ofNat 32 k.val).toInt.toNat = k.val := by decide +kernel

theorem call3_at (V0 : Valuation τ sig (Elt Ideal)) (b : Fin 4) (q : Fin 4096) (t : Fin 8) :
    res_main_call3_v4 V0 (ix4 b q t 0) = BitVec.ofNat 32 (Order.at_ (Umb.angle (nb V0 b q)) t).val := by
  unfold res_main_call3_v4
  pointwise
  rw [v70_at, (nonneg8 _).1]
  rfl

theorem gather2_at (x : FVec Ideal S4x4096x8x3 .f32) (i : IVec S4x4096x8x1 32) (b : Fin 4) (q : Fin 4096) (t : Fin 8) (l : Fin 3) (k : Fin 8)
    (hk : i (ix4 b q t 0) = BitVec.ofNat 32 k.val) :
    Host.gather gather_S4x4096x8x3_S4x4096x8x1_S4x4096x8x3_3_2_01_01_2_3_1113 x i (ix4 b q t l) = x (ix4 b q k l) := by
  have e : gather_S4x4096x8x3_S4x4096x8x1_S4x4096x8x3_3_2_01_01_2_3_1113.siIdx (ix4 b q t l) ⟨0, by decide⟩ = ix4 b q t 0 := by
    funext a
    match a with
    | ⟨0, _⟩ => rfl
    | ⟨1, _⟩ => rfl
    | ⟨2, _⟩ => rfl
    | ⟨3, _⟩ => rfl
  unfold Host.gather
  congr 1
  funext a
  match a with
  | ⟨0, _⟩ => exact Fin.ext (show 0 + b.val + 0 = b.val by omega)
  | ⟨1, _⟩ => exact Fin.ext (show 0 + q.val + 0 = q.val by omega)
  | ⟨2, _⟩ =>
    have := (nonneg8 k).2.2.2
    rw [← hk, ← e] at this
    refine Fin.ext ?_
    show min (i (gather_S4x4096x8x3_S4x4096x8x1_S4x4096x8x3_3_2_01_01_2_3_1113.siIdx (ix4 b q t l) ⟨0, by decide⟩)).toInt.toNat 7 + 0 + 0 = k.val
    omega
  | ⟨3, _⟩ => exact Fin.ext (show 0 + 0 + l.val = l.val by omega)

/-- A fold that changes nothing. -/
theorem foldl_same {α β : Type} (f : α → β → α) (r : α) (l : List β) (h : ∀ n, f r n = r) : l.foldl f r = r := by
  induction l with
  | nil => rfl
  | cons a l ih => rw [List.foldl_cons, h, ih]

/-- A reference corner. -/
theorem v72_at (V0 : Valuation τ sig (Elt Ideal)) (b : Fin 4) (q : Fin 4096) (t : Fin 8) (l : Fin 3) :
    res_main_v72 V0 (ix5 b q t 0 l) = Umb.corner (nb V0 b q) t l := by
  have hg := gather2_at (res_main_v26 V0) (res_main_call3_v4 V0) b q t l _ (call3_at V0 b q t)
  have hr : Host.reduce IntOp.andi (andi (cmpi .sge (res_main_call3_v4 V0) (broadcastInDim S4x4096x8x1 ![] bcast_S_S4x4096x8x1 (constantI S_ 32 0#32))) (cmpi .sle (res_main_call3_v4 V0) (broadcastInDim S4x4096x8x1 ![0, 1, 2, 3] bcast_S1x1x1x1_S4x4096x8x1_0_1_2_3 (broadcastInDim S1x1x1x1 ![3] bcast_S1_S1x1x1x1_3 (constantI S1 32 7#32))))) (constantI S_ 1 1#1) reducesTo_S4x4096x8x1_S4x4096x8_d3 h_S_ (ix3 b q t) = 1#1 := by
    have hx : ∀ i : S4x4096x8x1.Idx, andi (cmpi .sge (res_main_call3_v4 V0) (broadcastInDim S4x4096x8x1 ![] bcast_S_S4x4096x8x1 (constantI S_ 32 0#32))) (cmpi .sle (res_main_call3_v4 V0) (broadcastInDim S4x4096x8x1 ![0, 1, 2, 3] bcast_S1x1x1x1_S4x4096x8x1_0_1_2_3 (broadcastInDim S1x1x1x1 ![3] bcast_S1_S1x1x1x1_3 (constantI S1 32 7#32)))) i = 1#1 := by
      intro i
      obtain ⟨b', q', t', rfl⟩ : ∃ (b' : Fin 4) (q' : Fin 4096) (t' : Fin 8), i = ix4 b' q' t' 0 := by
        refine ⟨i 0, i 1, i 2, ?_⟩
        funext a
        match a with
        | ⟨0, _⟩ => rfl
        | ⟨1, _⟩ => rfl
        | ⟨2, _⟩ => rfl
        | ⟨3, _⟩ => exact Subsingleton.elim (α := Fin 1) _ _
      pointwise
      rw [call3_at, (nonneg8 _).2.1, (nonneg8 _).2.2.1]
      rfl
    exact foldl_same _ _ _ fun n => by
      show IntOp.andi 1#1 _ = 1#1
      rw [hx]; rfl
  rw [v26_at] at hg
  unfold res_main_v72
  generalize Host.reduce IntOp.andi _ _ _ _ = M at hr ⊢
  generalize Host.gather gather_S4x4096x8x3_S4x4096x8x1_S4x4096x8x3_3_2_01_01_2_3_1113 _ _ = G at hg ⊢
  pointwise
  rw [hr, hg]
  rfl

end Cert.RefVal

end
-- ==== Proof.RefFeat.lean ====
/- The reference's triangles and their ten features, over the extended reals. -/
module

public import proofs.«01_k».proof.Proof.RefTurn

@[expose] public section

set_option maxRecDepth 16384

noncomputable section

namespace Cert.RefVal

open Idealize.ShloMosaic Idealize.SL.Sem
open Cert.ReferenceIdeal Cert.ReferenceIdeal.Gen Cert.ReferenceIdeal.Value
open Cert.KernelIdeal.Knn (distOf near)
open scoped BigOperators

variable (V0 : Valuation τ sig (Elt Ideal)) (b : Fin 4) (q : Fin 4096) (t : Fin 8)

/-- The corners of a triangle: the query, an offset, and the next one. -/
theorem v77_at (p l : Fin 3) : res_main_v77 V0 (ix5 b q t p l) = ![0, Umb.corner (nb V0 b q) t l, Umb.corner (nb V0 b q) (t + 1) l] p := by
  have h := fun t => v72_at V0 b q t l
  unfold res_main_v77
  generalize res_main_v72 V0 = X at h ⊢
  match p with
  | 0 => pointwise
  | 1 => pointwise; exact h t
  | 2 =>
    match t with
    | 0 => pointwise; exact h 1
    | 1 => pointwise; exact h 2
    | 2 => pointwise; exact h 3
    | 3 => pointwise; exact h 4
    | 4 => pointwise; exact h 5
    | 5 => pointwise; exact h 6
    | 6 => pointwise; exact h 7
    | 7 => pointwise; exact h 0

theorem v82_at (l : Fin 3) : res_main_v82 V0 (ix4 b q t l) = Umb.corner (nb V0 b q) t l := by
  have h0 := v77_at V0 b q t 0 l
  have h1 := v77_at V0 b q t 1 l
  unfold res_main_v82
  generalize res_main_v77 V0 = X at h0 h1 ⊢
  pointwise
  rw [h0, h1]
  exact sub_zero (G := EReal) _

theorem v87_at (l : Fin 3) : res_main_v87 V0 (ix4 b q t l) = Umb.corner (nb V0 b q) (t + 1) l := by
  have h0 := v77_at V0 b q t 0 l
  have h1 := v77_at V0 b q t 2 l
  unfold res_main_v87
  generalize res_main_v77 V0 = X at h0 h1 ⊢
  pointwise
  rw [h0, h1]
  exact sub_zero (G := EReal) _

/-- The cross product of a triangle's corners. -/
theorem v103_at (l : Fin 3) : res_main_v103 V0 (ix4 b q t l) = Umb.cross (Umb.corner (nb V0 b q) t) (Umb.corner (nb V0 b q) (t + 1)) l := by
  have h0 := fun l => v82_at V0 b q t l
  have h1 := fun l => v87_at V0 b q t l
  unfold res_main_v103 res_main_v88 res_main_v89 res_main_v90 res_main_v91 res_main_v92 res_main_v93
  generalize res_main_v82 V0 = X at h0 ⊢
  generalize res_main_v87 V0 = Y at h1 ⊢
  match l with
  | 0 => pointwise; rw [h0, h0, h1, h1]; rfl
  | 1 => pointwise; rw [h0, h0, h1, h1]; rfl
  | 2 => pointwise; rw [h0, h0, h1, h1]; rfl

/-- Its length. -/
theorem v104_at : res_main_v104 V0 (ix4 b q t 0) = Umb.len (Umb.cross (Umb.corner (nb V0 b q) t) (Umb.corner (nb V0 b q) (t + 1))) := by
  have h := fun l => v103_at V0 b q t l
  unfold res_main_v104
  generalize res_main_v103 V0 = X at h ⊢
  pointwise
  rw [Fin.sum_univ_three, h, h, h]
  rfl

/-- The unit normal. -/
theorem v110_at (l : Fin 3) : res_main_v110 V0 (ix4 b q t l) = Umb.normal (Umb.corner (nb V0 b q) t) (Umb.corner (nb V0 b q) (t + 1)) l := by
  have h := v103_at V0 b q t l
  have h' := v104_at V0 b q t
  unfold res_main_v110
  generalize res_main_v103 V0 = X at h ⊢
  generalize res_main_v104 V0 = Y at h' ⊢
  pointwise
  rw [h, h']
  rfl

theorem word_one : Umb.w 0x3F800000#32 = ((1 : ℝ) : EReal) := by
  simp [Ideal.ofBits, Ideal.ieee]
theorem word_two : Umb.w 0x40000000#32 = ((2 : ℝ) : EReal) := by
  simp [Ideal.ofBits, Ideal.ieee]
  rw [← EReal.coe_mul]; norm_num
theorem word_minus_one : Umb.w 0xBF800000#32 = ((-1 : ℝ) : EReal) := by
  simp [Ideal.ofBits, Ideal.ieee]
  rw [← EReal.coe_mul]; norm_num

/-- Twice a flag less one is the sign. -/
theorem sign_eq (u : EReal) : FloatOps.uitofp (F := Ideal) .f32 (BitVec.ofBool (decide (0 < u))) * Umb.w 0x40000000#32 - 1 = Umb.sign u := by
  unfold Umb.sign
  rw [word_two, word_minus_one]
  by_cases h : 0 < u
  · rw [if_pos h, decide_eq_true h]
    show (((1#1).toNat : ℝ) : EReal) * ((2 : ℝ) : EReal) - ((1 : ℝ) : EReal) = ((1 : ℝ) : EReal)
    rw [← EReal.coe_mul, ← EReal.coe_sub]; norm_num
  · rw [if_neg h, decide_eq_false h]
    show (((0#1).toNat : ℝ) : EReal) * ((2 : ℝ) : EReal) - ((1 : ℝ) : EReal) = _
    rw [← EReal.coe_mul, ← EReal.coe_sub]; norm_num

/-- The normal, turned with the first. -/
theorem v122_at (l : Fin 3) : res_main_v122 V0 (ix4 b q t l) = Umb.up (nb V0 b q) t l := by
  have h := v110_at V0 b q t l
  have h' := v110_at V0 b q 0 0
  unfold res_main_v122
  generalize res_main_v110 V0 = X at h h' ⊢
  pointwise
  rw [h, h', sign_eq]
  rfl

/-- The centre. -/
theorem v125_at (l : Fin 3) : res_main_v125 V0 (ix4 b q t l) = Umb.centre (Umb.corner (nb V0 b q) t) (Umb.corner (nb V0 b q) (t + 1)) l := by
  have h := fun p => v77_at V0 b q t p l
  unfold res_main_v125
  generalize res_main_v77 V0 = X at h ⊢
  pointwise
  rw [Fin.sum_univ_three, h, h, h]
  show Ideal.div (0 + _ + _) _ = _
  rw [zero_add]
  rfl

/-- A triangle's centre. -/
abbrev ctr : Fin 3 → EReal := Umb.centre (Umb.corner (nb V0 b q) t) (Umb.corner (nb V0 b q) (t + 1))

theorem v131_at : res_main_v131 V0 (ix4 b q t 0) = Umb.rho (ctr V0 b q t) := by
  have h := fun l => v125_at V0 b q t l
  unfold res_main_v131
  generalize res_main_v125 V0 = X at h ⊢
  pointwise
  rw [Fin.sum_univ_three, h, h, h]
  rfl

theorem v166_at : res_main_v166 V0 (ix4 b q t 0) = Umb.len (Umb.up (nb V0 b q) t) := by
  have h := fun l => v122_at V0 b q t l
  unfold res_main_v166
  generalize res_main_v122 V0 = X at h ⊢
  pointwise
  rw [Fin.sum_univ_three, h, h, h]
  rfl

theorem v179_at : res_main_v179 V0 (ix4 b q t 0) = Umb.plane (Umb.up (nb V0 b q) t) (ctr V0 b q t) := by
  have h := fun l => v122_at V0 b q t l
  have h1 := fun l => v125_at V0 b q t l
  have h2 := v166_at V0 b q t
  unfold res_main_v179
  generalize res_main_v122 V0 = X at h ⊢
  generalize res_main_v125 V0 = Y at h1 ⊢
  generalize res_main_v166 V0 = Z at h2 ⊢
  simp only [id_eq]
  pointwise
  rw [Fin.sum_univ_three, h, h, h, h1, h1, h1, h2]
  have e0 : FloatOps.ofBits (F := Ideal) .f32 (lit0 (S3.rowMajor (ix1 0))) = 1 := by
    show Umb.w 0x3F800000#32 = 1
    exact_mod_cast word_one
  have e1 : FloatOps.ofBits (F := Ideal) .f32 (lit0 (S3.rowMajor (ix1 1))) = 0 := by
    show Umb.w 0x00000000#32 = 0
    simp [Ideal.ofBits, Ideal.ieee]
  have e2 : FloatOps.ofBits (F := Ideal) .f32 (lit0 (S3.rowMajor (ix1 2))) = 0 := by
    show Umb.w 0x00000000#32 = 0
    simp [Ideal.ofBits, Ideal.ieee]
  rw [show Ideal.ofBits FTy.f32 (lit0 (S3.rowMajor (ix1 0))) = 1 from e0, show Ideal.ofBits FTy.f32 (lit0 (S3.rowMajor (ix1 1))) = 0 from e1,
    show Ideal.ofBits FTy.f32 (lit0 (S3.rowMajor (ix1 2))) = 0 from e2]
  rfl

/-- No number differs from itself. -/
theorem v184_at : res_main_v184 V0 (ix3 b q t) = 0#1 := by
  have hr : Host.reduce IntOp.addi (extui 32 (cmpf .une (res_main_v122 V0) (res_main_v122 V0)) natLt_1_32) (constantI S_ 32 0#32) reducesTo_S4x4096x8x3_S4x4096x8_d3 h_S_ (ix3 b q t) = 0#32 := by
    refine foldl_same _ _ _ fun n => ?_
    show IntOp.addi 0#32 (BitVec.setWidth 32 (BitVec.ofBool (decide (res_main_v122 V0 _ ≠ res_main_v122 V0 _)))) = 0#32
    rw [decide_eq_false (fun h => h rfl)]; rfl
  unfold res_main_v184
  generalize Host.reduce IntOp.addi _ _ _ _ = M at hr ⊢
  pointwise
  rw [hr]
  rfl

/-- The arccosine of a number within [-1, 1] by the two-argument arctangent. -/
theorem acos_atan2 (z : ℝ) (h0 : -1 ≤ z) (h1 : z ≤ 1) :
    Ideal.acos (z : EReal) = Ideal.atan2 (Ideal.sqrt ((1 : EReal) - (z : EReal) * (z : EReal))) (z : EReal) := by
  have hs : (1 : EReal) - (z : EReal) * (z : EReal) = ((1 - z ^ 2 : ℝ) : EReal) := by
    rw [EReal.coe_sub, pow_two, EReal.coe_mul]; rfl
  have hn : ¬ 1 - z ^ 2 < 0 := by nlinarith
  rw [hs, Ideal.sqrt_coe, if_neg hn]
  show (if -1 ≤ z ∧ z ≤ 1 then (Real.arccos z : EReal) else ⊥) = ((if 0 < z then Real.arctan (√(1 - z ^ 2) / z)
      else if z < 0 then (if 0 ≤ √(1 - z ^ 2) then Real.arctan (√(1 - z ^ 2) / z) + Real.pi else Real.arctan (√(1 - z ^ 2) / z) - Real.pi)
      else if 0 < √(1 - z ^ 2) then Real.pi / 2 else if √(1 - z ^ 2) < 0 then -(Real.pi / 2) else 0 : ℝ) : EReal)
  rw [if_pos ⟨h0, h1⟩]
  congr 1
  rcases lt_trichotomy z 0 with hz | hz | hz
  · rw [if_neg (not_lt.2 hz.le), if_pos hz, if_pos (Real.sqrt_nonneg _)]
    have := Real.arccos_neg (-z)
    rw [neg_neg] at this
    rw [this, Real.arccos_eq_arctan (neg_pos.2 hz), neg_sq, div_neg, Real.arctan_neg]
    ring
  · subst hz
    simp
  · rw [if_pos hz, Real.arccos_eq_arctan hz]

/-- The inclination by the arccosine is that by the two-argument arctangent. -/
theorem acos_eq (y : EReal) : Ideal.acos (min 1 (max (Umb.w 0xBF800000#32) y)) =
    Ideal.atan2 (Ideal.sqrt (1 - min 1 (max (Umb.w 0xBF800000#32) y) * min 1 (max (Umb.w 0xBF800000#32) y))) (min 1 (max (Umb.w 0xBF800000#32) y)) := by
  obtain ⟨z, hz, h0, h1⟩ : ∃ z : ℝ, min 1 (max (Umb.w 0xBF800000#32) y) = (z : EReal) ∧ -1 ≤ z ∧ z ≤ 1 := by
    rw [word_minus_one]
    have ha : ((-1 : ℝ) : EReal) ≤ min 1 (max ((-1 : ℝ) : EReal) y) :=
      le_min (EReal.coe_le_coe_iff.2 (by norm_num)) (le_max_left _ _)
    have hb : min 1 (max ((-1 : ℝ) : EReal) y) ≤ ((1 : ℝ) : EReal) := min_le_left _ _
    generalize min 1 (max ((-1 : ℝ) : EReal) y) = v at ha hb ⊢
    induction v with
    | bot => exact absurd ha (not_le.2 (EReal.bot_lt_coe _))
    | top => exact absurd hb (not_le.2 (EReal.coe_lt_top _))
    | coe r => exact ⟨r, rfl, EReal.coe_le_coe_iff.1 ha, EReal.coe_le_coe_iff.1 hb⟩
  rw [hz]
  exact acos_atan2 z h0 h1

/-- The reference's features. -/
theorem v207_at (j : Fin 10) : res_main_v207 V0 (ix4 b q t j) = Umb.feature (nb V0 b q) t j := by
  have h := fun l => v122_at V0 b q t l
  have h1 := fun l => v125_at V0 b q t l
  have h2 := v131_at V0 b q t
  have h3 := v179_at V0 b q t
  have h4 := v184_at V0 b q t
  unfold res_main_v207
  generalize res_main_v122 V0 = X at h ⊢
  generalize res_main_v125 V0 = Y at h1 ⊢
  generalize res_main_v131 V0 = Z at h2 ⊢
  generalize res_main_v179 V0 = U at h3 ⊢
  generalize res_main_v184 V0 = M at h4 ⊢
  simp only [id_eq]
  match j with
  | 0 => pointwise; exact h2
  | 1 => pointwise; rw [h1, h2, acos_eq]; rfl
  | 2 => pointwise; rw [h1, h1, off0_eq, off0_eq]; rfl
  | 3 => pointwise; rw [h4]; exact h 0
  | 4 => pointwise; rw [h4]; exact h 1
  | 5 => pointwise; rw [h4]; exact h 2
  | 6 => pointwise; rw [h4]; exact h3
  | 7 => pointwise; rw [h4]; exact h1 0
  | 8 => pointwise; rw [h4]; exact h1 1
  | 9 => pointwise; rw [h4]; exact h1 2

end Cert.RefVal

end
-- ==== Proof.RefNet.lean ====
/- The reference's layers over the extended reals: the layers of its features. -/
module

public import proofs.«01_k».proof.Proof.RefFeat
public import proofs.«01_k».proof.Proof.Net

@[expose] public section

set_option maxRecDepth 16384

noncomputable section

namespace Cert.RefVal

open Idealize.ShloMosaic Idealize.SL.Sem
open Cert.ReferenceIdeal Cert.ReferenceIdeal.Gen Cert.ReferenceIdeal.Value
open Cert.KernelIdeal.Knn (distOf near)
open Cert.Net (Par Chan)
open scoped BigOperators

/-- The host's sum over batches, neighbours and points. -/
theorem red (X : S4x10x8x4096.Idx → EReal) (x : Fin 10 → Chan) (h : ∀ b d t q, X (ix4 b d t q) = (x d b t q : EReal)) (d : Fin 10) :
    Ideal.hostReduceAdd reducesTo_S4x10x8x4096_S10_d0_2_3 X 0 (ix1 d) = (Net.S (x d) : EReal) := by
  have hs : (∑ i ∈ Finset.univ.filter (fun i => reducesTo_S4x10x8x4096_S10_d0_2_3.drop i = ix1 d), X i)
      = ∑ p : Fin 4 × Fin 8 × Fin 4096, X (ix4 p.1 d p.2.1 p.2.2) := by
    symm
    refine Finset.sum_bij (fun p _ => ix4 p.1 d p.2.1 p.2.2) ?_ ?_ ?_ ?_
    · intro p _
      refine Finset.mem_filter.2 ⟨Finset.mem_univ _, ?_⟩
      funext a
      match a with
      | ⟨0, _⟩ => rfl
    · intro p _ p' _ e
      have e0 := congrFun e 0
      have e2 := congrFun e 2
      have e3 := congrFun e 3
      exact Prod.ext e0 (Prod.ext e2 e3)
    · intro i hi
      have hd := congrFun (Finset.mem_filter.1 hi).2 0
      refine ⟨(i 0, i 2, i 3), Finset.mem_univ _, ?_⟩
      funext a
      match a with
      | ⟨0, _⟩ => rfl
      | ⟨1, _⟩ => exact hd.symm
      | ⟨2, _⟩ => rfl
      | ⟨3, _⟩ => rfl
    · intro _ _; rfl
  unfold Ideal.hostReduceAdd
  rw [hs, zero_add]
  simp only [h]
  rw [Fintype.sum_prod_type]
  simp only [Fintype.sum_prod_type]
  rfl

variable (V0 : Valuation τ sig (Elt Ideal))

/-- The valuation's parameters are those given. -/
structure Holds (P : Par) : Prop where
  W1 : ∀ d c, V0 (Proc.devRef .tc main_arg1) (ix2 d c) = (P.W1 d c : EReal)
  g1 : ∀ c, V0 (Proc.devRef .tc main_arg2) (ix1 c) = (P.g1 c : EReal)
  be1 : ∀ c, V0 (Proc.devRef .tc main_arg3) (ix1 c) = (P.be1 c : EReal)
  W2 : ∀ d c, V0 (Proc.devRef .tc main_arg4) (ix2 d c) = (P.W2 d c : EReal)
  cb2 : ∀ c, V0 (Proc.devRef .tc main_arg5) (ix1 c) = (P.cb2 c : EReal)
  g2 : ∀ c, V0 (Proc.devRef .tc main_arg6) (ix1 c) = (P.g2 c : EReal)
  be2 : ∀ c, V0 (Proc.devRef .tc main_arg7) (ix1 c) = (P.be2 c : EReal)
  W3 : ∀ d c, V0 (Proc.devRef .tc main_arg8) (ix2 d c) = (P.W3 d c : EReal)
  cb3 : ∀ c, V0 (Proc.devRef .tc main_arg9) (ix1 c) = (P.cb3 c : EReal)

/-- The features of points. -/
def feats (p : Fin 4 → Fin 4096 → Fin 3 → EReal) (c : Fin 10) : Chan := fun b t q => Umb.feature (near (p b) (p b q)) t c

variable {V0} {P : Par} (H : Holds V0 P) (b : Fin 4) (q : Fin 4096) (t : Fin 8)
include H

theorem v210_at (d : Fin 10) : res_main_v210 V0 (ix4 b d t q) = (Net.l1 P (feats (pts V0)) d b t q : EReal) := by
  have h := fun c => v207_at V0 b q t c
  unfold res_main_v210
  generalize res_main_v207 V0 = X at h ⊢
  pointwise
  exact Finset.sum_congr rfl fun c _ => congrArg₂ (fun a b : EReal => a * b) (H.W1 d c) (h c)

theorem v214_at (d : Fin 10) : res_main_v214 V0 (ix4 0 d 0 0) = (Net.mean (Net.l1 P (feats (pts V0)) d) : EReal) := by
  have h := fun b d t q => v210_at H b q t d
  unfold res_main_v214
  generalize res_main_v210 V0 = X at h ⊢
  pointwise
  rw [red X _ h d]
  rfl

theorem v216_at (d : Fin 10) : res_main_v216 V0 (ix4 b d t q) = (Net.l1 P (feats (pts V0)) d b t q - Net.mean (Net.l1 P (feats (pts V0)) d) : EReal) := by
  have h := v210_at H b q t d
  have h1 := v214_at H d
  unfold res_main_v216
  generalize res_main_v210 V0 = X at h ⊢
  generalize res_main_v214 V0 = Y at h1 ⊢
  pointwise
  rw [h, h1]

theorem v240_at (d : Fin 10) : res_main_v240 V0 (ix4 b d t q) = (Net.l2 P (feats (pts V0)) d b t q : EReal) := by
  have h := fun c => v210_at H b q t c
  have h1 := fun c => v214_at H c
  have h2 := fun b d t q => v216_at H b q t d
  unfold res_main_v240
  generalize res_main_v210 V0 = X at h ⊢
  generalize res_main_v214 V0 = Y at h1 ⊢
  generalize res_main_v216 V0 = Z at h2 ⊢
  have hv : ∀ c, Ideal.div (Ideal.hostReduceAdd reducesTo_S4x10x8x4096_S10_d0_2_3 (mulf (F := Ideal) (s := S4x10x8x4096) (φ := .f32) Z Z) 0 (ix1 c)) (Ideal.ofBits FTy.f32 0x48000000#32)
      = (Net.var (Net.l1 P (feats (pts V0)) c) : EReal) := by
    intro c
    rw [red (mulf (F := Ideal) (s := S4x10x8x4096) (φ := .f32) Z Z) (fun d b t q => (Net.l1 P (feats (pts V0)) d b t q - Net.mean (Net.l1 P (feats (pts V0)) d)) * (Net.l1 P (feats (pts V0)) d b t q - Net.mean (Net.l1 P (feats (pts V0)) d)))
      (fun b d t q => congrArg₂ (fun a b : EReal => a * b) (h2 b d t q) (h2 b d t q)) c]
    rfl
  pointwise
  rw [H.cb2]
  refine congrArg (fun a : EReal => a + P.cb2 d) (Finset.sum_congr rfl fun c _ => congrArg₂ (fun a b : EReal => a * b) (H.W2 d c) ?_)
  rw [hv, h, h1, H.g1, H.be1]; rfl

theorem v244_at (d : Fin 10) : res_main_v244 V0 (ix4 0 d 0 0) = (Net.mean (Net.l2 P (feats (pts V0)) d) : EReal) := by
  have h := fun b d t q => v240_at H b q t d
  unfold res_main_v244
  generalize res_main_v240 V0 = X at h ⊢
  pointwise
  rw [red X _ h d]
  rfl

theorem v246_at (d : Fin 10) : res_main_v246 V0 (ix4 b d t q) = (Net.l2 P (feats (pts V0)) d b t q - Net.mean (Net.l2 P (feats (pts V0)) d) : EReal) := by
  have h := v240_at H b q t d
  have h1 := v244_at H d
  unfold res_main_v246
  generalize res_main_v240 V0 = X at h ⊢
  generalize res_main_v244 V0 = Y at h1 ⊢
  pointwise
  rw [h, h1]

end Cert.RefVal

namespace Cert.RefVal

open Idealize.ShloMosaic Idealize.SL.Sem
open Cert.ReferenceIdeal Cert.ReferenceIdeal.Gen Cert.ReferenceIdeal.Value
open Cert.Net (Par Chan)

/-- The reference's result from a launch. -/
def res (P : Par) (p : Fin 4 → Fin 4096 → Fin 3 → EReal) : S4x10x4096.Idx → EReal := fun y => (Net.out P (feats p) (y 0) (y 1) (y 2) : EReal)

/-- The reference runs to the layers of its features, and leaves its arguments as they were. -/
theorem run_ref (m : (ℓ : Loc nD τ sig) → Buf (Elt Ideal) ℓ) (ρ : Dev nD → PrngReg) (P : Dev nD → Par)
    (p : Dev nD → Fin 4 → Fin 4096 → Fin 3 → EReal) (H : ∀ c, (∀ b k l, pts (StableHlo.launchContents m c) b k l = p c b k l) ∧ Holds (StableHlo.launchContents m c) (P c)) :
    θ_run defs (onTc (τ := τ) (main (F := Ideal))) ⟨m, fun _ => 0, ρ⟩ fun r => ∀ c : Dev nD,
      r.2.mem ((c.tc : Thread nD τ).loc main_v271) = res (P c) (p c) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) := by
  refine (run (F := Ideal) m ρ).mono fun r h c => ⟨?_, (h c).2⟩
  rw [(h c).1, ← (funext fun b => funext fun k => funext fun l => (H c).1 b k l : pts (StableHlo.launchContents m c) = p c)]
  have H := (H c).2
  generalize P c = P at H ⊢
  generalize StableHlo.launchContents m c = V0 at H ⊢
  funext y
  obtain ⟨b, d, q, rfl⟩ : ∃ (b : Fin 4) (d : Fin 10) (q : Fin 4096), y = ix3 b d q := by
    refine ⟨y 0, y 1, y 2, ?_⟩
    funext a
    match a with
    | ⟨0, _⟩ => rfl
    | ⟨1, _⟩ => rfl
    | ⟨2, _⟩ => rfl
  have h := fun t c => v240_at H b q t c
  have h1 := fun c => v244_at H c
  have h2 := fun b d t q => v246_at H b q t d
  generalize res_main_v240 V0 = X at h ⊢
  generalize res_main_v244 V0 = Y at h1 ⊢
  generalize res_main_v246 V0 = Z at h2 ⊢
  have hv : ∀ c, Ideal.div (Ideal.hostReduceAdd reducesTo_S4x10x8x4096_S10_d0_2_3 (mulf (F := Ideal) (s := S4x10x8x4096) (φ := .f32) Z Z) 0 (ix1 c)) (Ideal.ofBits FTy.f32 0x48000000#32)
      = (Net.var (Net.l2 P (feats (pts V0)) c) : EReal) := by
    intro c
    rw [red (mulf (F := Ideal) (s := S4x10x8x4096) (φ := .f32) Z Z) (fun d b t q => (Net.l2 P (feats (pts V0)) d b t q - Net.mean (Net.l2 P (feats (pts V0)) d)) * (Net.l2 P (feats (pts V0)) d b t q - Net.mean (Net.l2 P (feats (pts V0)) d)))
      (fun b d t q => congrArg₂ (fun a b : EReal => a * b) (h2 b d t q) (h2 b d t q)) c]
    rfl
  pointwise
  show _ = ∑ t, Net.l3 P (feats (pts V0)) d b t q
  refine Finset.sum_congr rfl fun t _ => ?_
  rw [H.cb3]
  refine congrArg (fun a : EReal => a + P.cb3 d) (Finset.sum_congr rfl fun c _ => congrArg₂ (fun a b : EReal => a * b) (H.W3 d c) ?_)
  rw [hv, h, h1, H.g2, H.be2]; rfl

end Cert.RefVal

end
-- ==== Proof.KerNet.lean ====
/- The kernel's calls, one after another, on finite points and scales: the layers of its features. -/
module

public import proofs.«01_k».proof.Proof.KerHost
public import proofs.«01_k».proof.Proof.KerWin
public import proofs.«01_k».proof.Proof.Feat
public import proofs.«01_k».proof.Proof.RefNet
public import proofs.«01_k».proof.Proof.Run

@[expose] public section

set_option maxRecDepth 16384

noncomputable section

namespace Cert.KernelIdeal.Knn

open Idealize.ShloMosaic Idealize.ShloMosaic.TcCoe Idealize.SL.Sem Idealize.ShloMosaic.StableHlo
open Cert.KernelIdeal.Gen
open Cert.Net (Chan Par)
open Cert.RefVal (res)
open scoped BigOperators

/-- The points of a launch. -/
def kpts (V : Valuation τ sig (Elt Ideal)) (b : Fin 4) (k : Fin 4096) (l : Fin 3) : EReal := V main_arg0 (ix3 b k l)

/-- The valuation's parameters are those given, and its points and the scales are real. -/
structure HoldsK (V : Valuation τ sig (Elt Ideal)) (P : Par) : Prop where
  x : ∀ b k l, Umb.Re (kpts V b k l)
  W1 : ∀ d c, V main_arg1 (ix2 d c) = (P.W1 d c : EReal)
  g1 : ∀ c, V main_arg2 (ix1 c) = (P.g1 c : EReal)
  be1 : ∀ c, V main_arg3 (ix1 c) = (P.be1 c : EReal)
  W2 : ∀ d c, V main_arg4 (ix2 d c) = (P.W2 d c : EReal)
  cb2 : ∀ c, V main_arg5 (ix1 c) = (P.cb2 c : EReal)
  g2 : ∀ c, V main_arg6 (ix1 c) = (P.g2 c : EReal)
  be2 : ∀ c, V main_arg7 (ix1 c) = (P.be2 c : EReal)
  W3 : ∀ d c, V main_arg8 (ix2 d c) = (P.W3 d c : EReal)
  cb3 : ∀ c, V main_arg9 (ix1 c) = (P.cb3 c : EReal)
  re1 : ∀ c, Umb.Re (P.g1 c)
  re2 : ∀ c, Umb.Re (P.g2 c)

variable (m : (ℓ : Loc nD τ sig) → Buf (Elt Ideal) ℓ) (c : Dev nD)

/-- The arguments stay through the program. -/
theorem V1_arg (r : Ref sig .tc) (h : r ∉ hostOps0_W) : V1 m c r = V0 m c r := after_of_writes_sub hostOps0 _ hostOps0_writes h
theorem W2_arg (r : Ref sig .tc) (h : r ∉ hostOps0_W) (h0 : r ≠ main_v1_0) (h1 : r ≠ main_v1_1) : W2 m c r = V0 m c r := by
  unfold W2
  rw [Function.update_of_ne (devRef_ne_of_ne h1), Function.update_of_ne (devRef_ne_of_ne h0), V1_arg m c r h]
theorem W3_arg (r : Ref sig .tc) (h : r ∉ hostOps1_W) : W3 m c r = W2 m c r := after_of_writes_sub hostOps1 _ hostOps1_writes h
theorem W4_arg (r : Ref sig .tc) (h : r ≠ main_v22) : W4 m c r = W3 m c r := by
  unfold W4
  rw [Function.update_of_ne (devRef_ne_of_ne h)]
theorem W5_arg (r : Ref sig .tc) (h : r ∉ hostOps2_W) : W5 m c r = W4 m c r := after_of_writes_sub hostOps2 _ hostOps2_writes h

theorem W2_feat : W2 m c main_v1_0 = (dat0 (V1 m) c).arrAt 4 cfg0.N := by
  unfold W2
  rw [Function.update_of_ne (by decide), Function.update_self]
theorem W2_sums : W2 m c main_v1_1 = acc0 (V1 m) c 63 := by
  unfold W2
  rw [Function.update_self]; exact arr0_5 _ _
theorem W4_sums : W4 m c main_v22 = acc1 (W3 m) c 63 := by
  unfold W4
  rw [Function.update_self]; exact arr1_5 _ _

variable {m c} {P : Par} (H : HoldsK (V0 m c) P)
include H

/-- The first call's features at a point. -/
theorem feat0_at (t : Fin cfg0.N) (d : Fin 10) (u : Fin 8) (s : Fin 256) :
    feat0 (V1 m) c t (ix4 0 d u s) = (RefVal.feats (kpts (V0 m c)) d (bt t.val) u (qt t.val s) : EReal) := by
  refine feat_at _ _ _ (kpts (V0 m c) (bt t.val)) (kpts (V0 m c) (bt t.val) (qt t.val s)) s ?_ ?_ ?_ (H.x _) (H.x _ _) u d
  · intro k l
    rw [blk0_0_at, V1_arg m c main_arg0 (by decide)]; rfl
  · intro k l
    exact (blk0_1_at (V1 m) c t k l).trans (host0_at (V0 m c) _ l k)
  · intro l
    exact (blk0_2_at (V1 m) c t s l).trans (host0_at (V0 m c) _ l _)

/-- The features array. -/
theorem feat_arr (b : Fin 4) (d : Fin 10) (u : Fin 8) (q : Fin 4096) : W2 m c main_v1_0 (ix4 b d u q) = (RefVal.feats (kpts (V0 m c)) d b u q : EReal) := by
  rw [W2_feat, arr0_4 (V1 m) c (fun i => (RefVal.feats (kpts (V0 m c)) (i 1) (i 0) (i 2) (i 3) : EReal)) (fun t d u s => feat0_at H t d u s)]
  rfl

/-- The first layer's numbers at a point of the first call. -/
theorem vals0_at (t : Fin cfg0.N) (d : Fin 10) (u : Fin 8) (s : Fin 256) :
    vals0 (V1 m) c t d (ix2 u s) = (Net.l1 P (RefVal.feats (kpts (V0 m c))) d (bt t.val) u (qt t.val s) : EReal) := by
  unfold vals0
  rw [layer_at, narrow_eq]
  exact Finset.sum_congr rfl fun e _ => congrArg₂ (fun a b : EReal => a * b)
    ((blk0_3_at (V1 m) c t d e).trans (by rw [V1_arg m c main_arg1 (by decide)]; exact H.W1 d e)) (feat0_at H t e u s)

/-- The first sums. -/
theorem sums0 (d : Fin 10) (l : Fin 2) :
    W2 m c main_v1_1 (row d l) = (Net.S (![Net.l1 P (RefVal.feats (kpts (V0 m c))) d, fun b u q => Net.l1 P (RefVal.feats (kpts (V0 m c))) d b u q * Net.l1 P (RefVal.feats (kpts (V0 m c))) d b u q] l) : EReal) := by
  rw [W2_sums]
  refine sums_all (acc0 (V1 m) c) (fun n => vals0 (V1 m) c (pt0 n)) _ ?_ rfl (fun _ => rfl) _ (fun n d u s hn => ?_) d l
  · intro d l
    show Ideal.ofBits .f32 0x00000000#32 = 0
    simp [Ideal.ofBits, Ideal.ieee]
  · have hp : (pt0 n).val = n := Nat.mod_eq_of_lt hn
    rw [vals0_at H, hp]

theorem scale1 (e : Fin 10) : W3 m c main_v20 (ix2 0 e) = (Net.scale (P.g1 e) (Net.l1 P (RefVal.feats (kpts (V0 m c))) e) : EReal) := by
  refine (host1_scale (W2 m c) e).trans ?_
  rw [sums0 H, sums0 H, W2_arg m c main_arg2 (by decide) (by decide) (by decide), H.g1]
  rfl
theorem shift1 (e : Fin 10) : W3 m c main_v20 (ix2 1 e) = (Net.shift (P.g1 e) (P.be1 e) (Net.l1 P (RefVal.feats (kpts (V0 m c))) e) : EReal) := by
  refine (host1_shift (W2 m c) e).trans ?_
  rw [sums0 H, sums0 H, W2_arg m c main_arg2 (by decide) (by decide) (by decide), H.g1, W2_arg m c main_arg3 (by decide) (by decide) (by decide), H.be1]
  rfl
theorem W3_arg' (r : Ref sig .tc) (h : r ∉ hostOps0_W) (h0 : r ≠ main_v1_0) (h1 : r ≠ main_v1_1) (h2 : r ∉ hostOps1_W) : W3 m c r = V0 m c r :=
  (W3_arg m c r h2).trans (W2_arg m c r h h0 h1)
theorem W5_arg' (r : Ref sig .tc) (h : r ∉ hostOps0_W) (h0 : r ≠ main_v1_0) (h1 : r ≠ main_v1_1) (h2 : r ∉ hostOps1_W) (h3 : r ≠ main_v22) (h4 : r ∉ hostOps2_W) :
    W5 m c r = V0 m c r :=
  ((W5_arg m c r h4).trans (W4_arg m c r h3)).trans (W3_arg' H r h h0 h1 h2)

/-- The second layer's numbers at a point, out of any arrays that hold what the first call and the host left. -/
theorem second_at (x0 : Vec Ideal S1x10x8x256 .f32) (w1 w2 : Vec Ideal S10x10 .f32) (st : Vec Ideal S2x10 .f32) (cb : Vec Ideal S1x10 .f32) (n : ℕ)
    (h0 : ∀ d u s, x0 (ix4 0 d u s) = (RefVal.feats (kpts (V0 m c)) d (bt n) u (qt n s) : EReal)) (h1 : ∀ d e, w1 (ix2 d e) = (P.W1 d e : EReal))
    (h2 : ∀ e, st (ix2 0 e) = (Net.scale (P.g1 e) (Net.l1 P (RefVal.feats (kpts (V0 m c))) e) : EReal))
    (h3 : ∀ e, st (ix2 1 e) = (Net.shift (P.g1 e) (P.be1 e) (Net.l1 P (RefVal.feats (kpts (V0 m c))) e) : EReal))
    (h4 : ∀ d e, w2 (ix2 d e) = (P.W2 d e : EReal)) (h5 : ∀ e, cb (ix2 0 e) = (P.cb2 e : EReal)) (d : Fin 10) (u : Fin 8) (s : Fin 256) :
    affine w2 cb (hidden st (layer (narrow w1) (planesIn x0))) d (ix2 u s) = (Net.l2 P (RefVal.feats (kpts (V0 m c))) d (bt n) u (qt n s) : EReal) := by
  rw [affine_at, h5]
  refine congrArg (fun a : EReal => a + P.cb2 d) (Finset.sum_congr rfl fun e _ => congrArg₂ (fun a b : EReal => a * b) (h4 d e) ?_)
  have hl : layer (narrow w1) (planesIn x0) e (ix2 u s) = Net.l1 P (RefVal.feats (kpts (V0 m c))) e (bt n) u (qt n s) := by
    rw [layer_at, narrow_eq]
    exact Finset.sum_congr rfl fun k _ => congrArg₂ (fun a b : EReal => a * b) (h1 e k) ((planesIn_at _ _ _ _).trans (h0 k u s))
  rw [hidden_at, h2, h3, hl]
  exact (Net.norm_eq (H.re1 e) (P.be1 e) (Net.l1 P (RefVal.feats (kpts (V0 m c))) e) _ _ _).symm

/-- The second layer's numbers at a point of the second call. -/
theorem vals1_at (t : Fin cfg1.N) (d : Fin 10) (u : Fin 8) (s : Fin 256) :
    vals1 (W3 m) c t d (ix2 u s) = (Net.l2 P (RefVal.feats (kpts (V0 m c))) d (bt t.val) u (qt t.val s) : EReal) := by
  refine second_at H _ _ _ _ _ t.val (fun d u s => ?_) (fun d e => ?_) (fun e => ?_) (fun e => ?_) (fun d e => ?_) (fun e => ?_) d u s
  · rw [blk1_0_at, W3_arg m c main_v1_0 (by decide)]; exact feat_arr H _ _ _ _
  · rw [blk1_1_at, W3_arg' H main_arg1 (by decide) (by decide) (by decide) (by decide)]; exact H.W1 d e
  · rw [blk1_2_at]; exact scale1 H e
  · rw [blk1_2_at]; exact shift1 H e
  · rw [blk1_3_at, W3_arg' H main_arg4 (by decide) (by decide) (by decide) (by decide)]; exact H.W2 d e
  · rw [blk1_4_at]
    refine (host1_bias (W2 m c) e).trans ?_
    rw [W2_arg m c main_arg5 (by decide) (by decide) (by decide)]; exact H.cb2 e

/-- The second sums. -/
theorem sums1 (d : Fin 10) (l : Fin 2) :
    W4 m c main_v22 (row d l) = (Net.S (![Net.l2 P (RefVal.feats (kpts (V0 m c))) d, fun b u q => Net.l2 P (RefVal.feats (kpts (V0 m c))) d b u q * Net.l2 P (RefVal.feats (kpts (V0 m c))) d b u q] l) : EReal) := by
  rw [W4_sums]
  refine sums_all (acc1 (W3 m) c) (fun n => vals1 (W3 m) c (pt1 n)) _ ?_ rfl (fun _ => rfl) _ (fun n d u s hn => ?_) d l
  · intro d l
    show Ideal.ofBits .f32 0x00000000#32 = 0
    simp [Ideal.ofBits, Ideal.ieee]
  · have hp : (pt1 n).val = n := Nat.mod_eq_of_lt hn
    rw [vals1_at H, hp]

theorem W4_arg' (r : Ref sig .tc) (h : r ∉ hostOps0_W) (h0 : r ≠ main_v1_0) (h1 : r ≠ main_v1_1) (h2 : r ∉ hostOps1_W) (h3 : r ≠ main_v22) : W4 m c r = V0 m c r :=
  (W4_arg m c r h3).trans (W3_arg' H r h h0 h1 h2)

theorem scale2 (e : Fin 10) : W5 m c main_v41 (ix2 0 e) = (Net.scale (P.g2 e) (Net.l2 P (RefVal.feats (kpts (V0 m c))) e) : EReal) := by
  refine (host2_scale (W4 m c) e).trans ?_
  rw [sums1 H, sums1 H, W4_arg' H main_arg6 (by decide) (by decide) (by decide) (by decide) (by decide), H.g2]
  rfl
theorem shift2 (e : Fin 10) : W5 m c main_v41 (ix2 1 e) = (Net.shift (P.g2 e) (P.be2 e) (Net.l2 P (RefVal.feats (kpts (V0 m c))) e) : EReal) := by
  refine (host2_shift (W4 m c) e).trans ?_
  rw [sums1 H, sums1 H, W4_arg' H main_arg6 (by decide) (by decide) (by decide) (by decide) (by decide), H.g2,
    W4_arg' H main_arg7 (by decide) (by decide) (by decide) (by decide) (by decide), H.be2]
  rfl

/-- The result's block at a point of the third call. -/
theorem out2_at (t : Fin cfg2.N) (d : Fin 10) (s : Fin 256) :
    out2 (W5 m) c t (ix3 0 d s) = (Net.out P (RefVal.feats (kpts (V0 m c))) (bt t.val) d (qt t.val s) : EReal) := by
  unfold out2
  rw [outBlock_at]
  unfold Net.out
  refine Finset.sum_congr rfl fun u _ => ?_
  have hs := second_at H (blk2 (W5 m) c 0 t) (blk2 (W5 m) c 1 t) (blk2 (W5 m) c 3 t) (blk2 (W5 m) c 2 t) (blk2 (W5 m) c 4 t) t.val
    (fun d u s => by rw [blk2_0_at, W5_arg m c main_v1_0 (by decide), W4_arg m c main_v1_0 (by decide), W3_arg m c main_v1_0 (by decide)]; exact feat_arr H _ _ _ _)
    (fun d e => by rw [blk2_1_at, W5_arg' H main_arg1 (by decide) (by decide) (by decide) (by decide) (by decide) (by decide)]; exact H.W1 d e)
    (fun e => by rw [blk2_2_at, W5_arg m c main_v20 (by decide), W4_arg m c main_v20 (by decide)]; exact scale1 H e)
    (fun e => by rw [blk2_2_at, W5_arg m c main_v20 (by decide), W4_arg m c main_v20 (by decide)]; exact shift1 H e)
    (fun d e => by rw [blk2_3_at, W5_arg' H main_arg4 (by decide) (by decide) (by decide) (by decide) (by decide) (by decide)]; exact H.W2 d e)
    (fun e => by
      rw [blk2_4_at]
      refine (host2_bias2 (W4 m c) e).trans ?_
      rw [W4_arg' H main_arg5 (by decide) (by decide) (by decide) (by decide) (by decide)]; exact H.cb2 e)
  have hb : W5 m c main_v43 (ix2 0 d) = (P.cb3 d : EReal) := by
    refine (host2_bias3 (W4 m c) d).trans ?_
    rw [W4_arg' H main_arg9 (by decide) (by decide) (by decide) (by decide) (by decide)]; exact H.cb3 d
  rw [affine_at, blk2_7_at, hb]
  refine congrArg (fun a : EReal => a + P.cb3 d) (Finset.sum_congr rfl fun e _ => congrArg₂ (fun a b : EReal => a * b) ?_ ?_)
  · rw [blk2_6_at, W5_arg' H main_arg8 (by decide) (by decide) (by decide) (by decide) (by decide) (by decide)]; exact H.W3 d e
  · rw [hidden_at, hs, blk2_5_at, blk2_5_at, scale2 H, shift2 H]
    exact (Net.norm_eq (H.re2 e) (P.be2 e) (Net.l2 P (RefVal.feats (kpts (V0 m c))) e) _ _ _).symm

/-- The kernel's result. -/
theorem result_at : (dat2 (W5 m) c).arrAt 8 cfg2.N = res P (kpts (V0 m c)) :=
  arr2_8 (W5 m) c _ fun t d s => out2_at H t d s

end Cert.KernelIdeal.Knn

end
-- ==== Proof.Pre.lean ====
/- What the precondition says: the points' coordinates and the two scales are real numbers. -/
module

public import proofs.«01_k».proof.Pre_finite
public import proofs.«01_k».proof.Proof.Gen.Pre_finite
public import proofs.«01_k».proof.Proof.Real
public import Idealize.ShloMosaic.Lib.ReduceAll

@[expose] public section

noncomputable section

namespace Cert.Pre_finite

open Idealize.ShloMosaic
open Facts

/-- The conjunction of two bits. -/
theorem andi_one (a b : BitVec 1) : IntOp.andi a b = 1#1 ↔ a = 1#1 ∧ b = 1#1 := by revert a b; decide

/-- A number below infinity in absolute value is real. -/
theorem re_of_lt (x : EReal) (h : FloatOps.cmpf (F := Ideal) (φ := .f32) .olt (FloatOps.absf (F := Ideal) (φ := .f32) x) (Ideal.ofBits .f32 0x7F800000#32) = 1#1) : Umb.Re x := by
  have hw : Ideal.ofBits .f32 0x7F800000#32 = (⊤ : EReal) := by simp [Ideal.ofBits, Ideal.ieee]
  rw [hw] at h
  have hn : ∀ y : EReal, max y (-y) = ⊤ → FloatOps.cmpf (F := Ideal) (φ := .f32) .olt (FloatOps.absf (F := Ideal) (φ := .f32) y) ⊤ ≠ 1#1 := by
    intro y e
    show BitVec.ofBool (decide (max y (-y) < ⊤)) ≠ 1#1
    rw [e]; simp
  induction x with
  | bot => exact absurd h (hn ⊥ (by simp))
  | top => exact absurd h (hn ⊤ (by simp))
  | coe r => exact ⟨r, rfl⟩

/-- The array's elements are all below infinity in absolute value. -/
theorem all_re {s : Shape} {axes : List (Fin s.rank)} (x : FVec Ideal s .f32) (hb : S_.BroadcastsInDim s (![] : Fin 0 → Fin s.rank)) (h : s.ReducesTo axes S_) (hu : 0 < S_.numel)
    (j : S_.Idx)
    (e : Host.reduce IntOp.andi (cmpf .olt (Host.absf x) (broadcastInDim s ![] hb (constant (F := Ideal) S_ .f32 0x7F800000#32))) (constantI S_ 1 1#1) h hu j = 1#1) (i : s.Idx) :
    Umb.Re (x i) := re_of_lt _ (Host.reduce_andi_all _ _ _ _ j e i)

/-- What the precondition says. -/
theorem fn_re (a0 : FVec Ideal S4x4096x3 .f32) (a1 : FVec Ideal S10x10 .f32) (a2 a3 : FVec Ideal S10 .f32) (a4 : FVec Ideal S10x10 .f32)
    (a5 a6 a7 : FVec Ideal S10 .f32) (a8 : FVec Ideal S10x10 .f32) (a9 : FVec Ideal S10 .f32) (h : fn (F := Ideal) a0 a1 a2 a3 a4 a5 a6 a7 a8 a9 = fun _ => 1#1) :
    (∀ i, Umb.Re (a0 i)) ∧ (∀ i, Umb.Re (a2 i)) ∧ (∀ i, Umb.Re (a6 i)) := by
  have h := congrFun h (fun a => a.elim0)
  simp only [fn, andi, andi_one] at h
  obtain ⟨⟨h0, h2⟩, h6⟩ := h
  exact ⟨all_re _ _ _ _ _ h0, all_re _ _ _ _ _ h2, all_re _ _ _ _ _ h6⟩

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Gen.ReferenceIdeal.Run
public import proofs.«01_k».proof.Proof.Run
public import proofs.«01_k».proof.Proof.Same
public import proofs.«01_k».proof.Proof.KerNet
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Kernel

/-- The kernel at the floats as words: the one run of the whole program, read at the arguments and the counters. -/
theorem frame_kernel : Cert.quiescent_Kernel := fun m ρ _ =>
  Cert.Same.run_of_eq Cert.Same.defs_eq.symm Cert.Same.main_eq.symm _ _
    ((θ_run Cert.KernelIdeal.defs _ _).mono (fun _ h => ⟨fun c => (h.1 c).1, h.2⟩)
      (Cert.KernelIdeal.Knn.run_main (F := Bits) m ρ))

/-- The same of the idealized kernel. -/
theorem frame_ideal : Cert.quiescent_KernelIdeal := fun m ρ _ =>
  (θ_run Cert.KernelIdeal.defs _ _).mono (fun _ h => ⟨fun c => (h.1 c).1, h.2⟩)
    (Cert.KernelIdeal.Knn.run_main (F := Ideal) m ρ)

/-- The reference ends with its arguments as they were; it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same under the precondition. -/
theorem frame_ideal_finite : Cert.quiescent_KernelIdeal_pre_finite := fun m ρ _ =>
  (θ_run Cert.KernelIdeal.defs _ _).mono (fun _ h => ⟨fun c => (h.1 c).1, h.2⟩)
    (Cert.KernelIdeal.Knn.run_main (F := Ideal) m ρ)

/-- The same of the reference. -/
theorem frame_ref_finite : Cert.quiescent_ReferenceIdeal_pre_finite := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The parameters of a launch. -/
def par (m : (ℓ : Loc Cert.KernelIdeal.nD Cert.KernelIdeal.τ Cert.KernelIdeal.sig) → Buf (Elt Ideal) ℓ) (c : Dev Cert.KernelIdeal.nD) : Cert.Net.Par where
  W1 d e := Cert.KernelIdeal.Gen.V0 m c Cert.KernelIdeal.main_arg1 (ix2 d e)
  g1 e := Cert.KernelIdeal.Gen.V0 m c Cert.KernelIdeal.main_arg2 (ix1 e)
  be1 e := Cert.KernelIdeal.Gen.V0 m c Cert.KernelIdeal.main_arg3 (ix1 e)
  W2 d e := Cert.KernelIdeal.Gen.V0 m c Cert.KernelIdeal.main_arg4 (ix2 d e)
  cb2 e := Cert.KernelIdeal.Gen.V0 m c Cert.KernelIdeal.main_arg5 (ix1 e)
  g2 e := Cert.KernelIdeal.Gen.V0 m c Cert.KernelIdeal.main_arg6 (ix1 e)
  be2 e := Cert.KernelIdeal.Gen.V0 m c Cert.KernelIdeal.main_arg7 (ix1 e)
  W3 d e := Cert.KernelIdeal.Gen.V0 m c Cert.KernelIdeal.main_arg8 (ix2 d e)
  cb3 e := Cert.KernelIdeal.Gen.V0 m c Cert.KernelIdeal.main_arg9 (ix1 e)

/-- They are the arguments, and the points and the scales are real. -/
theorem holds_par (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Knn.HoldsK (Cert.KernelIdeal.Gen.V0 m c) (par m c) := by
  obtain ⟨h0, h1, h2⟩ := Cert.Pre_finite.fn_re _ _ _ _ _ _ _ _ _ _ (h c)
  exact ⟨fun _ _ _ => h0 _, fun _ _ => rfl, fun _ => rfl, fun _ => rfl, fun _ _ => rfl, fun _ => rfl, fun _ => rfl, fun _ => rfl,
    fun _ _ => rfl, fun _ => rfl, fun _ => h1 _, fun _ => h2 _⟩

/-- On finite points and scales the kernel's result is the reference's. -/
theorem value : Cert.algebraic_KernelIdeal_ReferenceIdeal_pre_finite := fun m g m' g' hp ha => by
  refine ⟨fun c => Cert.RefVal.res (par m c) (Cert.KernelIdeal.Knn.kpts (Cert.KernelIdeal.Gen.V0 m c)), ?_, ?_⟩
  · refine (θ_run Cert.KernelIdeal.defs _ _).mono (fun r h c => ⟨?_, (h.1 c).1⟩) (Cert.KernelIdeal.Knn.run_main (F := Ideal) m g)
    exact (h.1 c).2.trans (Cert.KernelIdeal.Knn.result_at (holds_par m hp c))
  · refine (θ_run Cert.ReferenceIdeal.defs _ _).mono (fun r h c => ⟨(h c).1, (h c).2⟩) (Cert.RefVal.run_ref m' g' (fun c => par m c)
      (fun c => Cert.KernelIdeal.Knn.kpts (Cert.KernelIdeal.Gen.V0 m c)) fun c => ?_)
    obtain ⟨e0, e1, e2, e3, e4, e5, e6, e7, e8, e9⟩ := ha c
    have H := holds_par m hp c
    exact ⟨fun b k l => congrFun e0 (ix3 b k l), ⟨fun d e => (congrFun e1 _).trans (H.W1 d e), fun e => (congrFun e2 _).trans (H.g1 e),
      fun e => (congrFun e3 _).trans (H.be1 e), fun d e => (congrFun e4 _).trans (H.W2 d e), fun e => (congrFun e5 _).trans (H.cb2 e), fun e => (congrFun e6 _).trans (H.g2 e),
      fun e => (congrFun e7 _).trans (H.be2 e), fun d e => (congrFun e8 _).trans (H.W3 d e), fun e => (congrFun e9 _).trans (H.cb3 e)⟩⟩

theorem claim : Cert.Claim := ⟨Cert.Kernel.Gen.facts, Cert.KernelIdeal.Gen.facts, Cert.ReferenceIdeal.Gen.facts, Cert.Pre_finite.Gen.facts,
  frame_kernel, frame_ideal, frame_ideal_finite, frame_ref, frame_ref_finite, trivial, value⟩

end Cert.Proof

end
